-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite [hPre_finite : Cert.Pre_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite [hPre_finite : Cert.Pre_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_FfnInKernel (m : (ℓ : Loc Cert.FfnInKernel.nD Cert.FfnInKernel.τ Cert.FfnInKernel.sig) → Buf (Elt Bits) ℓ) : Prop :=
  True

def Pre_FfnInKernelIdeal (m : (ℓ : Loc Cert.FfnInKernelIdeal.nD Cert.FfnInKernelIdeal.τ Cert.FfnInKernelIdeal.sig) → Buf (Elt Ideal) ℓ) : Prop :=
  True

def Pre_FfnInReferenceIdeal (m : (ℓ : Loc Cert.FfnInReferenceIdeal.nD Cert.FfnInReferenceIdeal.τ Cert.FfnInReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_TokKernel (m : (ℓ : Loc Cert.TokKernel.nD Cert.TokKernel.τ Cert.TokKernel.sig) → Buf (Elt Bits) ℓ) : Prop :=
  True

def Pre_TokKernelIdeal (m : (ℓ : Loc Cert.TokKernelIdeal.nD Cert.TokKernelIdeal.τ Cert.TokKernelIdeal.sig) → Buf (Elt Ideal) ℓ) : Prop :=
  True

def Pre_TokKernelIdeal_tokens_finite [hPre_tokens_finite : Cert.Pre_tokens_finite.Facts] (m : (ℓ : Loc Cert.TokKernelIdeal.nD Cert.TokKernelIdeal.τ Cert.TokKernelIdeal.sig) → Buf (Elt Ideal) ℓ) : Prop :=
  ∀ c : Dev Cert.TokKernelIdeal.nD,
    (Cert.Pre_tokens_finite.fn (F := Ideal) (m ((c.tc : Thread Cert.TokKernelIdeal.nD Cert.TokKernelIdeal.τ).loc Cert.TokKernelIdeal.main_arg0)) (m ((c.tc : Thread Cert.TokKernelIdeal.nD Cert.TokKernelIdeal.τ).loc Cert.TokKernelIdeal.main_arg1)) (m ((c.tc : Thread Cert.TokKernelIdeal.nD Cert.TokKernelIdeal.τ).loc Cert.TokKernelIdeal.main_arg2)) (m ((c.tc : Thread Cert.TokKernelIdeal.nD Cert.TokKernelIdeal.τ).loc Cert.TokKernelIdeal.main_arg3)) (m ((c.tc : Thread Cert.TokKernelIdeal.nD Cert.TokKernelIdeal.τ).loc Cert.TokKernelIdeal.main_arg4)) (m ((c.tc : Thread Cert.TokKernelIdeal.nD Cert.TokKernelIdeal.τ).loc Cert.TokKernelIdeal.main_arg5))) = (fun _ => 1#1)

def Pre_TokReferenceIdeal (m : (ℓ : Loc Cert.TokReferenceIdeal.nD Cert.TokReferenceIdeal.τ Cert.TokReferenceIdeal.sig) → Buf (Elt Ideal) ℓ) : Prop :=
  True

def Pre_TokReferenceIdeal_tokens_finite [hPre_tokens_finite : Cert.Pre_tokens_finite.Facts] (m : (ℓ : Loc Cert.TokReferenceIdeal.nD Cert.TokReferenceIdeal.τ Cert.TokReferenceIdeal.sig) → Buf (Elt Ideal) ℓ) : Prop :=
  ∀ c : Dev Cert.TokReferenceIdeal.nD,
    (Cert.Pre_tokens_finite.fn (F := Ideal) (m ((c.tc : Thread Cert.TokReferenceIdeal.nD Cert.TokReferenceIdeal.τ).loc Cert.TokReferenceIdeal.main_arg0)) (m ((c.tc : Thread Cert.TokReferenceIdeal.nD Cert.TokReferenceIdeal.τ).loc Cert.TokReferenceIdeal.main_arg1)) (m ((c.tc : Thread Cert.TokReferenceIdeal.nD Cert.TokReferenceIdeal.τ).loc Cert.TokReferenceIdeal.main_arg2)) (m ((c.tc : Thread Cert.TokReferenceIdeal.nD Cert.TokReferenceIdeal.τ).loc Cert.TokReferenceIdeal.main_arg3)) (m ((c.tc : Thread Cert.TokReferenceIdeal.nD Cert.TokReferenceIdeal.τ).loc Cert.TokReferenceIdeal.main_arg4)) (m ((c.tc : Thread Cert.TokReferenceIdeal.nD Cert.TokReferenceIdeal.τ).loc Cert.TokReferenceIdeal.main_arg5))) = (fun _ => 1#1)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_finite [hFfnKernelIdeal : Cert.FfnKernelIdeal.Facts] [hPre_finite : Cert.Pre_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_finite [hFfnReferenceIdeal : Cert.FfnReferenceIdeal.Facts] [hPre_finite : Cert.Pre_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_FfnInKernel [hFfnInKernel : Cert.FfnInKernel.Facts] : Prop :=
  ∀ (m : (ℓ : Loc Cert.FfnInKernel.nD Cert.FfnInKernel.τ Cert.FfnInKernel.sig) → Buf (Elt Bits) ℓ) (g : Dev Cert.FfnInKernel.nD → PrngReg), Pre_FfnInKernel m →
    θ_run (Cert.FfnInKernel.defs (F := Bits)) (onTc (τ := Cert.FfnInKernel.τ) (Cert.FfnInKernel.main (F := Bits))) ⟨m, fun _ => 0, g⟩ (fun r => (∀ c : Dev Cert.FfnInKernel.nD,
      r.2.mem ((c.tc : Thread Cert.FfnInKernel.nD Cert.FfnInKernel.τ).loc Cert.FfnInKernel.main_arg0) = m ((c.tc : Thread Cert.FfnInKernel.nD Cert.FfnInKernel.τ).loc Cert.FfnInKernel.main_arg0)
      ∧ r.2.mem ((c.tc : Thread Cert.FfnInKernel.nD Cert.FfnInKernel.τ).loc Cert.FfnInKernel.main_arg1) = m ((c.tc : Thread Cert.FfnInKernel.nD Cert.FfnInKernel.τ).loc Cert.FfnInKernel.main_arg1))
      ∧ r.2.sem = fun _ => 0)

def quiescent_FfnInKernelIdeal [hFfnInKernelIdeal : Cert.FfnInKernelIdeal.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg), Pre_FfnInKernelIdeal m →
    θ_run (Cert.FfnInKernelIdeal.defs (F := Ideal)) (onTc (τ := Cert.FfnInKernelIdeal.τ) (Cert.FfnInKernelIdeal.main (F := Ideal))) ⟨m, fun _ => 0, g⟩ (fun r => (∀ c : Dev Cert.FfnInKernelIdeal.nD,
      r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
      ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8)
      ∧ r.2.mem ((c.tc : Thread Cert.MixKernel.nD Cert.MixKernel.τ).loc Cert.MixKernel.main_arg9) = m ((c.tc : Thread Cert.MixKernel.nD Cert.MixKernel.τ).loc Cert.MixKernel.main_arg9)
      ∧ r.2.mem ((c.tc : Thread Cert.MixKernel.nD Cert.MixKernel.τ).loc Cert.MixKernel.main_arg10) = m ((c.tc : Thread Cert.MixKernel.nD Cert.MixKernel.τ).loc Cert.MixKernel.main_arg10)
      ∧ r.2.mem ((c.tc : Thread Cert.MixKernel.nD Cert.MixKernel.τ).loc Cert.MixKernel.main_arg11) = m ((c.tc : Thread Cert.MixKernel.nD Cert.MixKernel.τ).loc Cert.MixKernel.main_arg11))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
      ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
      ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
      ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def quiescent_TokKernel [hTokKernel : Cert.TokKernel.Facts] : Prop :=
  ∀ (m : (ℓ : Loc Cert.TokKernel.nD Cert.TokKernel.τ Cert.TokKernel.sig) → Buf (Elt Bits) ℓ) (g : Dev Cert.TokKernel.nD → PrngReg), Pre_TokKernel m →
    θ_run (Cert.TokKernel.defs (F := Bits)) (onTc (τ := Cert.TokKernel.τ) (Cert.TokKernel.main (F := Bits))) ⟨m, fun _ => 0, g⟩ (fun r => (∀ c : Dev Cert.TokKernel.nD,
      r.2.mem ((c.tc : Thread Cert.TokKernel.nD Cert.TokKernel.τ).loc Cert.TokKernel.main_arg0) = m ((c.tc : Thread Cert.TokKernel.nD Cert.TokKernel.τ).loc Cert.TokKernel.main_arg0)
      ∧ r.2.mem ((c.tc : Thread Cert.TokKernel.nD Cert.TokKernel.τ).loc Cert.TokKernel.main_arg1) = m ((c.tc : Thread Cert.TokKernel.nD Cert.TokKernel.τ).loc Cert.TokKernel.main_arg1)
      ∧ r.2.mem ((c.tc : Thread Cert.TokKernel.nD Cert.TokKernel.τ).loc Cert.TokKernel.main_arg2) = m ((c.tc : Thread Cert.TokKernel.nD Cert.TokKernel.τ).loc Cert.TokKernel.main_arg2)
      ∧ r.2.mem ((c.tc : Thread Cert.TokKernel.nD Cert.TokKernel.τ).loc Cert.TokKernel.main_arg3) = m ((c.tc : Thread Cert.TokKernel.nD Cert.TokKernel.τ).loc Cert.TokKernel.main_arg3)
      ∧ r.2.mem ((c.tc : Thread Cert.TokKernel.nD Cert.TokKernel.τ).loc Cert.TokKernel.main_arg4) = m ((c.tc : Thread Cert.TokKernel.nD Cert.TokKernel.τ).loc Cert.TokKernel.main_arg4)
      ∧ r.2.mem ((c.tc : Thread Cert.TokKernel.nD Cert.TokKernel.τ).loc Cert.TokKernel.main_arg5) = m ((c.tc : Thread Cert.TokKernel.nD Cert.TokKernel.τ).loc Cert.TokKernel.main_arg5))
      ∧ r.2.sem = fun _ => 0)

def quiescent_TokKernelIdeal [hTokKernelIdeal : Cert.TokKernelIdeal.Facts] : Prop :=
  ∀ (m : (ℓ : Loc Cert.TokKernelIdeal.nD Cert.TokKernelIdeal.τ Cert.TokKernelIdeal.sig) → Buf (Elt Ideal) ℓ) (g : Dev Cert.TokKernelIdeal.nD → PrngReg), Pre_TokKernelIdeal m →
    θ_run (Cert.TokKernelIdeal.defs (F := Ideal)) (onTc (τ := Cert.TokKernelIdeal.τ) (Cert.TokKernelIdeal.main (F := Ideal))) ⟨m, fun _ => 0, g⟩ (fun r => (∀ c : Dev Cert.TokKernelIdeal.nD,
      r.2.mem ((c.tc : Thread Cert.TokKernelIdeal.nD Cert.TokKernelIdeal.τ).loc Cert.TokKernelIdeal.main_arg0) = m ((c.tc : Thread Cert.TokKernelIdeal.nD Cert.TokKernelIdeal.τ).loc Cert.TokKernelIdeal.main_arg0)
      ∧ r.2.mem ((c.tc : Thread Cert.TokKernelIdeal.nD Cert.TokKernelIdeal.τ).loc Cert.TokKernelIdeal.main_arg1) = m ((c.tc : Thread Cert.TokKernelIdeal.nD Cert.TokKernelIdeal.τ).loc Cert.TokKernelIdeal.main_arg1)
      ∧ r.2.mem ((c.tc : Thread Cert.TokKernelIdeal.nD Cert.TokKernelIdeal.τ).loc Cert.TokKernelIdeal.main_arg2) = m ((c.tc : Thread Cert.TokKernelIdeal.nD Cert.TokKernelIdeal.τ).loc Cert.TokKernelIdeal.main_arg2)
      ∧ r.2.mem ((c.tc : Thread Cert.TokKernelIdeal.nD Cert.TokKernelIdeal.τ).loc Cert.TokKernelIdeal.main_arg3) = m ((c.tc : Thread Cert.TokKernelIdeal.nD Cert.TokKernelIdeal.τ).loc Cert.TokKernelIdeal.main_arg3)
      ∧ r.2.mem ((c.tc : Thread Cert.TokKernelIdeal.nD Cert.TokKernelIdeal.τ).loc Cert.TokKernelIdeal.main_arg4) = m ((c.tc : Thread Cert.TokKernelIdeal.nD Cert.TokKernelIdeal.τ).loc Cert.TokKernelIdeal.main_arg4)
      ∧ r.2.mem ((c.tc : Thread Cert.TokKernelIdeal.nD Cert.TokKernelIdeal.τ).loc Cert.TokKernelIdeal.main_arg5) = m ((c.tc : Thread Cert.TokKernelIdeal.nD Cert.TokKernelIdeal.τ).loc Cert.TokKernelIdeal.main_arg5))
      ∧ r.2.sem = fun _ => 0)

def quiescent_TokKernelIdeal_pre_tokens_finite [hTokKernelIdeal : Cert.TokKernelIdeal.Facts] [hPre_tokens_finite : Cert.Pre_tokens_finite.Facts] : Prop :=
  ∀ (m : (ℓ : Loc Cert.TokKernelIdeal.nD Cert.TokKernelIdeal.τ Cert.TokKernelIdeal.sig) → Buf (Elt Ideal) ℓ) (g : Dev Cert.TokKernelIdeal.nD → PrngReg), Pre_TokKernelIdeal_tokens_finite m →
    θ_run (Cert.TokKernelIdeal.defs (F := Ideal)) (onTc (τ := Cert.TokKernelIdeal.τ) (Cert.TokKernelIdeal.main (F := Ideal))) ⟨m, fun _ => 0, g⟩ (fun r => (∀ c : Dev Cert.TokKernelIdeal.nD,
      r.2.mem ((c.tc : Thread Cert.TokKernelIdeal.nD Cert.TokKernelIdeal.τ).loc Cert.TokKernelIdeal.main_arg0) = m ((c.tc : Thread Cert.TokKernelIdeal.nD Cert.TokKernelIdeal.τ).loc Cert.TokKernelIdeal.main_arg0)
      ∧ r.2.mem ((c.tc : Thread Cert.TokKernelIdeal.nD Cert.TokKernelIdeal.τ).loc Cert.TokKernelIdeal.main_arg1) = m ((c.tc : Thread Cert.TokKernelIdeal.nD Cert.TokKernelIdeal.τ).loc Cert.TokKernelIdeal.main_arg1)
      ∧ r.2.mem ((c.tc : Thread Cert.TokKernelIdeal.nD Cert.TokKernelIdeal.τ).loc Cert.TokKernelIdeal.main_arg2) = m ((c.tc : Thread Cert.TokKernelIdeal.nD Cert.TokKernelIdeal.τ).loc Cert.TokKernelIdeal.main_arg2)
      ∧ r.2.mem ((c.tc : Thread Cert.TokKernelIdeal.nD Cert.TokKernelIdeal.τ).loc Cert.TokKernelIdeal.main_arg3) = m ((c.tc : Thread Cert.TokKernelIdeal.nD Cert.TokKernelIdeal.τ).loc Cert.TokKernelIdeal.main_arg3)
      ∧ r.2.mem ((c.tc : Thread Cert.TokKernelIdeal.nD Cert.TokKernelIdeal.τ).loc Cert.TokKernelIdeal.main_arg4) = m ((c.tc : Thread Cert.TokKernelIdeal.nD Cert.TokKernelIdeal.τ).loc Cert.TokKernelIdeal.main_arg4)
      ∧ r.2.mem ((c.tc : Thread Cert.TokKernelIdeal.nD Cert.TokKernelIdeal.τ).loc Cert.TokKernelIdeal.main_arg5) = m ((c.tc : Thread Cert.TokKernelIdeal.nD Cert.TokKernelIdeal.τ).loc Cert.TokKernelIdeal.main_arg5))
      ∧ r.2.sem = fun _ => 0)

def quiescent_TokReferenceIdeal [hTokReferenceIdeal : Cert.TokReferenceIdeal.Facts] : Prop :=
  ∀ (m : (ℓ : Loc Cert.TokReferenceIdeal.nD Cert.TokReferenceIdeal.τ Cert.TokReferenceIdeal.sig) → Buf (Elt Ideal) ℓ) (g : Dev Cert.TokReferenceIdeal.nD → PrngReg), Pre_TokReferenceIdeal m →
    θ_run (Cert.TokReferenceIdeal.defs (F := Ideal)) (onTc (τ := Cert.TokReferenceIdeal.τ) (Cert.TokReferenceIdeal.main (F := Ideal))) ⟨m, fun _ => 0, g⟩ (fun r => (∀ c : Dev Cert.TokReferenceIdeal.nD,
      r.2.mem ((c.tc : Thread Cert.TokReferenceIdeal.nD Cert.TokReferenceIdeal.τ).loc Cert.TokReferenceIdeal.main_arg0) = m ((c.tc : Thread Cert.TokReferenceIdeal.nD Cert.TokReferenceIdeal.τ).loc Cert.TokReferenceIdeal.main_arg0)
      ∧ r.2.mem ((c.tc : Thread Cert.TokReferenceIdeal.nD Cert.TokReferenceIdeal.τ).loc Cert.TokReferenceIdeal.main_arg1) = m ((c.tc : Thread Cert.TokReferenceIdeal.nD Cert.TokReferenceIdeal.τ).loc Cert.TokReferenceIdeal.main_arg1)
      ∧ r.2.mem ((c.tc : Thread Cert.TokReferenceIdeal.nD Cert.TokReferenceIdeal.τ).loc Cert.TokReferenceIdeal.main_arg2) = m ((c.tc : Thread Cert.TokReferenceIdeal.nD Cert.TokReferenceIdeal.τ).loc Cert.TokReferenceIdeal.main_arg2)
      ∧ r.2.mem ((c.tc : Thread Cert.TokReferenceIdeal.nD Cert.TokReferenceIdeal.τ).loc Cert.TokReferenceIdeal.main_arg3) = m ((c.tc : Thread Cert.TokReferenceIdeal.nD Cert.TokReferenceIdeal.τ).loc Cert.TokReferenceIdeal.main_arg3)
      ∧ r.2.mem ((c.tc : Thread Cert.TokReferenceIdeal.nD Cert.TokReferenceIdeal.τ).loc Cert.TokReferenceIdeal.main_arg4) = m ((c.tc : Thread Cert.TokReferenceIdeal.nD Cert.TokReferenceIdeal.τ).loc Cert.TokReferenceIdeal.main_arg4)
      ∧ r.2.mem ((c.tc : Thread Cert.TokReferenceIdeal.nD Cert.TokReferenceIdeal.τ).loc Cert.TokReferenceIdeal.main_arg5) = m ((c.tc : Thread Cert.TokReferenceIdeal.nD Cert.TokReferenceIdeal.τ).loc Cert.TokReferenceIdeal.main_arg5))
      ∧ r.2.sem = fun _ => 0)

def quiescent_TokReferenceIdeal_pre_tokens_finite [hTokReferenceIdeal : Cert.TokReferenceIdeal.Facts] [hPre_tokens_finite : Cert.Pre_tokens_finite.Facts] : Prop :=
  ∀ (m : (ℓ : Loc Cert.TokReferenceIdeal.nD Cert.TokReferenceIdeal.τ Cert.TokReferenceIdeal.sig) → Buf (Elt Ideal) ℓ) (g : Dev Cert.TokReferenceIdeal.nD → PrngReg), Pre_TokReferenceIdeal_tokens_finite m →
    θ_run (Cert.TokReferenceIdeal.defs (F := Ideal)) (onTc (τ := Cert.TokReferenceIdeal.τ) (Cert.TokReferenceIdeal.main (F := Ideal))) ⟨m, fun _ => 0, g⟩ (fun r => (∀ c : Dev Cert.TokReferenceIdeal.nD,
      r.2.mem ((c.tc : Thread Cert.TokReferenceIdeal.nD Cert.TokReferenceIdeal.τ).loc Cert.TokReferenceIdeal.main_arg0) = m ((c.tc : Thread Cert.TokReferenceIdeal.nD Cert.TokReferenceIdeal.τ).loc Cert.TokReferenceIdeal.main_arg0)
      ∧ r.2.mem ((c.tc : Thread Cert.TokReferenceIdeal.nD Cert.TokReferenceIdeal.τ).loc Cert.TokReferenceIdeal.main_arg1) = m ((c.tc : Thread Cert.TokReferenceIdeal.nD Cert.TokReferenceIdeal.τ).loc Cert.TokReferenceIdeal.main_arg1)
      ∧ r.2.mem ((c.tc : Thread Cert.TokReferenceIdeal.nD Cert.TokReferenceIdeal.τ).loc Cert.TokReferenceIdeal.main_arg2) = m ((c.tc : Thread Cert.TokReferenceIdeal.nD Cert.TokReferenceIdeal.τ).loc Cert.TokReferenceIdeal.main_arg2)
      ∧ r.2.mem ((c.tc : Thread Cert.TokReferenceIdeal.nD Cert.TokReferenceIdeal.τ).loc Cert.TokReferenceIdeal.main_arg3) = m ((c.tc : Thread Cert.TokReferenceIdeal.nD Cert.TokReferenceIdeal.τ).loc Cert.TokReferenceIdeal.main_arg3)
      ∧ r.2.mem ((c.tc : Thread Cert.TokReferenceIdeal.nD Cert.TokReferenceIdeal.τ).loc Cert.TokReferenceIdeal.main_arg4) = m ((c.tc : Thread Cert.TokReferenceIdeal.nD Cert.TokReferenceIdeal.τ).loc Cert.TokReferenceIdeal.main_arg4)
      ∧ r.2.mem ((c.tc : Thread Cert.TokReferenceIdeal.nD Cert.TokReferenceIdeal.τ).loc Cert.TokReferenceIdeal.main_arg5) = m ((c.tc : Thread Cert.TokReferenceIdeal.nD Cert.TokReferenceIdeal.τ).loc Cert.TokReferenceIdeal.main_arg5))
      ∧ r.2.sem = fun _ => 0)

def preserves_FfnKernel_FfnKernelIdeal : Prop :=
  True

def algebraic_FfnKernelIdeal_FfnReferenceIdeal_pre_finite [hFfnKernelIdeal : Cert.FfnKernelIdeal.Facts] [hFfnReferenceIdeal : Cert.FfnReferenceIdeal.Facts] [hPre_finite : Cert.Pre_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v3_0)) (v1 : (c : Dev Cert.FfnKernelIdeal.nD) → Buf (Elt Ideal) ((c.tc : Thread Cert.FfnKernelIdeal.nD Cert.FfnKernelIdeal.τ).loc Cert.FfnKernelIdeal.main_v3_1)) (v2 : (c : Dev Cert.FfnKernelIdeal.nD) → Buf (Elt Ideal) ((c.tc : Thread Cert.FfnKernelIdeal.nD Cert.FfnKernelIdeal.τ).loc Cert.FfnKernelIdeal.main_v3_2)) (v3 : (c : Dev Cert.FfnKernelIdeal.nD) → Buf (Elt Ideal) ((c.tc : Thread Cert.FfnKernelIdeal.nD Cert.FfnKernelIdeal.τ).loc Cert.FfnKernelIdeal.main_v3_3)) (v4 : (c : Dev Cert.FfnKernelIdeal.nD) → Buf (Elt Ideal) ((c.tc : Thread Cert.FfnKernelIdeal.nD Cert.FfnKernelIdeal.τ).loc Cert.FfnKernelIdeal.main_v3_4)) (v5 : (c : Dev Cert.FfnKernelIdeal.nD) → Buf (Elt Ideal) ((c.tc : Thread Cert.FfnKernelIdeal.nD Cert.FfnKernelIdeal.τ).loc Cert.FfnKernelIdeal.main_v3_5)) (v6 : (c : Dev Cert.FfnKernelIdeal.nD) → Buf (Elt Ideal) ((c.tc : Thread Cert.FfnKernelIdeal.nD Cert.FfnKernelIdeal.τ).loc Cert.FfnKernelIdeal.main_v3_6)) (v7 : (c : Dev Cert.FfnKernelIdeal.nD) → Buf (Elt Ideal) ((c.tc : Thread Cert.FfnKernelIdeal.nD Cert.FfnKernelIdeal.τ).loc Cert.FfnKernelIdeal.main_v3_7)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v3_0) = v0 c
          ∧ r.2.mem ((c.tc : Thread Cert.FfnKernelIdeal.nD Cert.FfnKernelIdeal.τ).loc Cert.FfnKernelIdeal.main_v3_1) = v1 c
          ∧ r.2.mem ((c.tc : Thread Cert.FfnKernelIdeal.nD Cert.FfnKernelIdeal.τ).loc Cert.FfnKernelIdeal.main_v3_2) = v2 c
          ∧ r.2.mem ((c.tc : Thread Cert.FfnKernelIdeal.nD Cert.FfnKernelIdeal.τ).loc Cert.FfnKernelIdeal.main_v3_3) = v3 c
          ∧ r.2.mem ((c.tc : Thread Cert.FfnKernelIdeal.nD Cert.FfnKernelIdeal.τ).loc Cert.FfnKernelIdeal.main_v3_4) = v4 c
          ∧ r.2.mem ((c.tc : Thread Cert.FfnKernelIdeal.nD Cert.FfnKernelIdeal.τ).loc Cert.FfnKernelIdeal.main_v3_5) = v5 c
          ∧ r.2.mem ((c.tc : Thread Cert.FfnKernelIdeal.nD Cert.FfnKernelIdeal.τ).loc Cert.FfnKernelIdeal.main_v3_6) = v6 c
          ∧ r.2.mem ((c.tc : Thread Cert.FfnKernelIdeal.nD Cert.FfnKernelIdeal.τ).loc Cert.FfnKernelIdeal.main_v3_7) = v7 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v102) = v0 c
          ∧ r.2.mem ((c.tc : Thread Cert.FfnReferenceIdeal.nD Cert.FfnReferenceIdeal.τ).loc Cert.FfnReferenceIdeal.main_v103) = v1 c
          ∧ r.2.mem ((c.tc : Thread Cert.FfnReferenceIdeal.nD Cert.FfnReferenceIdeal.τ).loc Cert.FfnReferenceIdeal.main_v105) = v2 c
          ∧ r.2.mem ((c.tc : Thread Cert.FfnReferenceIdeal.nD Cert.FfnReferenceIdeal.τ).loc Cert.FfnReferenceIdeal.main_v106) = v3 c
          ∧ r.2.mem ((c.tc : Thread Cert.FfnReferenceIdeal.nD Cert.FfnReferenceIdeal.τ).loc Cert.FfnReferenceIdeal.main_v108) = v4 c
          ∧ r.2.mem ((c.tc : Thread Cert.FfnReferenceIdeal.nD Cert.FfnReferenceIdeal.τ).loc Cert.FfnReferenceIdeal.main_v109) = v5 c
          ∧ r.2.mem ((c.tc : Thread Cert.FfnReferenceIdeal.nD Cert.FfnReferenceIdeal.τ).loc Cert.FfnReferenceIdeal.main_v54) = v6 c
          ∧ r.2.mem ((c.tc : Thread Cert.FfnReferenceIdeal.nD Cert.FfnReferenceIdeal.τ).loc Cert.FfnReferenceIdeal.main_v85) = v7 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v7) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_FfnInKernel_FfnInKernelIdeal : Prop :=
  True

def algebraic_FfnInKernelIdeal_FfnInReferenceIdeal [hFfnInKernelIdeal : Cert.FfnInKernelIdeal.Facts] [hFfnInReferenceIdeal : Cert.FfnInReferenceIdeal.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInKernelIdeal m →
    (∀ c : Dev Cert.FfnInKernelIdeal.nD,
      m' ((c.tc : Thread Cert.FfnInReferenceIdeal.nD Cert.FfnInReferenceIdeal.τ).loc Cert.FfnInReferenceIdeal.main_arg0) = m ((c.tc : Thread Cert.FfnInKernelIdeal.nD Cert.FfnInKernelIdeal.τ).loc Cert.FfnInKernelIdeal.main_arg0)
      ∧ m' ((c.tc : Thread Cert.FfnInReferenceIdeal.nD Cert.FfnInReferenceIdeal.τ).loc Cert.FfnInReferenceIdeal.main_arg1) = m ((c.tc : Thread Cert.FfnInKernelIdeal.nD Cert.FfnInKernelIdeal.τ).loc Cert.FfnInKernelIdeal.main_arg1)) →
    ∃ (v0 : (c : Dev Cert.FfnInKernelIdeal.nD) → Buf (Elt Ideal) ((c.tc : Thread Cert.FfnInKernelIdeal.nD Cert.FfnInKernelIdeal.τ).loc Cert.FfnInKernelIdeal.main_v0)),
      θ_run (Cert.FfnInKernelIdeal.defs (F := Ideal)) (onTc (τ := Cert.FfnInKernelIdeal.τ) (Cert.FfnInKernelIdeal.main (F := Ideal))) ⟨m, fun _ => 0, g⟩ (fun r => ∀ c : Dev Cert.FfnInKernelIdeal.nD,
          r.2.mem ((c.tc : Thread Cert.FfnInKernelIdeal.nD Cert.FfnInKernelIdeal.τ).loc Cert.FfnInKernelIdeal.main_v0) = v0 c
          ∧ r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
          ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v8) = v0 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)) →
    ∃ (v0 : (c : Dev Cert.OutKernelIdeal.nD) → Buf (Elt Ideal) ((c.tc : Thread Cert.OutKernelIdeal.nD Cert.OutKernelIdeal.τ).loc Cert.OutKernelIdeal.main_v0)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v7) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)) →
    ∃ (v0 : (c : Dev Cert.InKernelIdeal.nD) → Buf (Elt Ideal) ((c.tc : Thread Cert.InKernelIdeal.nD Cert.InKernelIdeal.τ).loc Cert.InKernelIdeal.main_v0)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v8) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)
      ∧ m' ((c.tc : Thread Cert.MixReferenceIdeal.nD Cert.MixReferenceIdeal.τ).loc Cert.MixReferenceIdeal.main_arg9) = m ((c.tc : Thread Cert.MixKernelIdeal.nD Cert.MixKernelIdeal.τ).loc Cert.MixKernelIdeal.main_arg9)
      ∧ m' ((c.tc : Thread Cert.MixReferenceIdeal.nD Cert.MixReferenceIdeal.τ).loc Cert.MixReferenceIdeal.main_arg10) = m ((c.tc : Thread Cert.MixKernelIdeal.nD Cert.MixKernelIdeal.τ).loc Cert.MixKernelIdeal.main_arg10)
      ∧ m' ((c.tc : Thread Cert.MixReferenceIdeal.nD Cert.MixReferenceIdeal.τ).loc Cert.MixReferenceIdeal.main_arg11) = m ((c.tc : Thread Cert.MixKernelIdeal.nD Cert.MixKernelIdeal.τ).loc Cert.MixKernelIdeal.main_arg11)) →
    ∃ (v0 : (c : Dev Cert.MixKernelIdeal.nD) → Buf (Elt Ideal) ((c.tc : Thread Cert.MixKernelIdeal.nD Cert.MixKernelIdeal.τ).loc Cert.MixKernelIdeal.main_v20_0)) (v1 : (c : Dev Cert.MixKernelIdeal.nD) → Buf (Elt Ideal) ((c.tc : Thread Cert.MixKernelIdeal.nD Cert.MixKernelIdeal.τ).loc Cert.MixKernelIdeal.main_v20_1)) (v2 : (c : Dev Cert.MixKernelIdeal.nD) → Buf (Elt Ideal) ((c.tc : Thread Cert.MixKernelIdeal.nD Cert.MixKernelIdeal.τ).loc Cert.MixKernelIdeal.main_v20_2)) (v3 : (c : Dev Cert.MixKernelIdeal.nD) → Buf (Elt Ideal) ((c.tc : Thread Cert.MixKernelIdeal.nD Cert.MixKernelIdeal.τ).loc Cert.MixKernelIdeal.main_v20_3)) (v4 : (c : Dev Cert.MixKernelIdeal.nD) → Buf (Elt Ideal) ((c.tc : Thread Cert.MixKernelIdeal.nD Cert.MixKernelIdeal.τ).loc Cert.MixKernelIdeal.main_v20_4)) (v5 : (c : Dev Cert.MixKernelIdeal.nD) → Buf (Elt Ideal) ((c.tc : Thread Cert.MixKernelIdeal.nD Cert.MixKernelIdeal.τ).loc Cert.MixKernelIdeal.main_v20_5)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v20_0) = v0 c
          ∧ r.2.mem ((c.tc : Thread Cert.MixKernelIdeal.nD Cert.MixKernelIdeal.τ).loc Cert.MixKernelIdeal.main_v20_1) = v1 c
          ∧ r.2.mem ((c.tc : Thread Cert.MixKernelIdeal.nD Cert.MixKernelIdeal.τ).loc Cert.MixKernelIdeal.main_v20_2) = v2 c
          ∧ r.2.mem ((c.tc : Thread Cert.MixKernelIdeal.nD Cert.MixKernelIdeal.τ).loc Cert.MixKernelIdeal.main_v20_3) = v3 c
          ∧ r.2.mem ((c.tc : Thread Cert.MixKernelIdeal.nD Cert.MixKernelIdeal.τ).loc Cert.MixKernelIdeal.main_v20_4) = v4 c
          ∧ r.2.mem ((c.tc : Thread Cert.MixKernelIdeal.nD Cert.MixKernelIdeal.τ).loc Cert.MixKernelIdeal.main_v20_5) = v5 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8)
          ∧ r.2.mem ((c.tc : Thread Cert.MixKernelIdeal.nD Cert.MixKernelIdeal.τ).loc Cert.MixKernelIdeal.main_arg9) = m ((c.tc : Thread Cert.MixKernelIdeal.nD Cert.MixKernelIdeal.τ).loc Cert.MixKernelIdeal.main_arg9)
          ∧ r.2.mem ((c.tc : Thread Cert.MixKernelIdeal.nD Cert.MixKernelIdeal.τ).loc Cert.MixKernelIdeal.main_arg10) = m ((c.tc : Thread Cert.MixKernelIdeal.nD Cert.MixKernelIdeal.τ).loc Cert.MixKernelIdeal.main_arg10)
          ∧ r.2.mem ((c.tc : Thread Cert.MixKernelIdeal.nD Cert.MixKernelIdeal.τ).loc Cert.MixKernelIdeal.main_arg11) = m ((c.tc : Thread Cert.MixKernelIdeal.nD Cert.MixKernelIdeal.τ).loc Cert.MixKernelIdeal.main_arg11))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v83) = v0 c
          ∧ r.2.mem ((c.tc : Thread Cert.MixReferenceIdeal.nD Cert.MixReferenceIdeal.τ).loc Cert.MixReferenceIdeal.main_v84) = v1 c
          ∧ r.2.mem ((c.tc : Thread Cert.MixReferenceIdeal.nD Cert.MixReferenceIdeal.τ).loc Cert.MixReferenceIdeal.main_v85) = v2 c
          ∧ r.2.mem ((c.tc : Thread Cert.MixReferenceIdeal.nD Cert.MixReferenceIdeal.τ).loc Cert.MixReferenceIdeal.main_v87) = v3 c
          ∧ r.2.mem ((c.tc : Thread Cert.MixReferenceIdeal.nD Cert.MixReferenceIdeal.τ).loc Cert.MixReferenceIdeal.main_v68) = v4 c
          ∧ r.2.mem ((c.tc : Thread Cert.MixReferenceIdeal.nD Cert.MixReferenceIdeal.τ).loc Cert.MixReferenceIdeal.main_v81) = v5 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11))

def preserves_TokKernel_TokKernelIdeal : Prop :=
  True

def algebraic_TokKernelIdeal_TokReferenceIdeal_pre_tokens_finite [hTokKernelIdeal : Cert.TokKernelIdeal.Facts] [hTokReferenceIdeal : Cert.TokReferenceIdeal.Facts] [hPre_tokens_finite : Cert.Pre_tokens_finite.Facts] : Prop :=
  ∀ (m : (ℓ : Loc Cert.TokKernelIdeal.nD Cert.TokKernelIdeal.τ Cert.TokKernelIdeal.sig) → Buf (Elt Ideal) ℓ) (g : Dev Cert.TokKernelIdeal.nD → PrngReg)
    (m' : (ℓ : Loc Cert.TokReferenceIdeal.nD Cert.TokReferenceIdeal.τ Cert.TokReferenceIdeal.sig) → Buf (Elt Ideal) ℓ) (g' : Dev Cert.TokReferenceIdeal.nD → PrngReg), Pre_TokKernelIdeal_tokens_finite m →
    (∀ c : Dev Cert.TokKernelIdeal.nD,
      m' ((c.tc : Thread Cert.TokReferenceIdeal.nD Cert.TokReferenceIdeal.τ).loc Cert.TokReferenceIdeal.main_arg0) = m ((c.tc : Thread Cert.TokKernelIdeal.nD Cert.TokKernelIdeal.τ).loc Cert.TokKernelIdeal.main_arg0)
      ∧ m' ((c.tc : Thread Cert.TokReferenceIdeal.nD Cert.TokReferenceIdeal.τ).loc Cert.TokReferenceIdeal.main_arg1) = m ((c.tc : Thread Cert.TokKernelIdeal.nD Cert.TokKernelIdeal.τ).loc Cert.TokKernelIdeal.main_arg1)
      ∧ m' ((c.tc : Thread Cert.TokReferenceIdeal.nD Cert.TokReferenceIdeal.τ).loc Cert.TokReferenceIdeal.main_arg2) = m ((c.tc : Thread Cert.TokKernelIdeal.nD Cert.TokKernelIdeal.τ).loc Cert.TokKernelIdeal.main_arg2)
      ∧ m' ((c.tc : Thread Cert.TokReferenceIdeal.nD Cert.TokReferenceIdeal.τ).loc Cert.TokReferenceIdeal.main_arg3) = m ((c.tc : Thread Cert.TokKernelIdeal.nD Cert.TokKernelIdeal.τ).loc Cert.TokKernelIdeal.main_arg3)
      ∧ m' ((c.tc : Thread Cert.TokReferenceIdeal.nD Cert.TokReferenceIdeal.τ).loc Cert.TokReferenceIdeal.main_arg4) = m ((c.tc : Thread Cert.TokKernelIdeal.nD Cert.TokKernelIdeal.τ).loc Cert.TokKernelIdeal.main_arg4)
      ∧ m' ((c.tc : Thread Cert.TokReferenceIdeal.nD Cert.TokReferenceIdeal.τ).loc Cert.TokReferenceIdeal.main_arg5) = m ((c.tc : Thread Cert.TokKernelIdeal.nD Cert.TokKernelIdeal.τ).loc Cert.TokKernelIdeal.main_arg5)) →
    ∃ (v0 : (c : Dev Cert.TokKernelIdeal.nD) → Buf (Elt Ideal) ((c.tc : Thread Cert.TokKernelIdeal.nD Cert.TokKernelIdeal.τ).loc Cert.TokKernelIdeal.main_v135_0)) (v1 : (c : Dev Cert.TokKernelIdeal.nD) → Buf (Elt Ideal) ((c.tc : Thread Cert.TokKernelIdeal.nD Cert.TokKernelIdeal.τ).loc Cert.TokKernelIdeal.main_v135_1)) (v2 : (c : Dev Cert.TokKernelIdeal.nD) → Buf (Elt Ideal) ((c.tc : Thread Cert.TokKernelIdeal.nD Cert.TokKernelIdeal.τ).loc Cert.TokKernelIdeal.main_v135_2)) (v3 : (c : Dev Cert.TokKernelIdeal.nD) → Buf (Elt Ideal) ((c.tc : Thread Cert.TokKernelIdeal.nD Cert.TokKernelIdeal.τ).loc Cert.TokKernelIdeal.main_v135_3)) (v4 : (c : Dev Cert.TokKernelIdeal.nD) → Buf (Elt Ideal) ((c.tc : Thread Cert.TokKernelIdeal.nD Cert.TokKernelIdeal.τ).loc Cert.TokKernelIdeal.main_v135_4)) (v5 : (c : Dev Cert.TokKernelIdeal.nD) → Buf (Elt Ideal) ((c.tc : Thread Cert.TokKernelIdeal.nD Cert.TokKernelIdeal.τ).loc Cert.TokKernelIdeal.main_v135_5)) (v6 : (c : Dev Cert.TokKernelIdeal.nD) → Buf (Elt Ideal) ((c.tc : Thread Cert.TokKernelIdeal.nD Cert.TokKernelIdeal.τ).loc Cert.TokKernelIdeal.main_v135_6)) (v7 : (c : Dev Cert.TokKernelIdeal.nD) → Buf (Elt Ideal) ((c.tc : Thread Cert.TokKernelIdeal.nD Cert.TokKernelIdeal.τ).loc Cert.TokKernelIdeal.main_v135_7)) (v8 : (c : Dev Cert.TokKernelIdeal.nD) → Buf (Elt Ideal) ((c.tc : Thread Cert.TokKernelIdeal.nD Cert.TokKernelIdeal.τ).loc Cert.TokKernelIdeal.main_v135_8)) (v9 : (c : Dev Cert.TokKernelIdeal.nD) → Buf (Elt Ideal) ((c.tc : Thread Cert.TokKernelIdeal.nD Cert.TokKernelIdeal.τ).loc Cert.TokKernelIdeal.main_v135_9)) (v10 : (c : Dev Cert.TokKernelIdeal.nD) → Buf (Elt Ideal) ((c.tc : Thread Cert.TokKernelIdeal.nD Cert.TokKernelIdeal.τ).loc Cert.TokKernelIdeal.main_v135_10)),
      θ_run (Cert.TokKernelIdeal.defs (F := Ideal)) (onTc (τ := Cert.TokKernelIdeal.τ) (Cert.TokKernelIdeal.main (F := Ideal))) ⟨m, fun _ => 0, g⟩ (fun r => ∀ c : Dev Cert.TokKernelIdeal.nD,
          r.2.mem ((c.tc : Thread Cert.TokKernelIdeal.nD Cert.TokKernelIdeal.τ).loc Cert.TokKernelIdeal.main_v135_0) = v0 c
          ∧ r.2.mem ((c.tc : Thread Cert.TokKernelIdeal.nD Cert.TokKernelIdeal.τ).loc Cert.TokKernelIdeal.main_v135_1) = v1 c
          ∧ r.2.mem ((c.tc : Thread Cert.TokKernelIdeal.nD Cert.TokKernelIdeal.τ).loc Cert.TokKernelIdeal.main_v135_2) = v2 c
          ∧ r.2.mem ((c.tc : Thread Cert.TokKernelIdeal.nD Cert.TokKernelIdeal.τ).loc Cert.TokKernelIdeal.main_v135_3) = v3 c
          ∧ r.2.mem ((c.tc : Thread Cert.TokKernelIdeal.nD Cert.TokKernelIdeal.τ).loc Cert.TokKernelIdeal.main_v135_4) = v4 c
          ∧ r.2.mem ((c.tc : Thread Cert.TokKernelIdeal.nD Cert.TokKernelIdeal.τ).loc Cert.TokKernelIdeal.main_v135_5) = v5 c
          ∧ r.2.mem ((c.tc : Thread Cert.TokKernelIdeal.nD Cert.TokKernelIdeal.τ).loc Cert.TokKernelIdeal.main_v135_6) = v6 c
          ∧ r.2.mem ((c.tc : Thread Cert.TokKernelIdeal.nD Cert.TokKernelIdeal.τ).loc Cert.TokKernelIdeal.main_v135_7) = v7 c
          ∧ r.2.mem ((c.tc : Thread Cert.TokKernelIdeal.nD Cert.TokKernelIdeal.τ).loc Cert.TokKernelIdeal.main_v135_8) = v8 c
          ∧ r.2.mem ((c.tc : Thread Cert.TokKernelIdeal.nD Cert.TokKernelIdeal.τ).loc Cert.TokKernelIdeal.main_v135_9) = v9 c
          ∧ r.2.mem ((c.tc : Thread Cert.TokKernelIdeal.nD Cert.TokKernelIdeal.τ).loc Cert.TokKernelIdeal.main_v135_10) = v10 c
          ∧ r.2.mem ((c.tc : Thread Cert.TokKernelIdeal.nD Cert.TokKernelIdeal.τ).loc Cert.TokKernelIdeal.main_arg0) = m ((c.tc : Thread Cert.TokKernelIdeal.nD Cert.TokKernelIdeal.τ).loc Cert.TokKernelIdeal.main_arg0)
          ∧ r.2.mem ((c.tc : Thread Cert.TokKernelIdeal.nD Cert.TokKernelIdeal.τ).loc Cert.TokKernelIdeal.main_arg1) = m ((c.tc : Thread Cert.TokKernelIdeal.nD Cert.TokKernelIdeal.τ).loc Cert.TokKernelIdeal.main_arg1)
          ∧ r.2.mem ((c.tc : Thread Cert.TokKernelIdeal.nD Cert.TokKernelIdeal.τ).loc Cert.TokKernelIdeal.main_arg2) = m ((c.tc : Thread Cert.TokKernelIdeal.nD Cert.TokKernelIdeal.τ).loc Cert.TokKernelIdeal.main_arg2)
          ∧ r.2.mem ((c.tc : Thread Cert.TokKernelIdeal.nD Cert.TokKernelIdeal.τ).loc Cert.TokKernelIdeal.main_arg3) = m ((c.tc : Thread Cert.TokKernelIdeal.nD Cert.TokKernelIdeal.τ).loc Cert.TokKernelIdeal.main_arg3)
          ∧ r.2.mem ((c.tc : Thread Cert.TokKernelIdeal.nD Cert.TokKernelIdeal.τ).loc Cert.TokKernelIdeal.main_arg4) = m ((c.tc : Thread Cert.TokKernelIdeal.nD Cert.TokKernelIdeal.τ).loc Cert.TokKernelIdeal.main_arg4)
          ∧ r.2.mem ((c.tc : Thread Cert.TokKernelIdeal.nD Cert.TokKernelIdeal.τ).loc Cert.TokKernelIdeal.main_arg5) = m ((c.tc : Thread Cert.TokKernelIdeal.nD Cert.TokKernelIdeal.τ).loc Cert.TokKernelIdeal.main_arg5))
      ∧ θ_run (Cert.TokReferenceIdeal.defs (F := Ideal)) (onTc (τ := Cert.TokReferenceIdeal.τ) (Cert.TokReferenceIdeal.main (F := Ideal))) ⟨m', fun _ => 0, g'⟩ (fun r => ∀ c : Dev Cert.TokReferenceIdeal.nD,
          r.2.mem ((c.tc : Thread Cert.TokReferenceIdeal.nD Cert.TokReferenceIdeal.τ).loc Cert.TokReferenceIdeal.main_v78) = v0 c
          ∧ r.2.mem ((c.tc : Thread Cert.TokReferenceIdeal.nD Cert.TokReferenceIdeal.τ).loc Cert.TokReferenceIdeal.main_v79) = v1 c
          ∧ r.2.mem ((c.tc : Thread Cert.TokReferenceIdeal.nD Cert.TokReferenceIdeal.τ).loc Cert.TokReferenceIdeal.main_v80) = v2 c
          ∧ r.2.mem ((c.tc : Thread Cert.TokReferenceIdeal.nD Cert.TokReferenceIdeal.τ).loc Cert.TokReferenceIdeal.main_v83) = v3 c
          ∧ r.2.mem ((c.tc : Thread Cert.TokReferenceIdeal.nD Cert.TokReferenceIdeal.τ).loc Cert.TokReferenceIdeal.main_v84) = v4 c
          ∧ r.2.mem ((c.tc : Thread Cert.TokReferenceIdeal.nD Cert.TokReferenceIdeal.τ).loc Cert.TokReferenceIdeal.main_v88) = v5 c
          ∧ r.2.mem ((c.tc : Thread Cert.TokReferenceIdeal.nD Cert.TokReferenceIdeal.τ).loc Cert.TokReferenceIdeal.main_v90) = v6 c
          ∧ r.2.mem ((c.tc : Thread Cert.TokReferenceIdeal.nD Cert.TokReferenceIdeal.τ).loc Cert.TokReferenceIdeal.main_v92) = v7 c
          ∧ r.2.mem ((c.tc : Thread Cert.TokReferenceIdeal.nD Cert.TokReferenceIdeal.τ).loc Cert.TokReferenceIdeal.main_v93) = v8 c
          ∧ r.2.mem ((c.tc : Thread Cert.TokReferenceIdeal.nD Cert.TokReferenceIdeal.τ).loc Cert.TokReferenceIdeal.main_v95) = v9 c
          ∧ r.2.mem ((c.tc : Thread Cert.TokReferenceIdeal.nD Cert.TokReferenceIdeal.τ).loc Cert.TokReferenceIdeal.main_v97) = v10 c
          ∧ r.2.mem ((c.tc : Thread Cert.TokReferenceIdeal.nD Cert.TokReferenceIdeal.τ).loc Cert.TokReferenceIdeal.main_arg0) = m' ((c.tc : Thread Cert.TokReferenceIdeal.nD Cert.TokReferenceIdeal.τ).loc Cert.TokReferenceIdeal.main_arg0)
          ∧ r.2.mem ((c.tc : Thread Cert.TokReferenceIdeal.nD Cert.TokReferenceIdeal.τ).loc Cert.TokReferenceIdeal.main_arg1) = m' ((c.tc : Thread Cert.TokReferenceIdeal.nD Cert.TokReferenceIdeal.τ).loc Cert.TokReferenceIdeal.main_arg1)
          ∧ r.2.mem ((c.tc : Thread Cert.TokReferenceIdeal.nD Cert.TokReferenceIdeal.τ).loc Cert.TokReferenceIdeal.main_arg2) = m' ((c.tc : Thread Cert.TokReferenceIdeal.nD Cert.TokReferenceIdeal.τ).loc Cert.TokReferenceIdeal.main_arg2)
          ∧ r.2.mem ((c.tc : Thread Cert.TokReferenceIdeal.nD Cert.TokReferenceIdeal.τ).loc Cert.TokReferenceIdeal.main_arg3) = m' ((c.tc : Thread Cert.TokReferenceIdeal.nD Cert.TokReferenceIdeal.τ).loc Cert.TokReferenceIdeal.main_arg3)
          ∧ r.2.mem ((c.tc : Thread Cert.TokReferenceIdeal.nD Cert.TokReferenceIdeal.τ).loc Cert.TokReferenceIdeal.main_arg4) = m' ((c.tc : Thread Cert.TokReferenceIdeal.nD Cert.TokReferenceIdeal.τ).loc Cert.TokReferenceIdeal.main_arg4)
          ∧ r.2.mem ((c.tc : Thread Cert.TokReferenceIdeal.nD Cert.TokReferenceIdeal.τ).loc Cert.TokReferenceIdeal.main_arg5) = m' ((c.tc : Thread Cert.TokReferenceIdeal.nD Cert.TokReferenceIdeal.τ).loc Cert.TokReferenceIdeal.main_arg5))

def Claim : Prop :=
  ∃ (hFfnKernel : Cert.FfnKernel.Facts) (hFfnKernelIdeal : Cert.FfnKernelIdeal.Facts) (hFfnReferenceIdeal : Cert.FfnReferenceIdeal.Facts) (hDownKernel : Cert.DownKernel.Facts) (hDownKernelIdeal : Cert.DownKernelIdeal.Facts) (hDownReferenceIdeal : Cert.DownReferenceIdeal.Facts) (hFfnInKernel : Cert.FfnInKernel.Facts) (hFfnInKernelIdeal : Cert.FfnInKernelIdeal.Facts) (hFfnInReferenceIdeal : Cert.FfnInReferenceIdeal.Facts) (hOutKernel : Cert.OutKernel.Facts) (hOutKernelIdeal : Cert.OutKernelIdeal.Facts) (hOutReferenceIdeal : Cert.OutReferenceIdeal.Facts) (hInKernel : Cert.InKernel.Facts) (hInKernelIdeal : Cert.InKernelIdeal.Facts) (hInReferenceIdeal : Cert.InReferenceIdeal.Facts) (hMixKernel : Cert.MixKernel.Facts) (hMixKernelIdeal : Cert.MixKernelIdeal.Facts) (hMixReferenceIdeal : Cert.MixReferenceIdeal.Facts) (hTokKernel : Cert.TokKernel.Facts) (hTokKernelIdeal : Cert.TokKernelIdeal.Facts) (hTokReferenceIdeal : Cert.TokReferenceIdeal.Facts) (hPre_finite : Cert.Pre_finite.Facts) (hPre_tokens_finite : Cert.Pre_tokens_finite.Facts),
    quiescent_FfnKernel (hFfnKernel := hFfnKernel)
    ∧ quiescent_FfnKernelIdeal (hFfnKernelIdeal := hFfnKernelIdeal)
    ∧ quiescent_FfnKernelIdeal_pre_finite (hFfnKernelIdeal := hFfnKernelIdeal) (hPre_finite := hPre_finite)
    ∧ quiescent_FfnReferenceIdeal (hFfnReferenceIdeal := hFfnReferenceIdeal)
    ∧ quiescent_FfnReferenceIdeal_pre_finite (hFfnReferenceIdeal := hFfnReferenceIdeal) (hPre_finite := hPre_finite)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_FfnInKernel (hFfnInKernel := hFfnInKernel)
    ∧ quiescent_FfnInKernelIdeal (hFfnInKernelIdeal := hFfnInKernelIdeal)
    ∧ quiescent_FfnInReferenceIdeal (hFfnInReferenceIdeal := hFfnInReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_TokKernel (hTokKernel := hTokKernel)
    ∧ quiescent_TokKernelIdeal (hTokKernelIdeal := hTokKernelIdeal)
    ∧ quiescent_TokKernelIdeal_pre_tokens_finite (hTokKernelIdeal := hTokKernelIdeal) (hPre_tokens_finite := hPre_tokens_finite)
    ∧ quiescent_TokReferenceIdeal (hTokReferenceIdeal := hTokReferenceIdeal)
    ∧ quiescent_TokReferenceIdeal_pre_tokens_finite (hTokReferenceIdeal := hTokReferenceIdeal) (hPre_tokens_finite := hPre_tokens_finite)
    ∧ preserves_FfnKernel_FfnKernelIdeal
    ∧ algebraic_FfnKernelIdeal_FfnReferenceIdeal_pre_finite (hFfnKernelIdeal := hFfnKernelIdeal) (hFfnReferenceIdeal := hFfnReferenceIdeal) (hPre_finite := hPre_finite)
    ∧ preserves_DownKernel_DownKernelIdeal
    ∧ algebraic_DownKernelIdeal_DownReferenceIdeal (hDownKernelIdeal := hDownKernelIdeal) (hDownReferenceIdeal := hDownReferenceIdeal)
    ∧ preserves_FfnInKernel_FfnInKernelIdeal
    ∧ algebraic_FfnInKernelIdeal_FfnInReferenceIdeal (hFfnInKernelIdeal := hFfnInKernelIdeal) (hFfnInReferenceIdeal := hFfnInReferenceIdeal)
    ∧ preserves_OutKernel_OutKernelIdeal
    ∧ algebraic_OutKernelIdeal_OutReferenceIdeal (hOutKernelIdeal := hOutKernelIdeal) (hOutReferenceIdeal := hOutReferenceIdeal)
    ∧ preserves_InKernel_InKernelIdeal
    ∧ algebraic_InKernelIdeal_InReferenceIdeal (hInKernelIdeal := hInKernelIdeal) (hInReferenceIdeal := hInReferenceIdeal)
    ∧ preserves_MixKernel_MixKernelIdeal
    ∧ algebraic_MixKernelIdeal_MixReferenceIdeal (hMixKernelIdeal := hMixKernelIdeal) (hMixReferenceIdeal := hMixReferenceIdeal)
    ∧ preserves_TokKernel_TokKernelIdeal
    ∧ algebraic_TokKernelIdeal_TokReferenceIdeal_pre_tokens_finite (hTokKernelIdeal := hTokKernelIdeal) (hTokReferenceIdeal := hTokReferenceIdeal) (hPre_tokens_finite := hPre_tokens_finite)
-- ==== Pre_finite.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S1x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S4096x1024 .f32) (main_arg1 : FVec F S4096x1024 .f32) (main_arg2 : FVec F S1x1024 .f32) (main_arg3 : FVec F S1024x5632 .f32) (main_arg4 : FVec F S2816x1024 .f32) (main_arg5 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x5632 .f32 := Host.absf main_arg3
  let main_cst_4 : FVec F S_ .f32 := constant S_ .f32 0x7F800000#32
  let main_v13 : FVec F S1024x5632 .f32 := broadcastInDim S1024x5632 ![] bcast_S_S1024x5632 main_cst_4
  let main_v14 : IVec S1024x5632 1 := cmpf .olt main_v12 main_v13
  let main_c_5 : IVec S_ 1 := constantI S_ 1 1#1
  let main_v15 : IVec S_ 1 := (fun x v => Host.reduce IntOp.andi x v reducesTo_S1024x5632_S_d0_1 h_S_) main_v14 main_c_5
  fn_part1 (F := F) main_arg4 main_arg5 main_v3 main_v7 main_v11 main_v15
-- ==== Pre_tokens_finite.lean ====
abbrev S4096x1024 : Shape := ⟨2, ![4096, 1024]⟩
abbrev S1x1024 : Shape := ⟨2, ![1, 1024]⟩
abbrev S1024x4616 : Shape := ⟨2, ![1024, 4616]⟩
abbrev S1x8 : Shape := ⟨2, ![1, 8]⟩
abbrev S1x64 : Shape := ⟨2, ![1, 64]⟩
abbrev S1024x8 : Shape := ⟨2, ![1024, 8]⟩
abbrev S_ : Shape := ⟨0, ![]⟩

class Facts : Prop where
  slices_S1024x4616_S1024x8_0_1536 : S1024x4616.Slices ![0, 1536] S1024x8
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S4096x1024 .f32) (main_arg1 : FVec F S1x1024 .f32) (main_arg2 : FVec F S1024x4616 .f32) (main_arg3 : FVec F S1x8 .f32) (main_arg4 : FVec F S1x64 .f32) (main_arg5 : FVec F S1x64 .f32) : IVec S_ 1 :=
  let main_v0 : FVec F S1024x8 .f32 := (extractStridedSlice S1024x8 ![0, 1536] · slices_S1024x4616_S1024x8_0_1536) main_arg2
  let main_v1 : FVec F S1x1024 .f32 := Host.absf main_arg1
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_c : IVec S_ 1 := constantI S_ 1 1#1
  let main_v4 : IVec S_ 1 := (fun x v => Host.reduce IntOp.andi x v reducesTo_S1x1024_S_d0_1 h_S_) main_v3 main_c
  let main_v5 : FVec F S1024x8 .f32 := Host.absf main_v0
  let main_cst_0 : FVec F S_ .f32 := constant S_ .f32 0x7F800000#32
  let main_v6 : FVec F S1024x8 .f32 := broadcastInDim S1024x8 ![] bcast_S_S1024x8 main_cst_0
  let main_v7 : IVec S1024x8 1 := cmpf .olt main_v5 main_v6
  let main_c_1 : IVec S_ 1 := constantI S_ 1 1#1
  let main_v8 : IVec S_ 1 := (fun x v => Host.reduce IntOp.andi x v reducesTo_S1024x8_S_d0_1 h_S_) main_v7 main_c_1
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v4 main_v8
  let main_v14 : IVec S_ 1 := andi main_v13 main_v12
  main_v14
-- ==== FfnKernel.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S5632x1024 : Shape := ⟨2, ![5632, 1024]⟩
abbrev S2816x4096 : Shape := ⟨2, ![2816, 4096]⟩
abbrev S5632x4096 : Shape := ⟨2, ![5632, 4096]⟩
abbrev S1x128 : Shape := ⟨2, ![1, 128]⟩
abbrev S256x1024 : Shape := ⟨2, ![256, 1024]⟩
abbrev S2816x256 : Shape := ⟨2, ![2816, 256]⟩
abbrev S5632x256 : Shape := ⟨2, ![5632, 256]⟩
abbrev S256 : Shape := ⟨1, ![256]⟩
abbrev S256x1 : Shape := ⟨2, ![256, 1]⟩
abbrev S256x2816 : Shape := ⟨2, ![256, 2816]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 17
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S1x1024, .f32⟩
  | .hbm, ⟨6, _⟩ => ⟨S5632x1024, .f32⟩
  | .hbm, ⟨7, _⟩ => ⟨S5632x1024, .bf16⟩
  | .hbm, ⟨8, _⟩ => ⟨S2816x1024, .bf16⟩
  | .hbm, ⟨9, _⟩ => ⟨S4096x1024, .f32⟩
  | .hbm, ⟨10, _⟩ => ⟨S4096x1024, .bf16⟩
  | .hbm, ⟨11, _⟩ => ⟨S2816x4096, .bf16⟩
  | .hbm, ⟨12, _⟩ => ⟨S4096x1024, .bf16⟩
  | .hbm, ⟨13, _⟩ => ⟨S5632x4096, .bf16⟩
  | .hbm, ⟨14, _⟩ => ⟨S1x128, .f32⟩
  | .hbm, ⟨15, _⟩ => ⟨S1x1024, .f32⟩
  | .hbm, ⟨16, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S5632x1024, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S2816x256, .bf16⟩
  | .local _ .vmem, ⟨13, _⟩ => ⟨S2816x256, .bf16⟩
  | .local _ .vmem, ⟨14, _⟩ => ⟨S256x1024, .bf16⟩
  | .local _ .vmem, ⟨15, _⟩ => ⟨S256x1024, .bf16⟩
  | .local _ .vmem, ⟨16, _⟩ => ⟨S5632x256, .bf16⟩
  | .local _ .vmem, ⟨17, _⟩ => ⟨S5632x256, .bf16⟩
  | .local _ .vmem, ⟨18, _⟩ => ⟨S1x128, .f32⟩
  | .local _ .vmem, ⟨19, _⟩ => ⟨S1x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev main_v3_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2816x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5632x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnReferenceIdeal.lean ====
abbrev S4096x1024 : Shape := ⟨2, ![4096, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩
abbrev S1024x2816 : Shape := ⟨2, ![1024, 2816]⟩
abbrev S5632x1024 : Shape := ⟨2, ![5632, 1024]⟩
abbrev S2816x4096 : Shape := ⟨2, ![2816, 4096]⟩
abbrev S5632x4096 : Shape := ⟨2, ![5632, 4096]⟩
abbrev S1x128 : Shape := ⟨2, ![1, 128]⟩

abbrev nBuf : Space → Nat
  | .hbm => 157
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1024x5632, .f32⟩
  | 4 => ⟨S2816x1024, .f32⟩
  | 5 => ⟨S1x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S4096x1024, .f32⟩
  | 25 => ⟨S4096x5632, .f32⟩
  | 26 => ⟨S4096x2816, .f32⟩
  | 27 => ⟨S4096x2816, .f32⟩
  | 28 => ⟨S4096x2816, .f32⟩
  | 29 => ⟨S_, .f32⟩
  | 30 => ⟨S4096x2816, .f32⟩
  | 31 => ⟨S4096x2816, .f32⟩
  | 32 => ⟨S_, .f32⟩
  | 33 => ⟨S4096x2816, .f32⟩
  | 34 => ⟨S4096x2816, .f32⟩
  | 35 => ⟨S_, .f32⟩
  | 36 => ⟨S4096x2816, .f32⟩
  | 37 => ⟨S4096x2816, .f32⟩
  | 38 => ⟨S4096x2816, .f32⟩
  | 39 => ⟨S4096x2816, .f32⟩
  | 40 => ⟨S4096x2816, .f32⟩
  | 41 => ⟨S4096x2816, .f32⟩
  | 42 => ⟨S4096x1024, .f32⟩
  | 43 => ⟨S4096x1024, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096, .f32⟩
  | 70 => ⟨S_, .f32⟩
  | 71 => ⟨S4096, .f32⟩
  | 72 => ⟨S4096, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S4096, .f32⟩
  | 81 => ⟨S_, .f32⟩
  | 82 => ⟨S4096, .f32⟩
  | 83 => ⟨S4096, .f32⟩
  | 84 => ⟨S4096x1024, .f32⟩
  | 85 => ⟨S4096x1024, .f32⟩
  | 86 => ⟨S4096x1024, .f32⟩
  | 87 => ⟨S_, .f32⟩
  | 88 => ⟨S1024, .f32⟩
  | 89 => ⟨S1x1024, .f32⟩
  | 90 => ⟨S4096x1024, .f32⟩
  | 91 => ⟨S4096x1024, .f32⟩
  | 92 => ⟨S4096x1024, .f32⟩
  | 93 => ⟨S_, .f32⟩
  | 94 => ⟨S4096, .f32⟩
  | 95 => ⟨S4096x1, .f32⟩
  | 96 => ⟨S4096x1024, .f32⟩
  | 97 => ⟨S4096x1024, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S1024x2816, .f32⟩
  | 110 => ⟨S2816x1024, .f32⟩
  | 111 => ⟨S4096x2816, .f32⟩
  | 112 => ⟨S4096x2816, .f32⟩
  | 113 => ⟨S4096x2816, .f32⟩
  | 114 => ⟨S_, .f32⟩
  | 115 => ⟨S4096x5632, .f32⟩
  | 116 => ⟨S4096x2816, .f32⟩
  | 117 => ⟨S4096x2816, .f32⟩
  | 118 => ⟨S4096x2816, .f32⟩
  | 119 => ⟨S4096x2816, .f32⟩
  | 120 => ⟨S_, .f32⟩
  | 121 => ⟨S4096x5632, .f32⟩
  | 122 => ⟨S4096x5632, .f32⟩
  | 123 => ⟨S5632x1024, .f32⟩
  | 124 => ⟨S1024x5632, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S1024, .f32⟩
  | 1 => ⟨S1x1024, .f32⟩
  | 2 => ⟨S4096x1024, .f32⟩
  | 3 => ⟨S4096x1024, .f32⟩
  | 4 => ⟨S4096x1024, .f32⟩
  | 5 => ⟨S_, .f32⟩
  | 6 => ⟨S4096, .f32⟩
  | 7 => ⟨S4096x1, .f32⟩
  | 8 => ⟨S4096x1024, .f32⟩
  | 9 => ⟨S4096x1024, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .bf16⟩
  | 23 => ⟨S2816x4096, .f32⟩
  | 24 => ⟨S2816x4096, .bf16⟩
  | 25 => ⟨S4096x1024, .bf16⟩
  | 26 => ⟨S5632x4096, .f32⟩
  | 27 => ⟨S5632x4096, .bf16⟩
  | 28 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_cst_10 : Ref sig .tc := ⟨.hbm, 73, rfl⟩
abbrev main_v44 : Ref sig .tc := ⟨.hbm, 74, rfl⟩
abbrev main_cst_11 : Ref sig .tc := ⟨.hbm, 75, rfl⟩
abbrev main_v45 : Ref sig .tc := ⟨.hbm, 76, rfl⟩
abbrev main_cst_12 : Ref sig .tc := ⟨.hbm, 77, rfl⟩
abbrev main_cst_13 : Ref sig .tc := ⟨.hbm, 78, rfl⟩
abbrev main_v46 : Ref sig .tc := ⟨.hbm, 79, rfl⟩
abbrev main_v47 : Ref sig .tc := ⟨.hbm, 80, rfl⟩
abbrev main_cst_14 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_15 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_16 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_17 : Ref sig .tc := ⟨.hbm, 99, rfl⟩
abbrev main_v63 : Ref sig .tc := ⟨.hbm, 100, rfl⟩
abbrev main_v64 : Ref sig .tc := ⟨.hbm, 101, rfl⟩
abbrev main_cst_18 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_19 : Ref sig .tc := ⟨.hbm, 114, rfl⟩
abbrev main_v76 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v77 : Ref sig .tc := ⟨.hbm, 119, rfl⟩
abbrev main_cst_20 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_21 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_22 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_23 : Ref sig .tc := ⟨.hbm, 139, rfl⟩
abbrev main_v94 : Ref sig .tc := ⟨.hbm, 140, rfl⟩
abbrev main_v95 : Ref sig .tc := ⟨.hbm, 141, rfl⟩
abbrev main_cst_24 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩

abbrev nD : Nat := 1
abbrev τ : Topo := Topo.v7x

variable {F : FTy → Type} [FloatOps F]
-- ==== DownKernel.lean ====
abbrev S2816x4096 : Shape := ⟨2, ![2816, 4096]⟩
abbrev S4096x1024 : Shape := ⟨2, ![4096, 1024]⟩
abbrev S2816x1024 : Shape := ⟨2, ![2816, 1024]⟩
abbrev S704x4096 : Shape := ⟨2, ![704, 4096]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2816x4096, .bf16⟩
  | .hbm, ⟨1, _⟩ => ⟨S4096x1024, .bf16⟩
  | .hbm, ⟨2, _⟩ => ⟨S2816x1024, .bf16⟩
  | .local _ .vmem, ⟨0, _⟩ => ⟨S704x4096, .bf16⟩
  | .local _ .vmem, ⟨1, _⟩ => ⟨S704x4096, .bf16⟩
  | .local _ .vmem, ⟨2, _⟩ => ⟨S4096x1024, .bf16⟩
  | .local _ .vmem, ⟨3, _⟩ => ⟨S704x1024, .bf16⟩
  | .local _ .vmem, ⟨4, _⟩ => ⟨S704x1024, .bf16⟩
  | _, _ => ⟨S2816x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownReferenceIdeal.lean ====
abbrev S2816x4096 : Shape := ⟨2, ![2816, 4096]⟩
abbrev S4096x1024 : Shape := ⟨2, ![4096, 1024]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2816x4096, .bf16⟩
  | .hbm, ⟨1, _⟩ => ⟨S4096x1024, .bf16⟩
  | .hbm, ⟨2, _⟩ => ⟨S4096x2816, .bf16⟩
  | .hbm, ⟨3, _⟩ => ⟨S4096x2816, .f32⟩
  | .hbm, ⟨4, _⟩ => ⟨S4096x1024, .f32⟩
  | .hbm, ⟨5, _⟩ => ⟨S_, .f32⟩
  | .hbm, ⟨6, _⟩ => ⟨S2816x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S2816x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnInKernel.lean ====
abbrev S5632x4096 : Shape := ⟨2, ![5632, 4096]⟩
abbrev S4096x1024 : Shape := ⟨2, ![4096, 1024]⟩
abbrev S5632x1024 : Shape := ⟨2, ![5632, 1024]⟩
abbrev S704x4096 : Shape := ⟨2, ![704, 4096]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S5632x4096, .bf16⟩
  | .hbm, ⟨1, _⟩ => ⟨S4096x1024, .bf16⟩
  | .hbm, ⟨2, _⟩ => ⟨S5632x1024, .bf16⟩
  | .local _ .vmem, ⟨0, _⟩ => ⟨S704x4096, .bf16⟩
  | .local _ .vmem, ⟨1, _⟩ => ⟨S704x4096, .bf16⟩
  | .local _ .vmem, ⟨2, _⟩ => ⟨S4096x1024, .bf16⟩
  | .local _ .vmem, ⟨3, _⟩ => ⟨S704x1024, .bf16⟩
  | .local _ .vmem, ⟨4, _⟩ => ⟨S704x1024, .bf16⟩
  | _, _ => ⟨S5632x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnInReferenceIdeal.lean ====
abbrev S5632x4096 : Shape := ⟨2, ![5632, 4096]⟩
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S5632x4096, .bf16⟩
  | .hbm, ⟨1, _⟩ => ⟨S4096x1024, .bf16⟩
  | .hbm, ⟨2, _⟩ => ⟨S4096x1024, .f32⟩
  | .hbm, ⟨3, _⟩ => ⟨S4096x5632, .bf16⟩
  | .hbm, ⟨4, _⟩ => ⟨S4096x5632, .f32⟩
  | .hbm, ⟨5, _⟩ => ⟨S_, .f32⟩
  | .hbm, ⟨6, _⟩ => ⟨S1024x5632, .f32⟩
  | .hbm, ⟨7, _⟩ => ⟨S4096x5632, .f32⟩
  | .hbm, ⟨8, _⟩ => ⟨S5632x1024, .f32⟩
  | .hbm, ⟨9, _⟩ => ⟨S1024x5632, .f32⟩
  | .hbm, ⟨10, _⟩ => ⟨S1024x5632, .bf16⟩
  | .hbm, ⟨11, _⟩ => ⟨S5632x1024, .bf16⟩
  | _, _ => ⟨S5632x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutKernel.lean ====
abbrev S1024x4096 : Shape := ⟨2, ![1024, 4096]⟩
abbrev S4096x1024 : Shape := ⟨2, ![4096, 1024]⟩
abbrev S1024x1024 : Shape := ⟨2, ![1024, 1024]⟩
abbrev S512x4096 : Shape := ⟨2, ![512, 4096]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S1024x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutReferenceIdeal.lean ====
abbrev S1024x4096 : Shape := ⟨2, ![1024, 4096]⟩
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InKernel.lean ====
abbrev S4736x4096 : Shape := ⟨2, ![4736, 4096]⟩
abbrev S4096x1024 : Shape := ⟨2, ![4096, 1024]⟩
abbrev S4736x1024 : Shape := ⟨2, ![4736, 1024]⟩
abbrev S592x4096 : Shape := ⟨2, ![592, 4096]⟩
abbrev S592x1024 : Shape := ⟨2, ![592, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4736x4096, .bf16⟩
  | .hbm, ⟨1, _⟩ => ⟨S4096x1024, .bf16⟩
  | .hbm, ⟨2, _⟩ => ⟨S4736x1024, .bf16⟩
  | .local _ .vmem, ⟨0, _⟩ => ⟨S592x4096, .bf16⟩
  | .local _ .vmem, ⟨1, _⟩ => ⟨S592x4096, .bf16⟩
  | .local _ .vmem, ⟨2, _⟩ => ⟨S4096x1024, .bf16⟩
  | .local _ .vmem, ⟨3, _⟩ => ⟨S592x1024, .bf16⟩
  | .local _ .vmem, ⟨4, _⟩ => ⟨S592x1024, .bf16⟩
  | _, _ => ⟨S4736x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S592x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S592x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InReferenceIdeal.lean ====
abbrev S4736x4096 : Shape := ⟨2, ![4736, 4096]⟩
abbrev S4096x1024 : Shape := ⟨2, ![4096, 1024]⟩
abbrev S4096x4736 : Shape := ⟨2, ![4096, 4736]⟩
abbrev S_ : Shape := ⟨0, ![]⟩
abbrev S1024x4736 : Shape := ⟨2, ![1024, 4736]⟩
abbrev S4736x1024 : Shape := ⟨2, ![4736, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4736x4096, .bf16⟩
  | .hbm, ⟨1, _⟩ => ⟨S4096x1024, .bf16⟩
  | .hbm, ⟨2, _⟩ => ⟨S4096x1024, .f32⟩
  | .hbm, ⟨3, _⟩ => ⟨S4096x4736, .bf16⟩
  | .hbm, ⟨4, _⟩ => ⟨S4096x4736, .f32⟩
  | .hbm, ⟨5, _⟩ => ⟨S_, .f32⟩
  | .hbm, ⟨6, _⟩ => ⟨S1024x4736, .f32⟩
  | .hbm, ⟨7, _⟩ => ⟨S4096x4736, .f32⟩
  | .hbm, ⟨8, _⟩ => ⟨S4736x1024, .f32⟩
  | .hbm, ⟨9, _⟩ => ⟨S1024x4736, .f32⟩
  | .hbm, ⟨10, _⟩ => ⟨S1024x4736, .bf16⟩
  | .hbm, ⟨11, _⟩ => ⟨S4736x1024, .bf16⟩
  | _, _ => ⟨S4736x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MixKernel.lean ====
abbrev S4096x512 : Shape := ⟨2, ![4096, 512]⟩
abbrev S4096x1024 : Shape := ⟨2, ![4096, 1024]⟩
abbrev S4096x2048 : Shape := ⟨2, ![4096, 2048]⟩
abbrev S512x1024 : Shape := ⟨2, ![512, 1024]⟩
abbrev S1024x1024 : Shape := ⟨2, ![1024, 1024]⟩
abbrev S8x128x128 : Shape := ⟨3, ![8, 128, 128]⟩
abbrev S8x128 : Shape := ⟨2, ![8, 128]⟩
abbrev S1x512 : Shape := ⟨2, ![1, 512]⟩
abbrev S1x1024 : Shape := ⟨2, ![1, 1024]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S128x8 : Shape := ⟨2, ![128, 8]⟩
abbrev S128x8x64 : Shape := ⟨3, ![128, 8, 64]⟩
abbrev S128x512 : Shape := ⟨2, ![128, 512]⟩
abbrev S512x4096 : Shape := ⟨2, ![512, 4096]⟩
abbrev S1024x4096 : Shape := ⟨2, ![1024, 4096]⟩
abbrev S256x512 : Shape := ⟨2, ![256, 512]⟩
abbrev S256x1024 : Shape := ⟨2, ![256, 1024]⟩
abbrev S256x2048 : Shape := ⟨2, ![256, 2048]⟩
abbrev S512x256 : Shape := ⟨2, ![512, 256]⟩
abbrev S1024x256 : Shape := ⟨2, ![1024, 256]⟩
abbrev S256 : Shape := ⟨1, ![256]⟩
abbrev S256x1 : Shape := ⟨2, ![256, 1]⟩

abbrev nBuf : Space → Nat
  | .hbm => 76
  | .vmem => 28
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8x128x128, .f32⟩
  | .hbm, ⟨8, _⟩ => ⟨S8x128, .f32⟩
  | .hbm, ⟨9, _⟩ => ⟨S1x512, .f32⟩
  | .hbm, ⟨10, _⟩ => ⟨S1x512, .f32⟩
  | .hbm, ⟨11, _⟩ => ⟨S1x1024, .f32⟩
  | .hbm, ⟨12, _⟩ => ⟨S128, .i32⟩
  | .hbm, ⟨13, _⟩ => ⟨S1x128, .i32⟩
  | .hbm, ⟨14, _⟩ => ⟨S_, .i32⟩
  | .hbm, ⟨15, _⟩ => ⟨S_, .i32⟩
  | .hbm, ⟨16, _⟩ => ⟨S1x128, .i32⟩
  | .hbm, ⟨17, _⟩ => ⟨S1x128, .i32⟩
  | .hbm, ⟨18, _⟩ => ⟨S1x128, .i32⟩
  | .hbm, ⟨19, _⟩ => ⟨S_, .i32⟩
  | .hbm, ⟨20, _⟩ => ⟨S1x128, .i32⟩
  | .hbm, ⟨21, _⟩ => ⟨S1x128, .i1⟩
  | .hbm, ⟨22, _⟩ => ⟨S1x128, .i32⟩
  | .hbm, ⟨23, _⟩ => ⟨S1x128, .i32⟩
  | .hbm, ⟨24, _⟩ => ⟨S_, .i32⟩
  | .hbm, ⟨25, _⟩ => ⟨S1x128, .i32⟩
  | .hbm, ⟨26, _⟩ => ⟨S1x128, .i1⟩
  | .hbm, ⟨27, _⟩ => ⟨S1x128, .i1⟩
  | .hbm, ⟨28, _⟩ => ⟨S_, .i32⟩
  | .hbm, ⟨29, _⟩ => ⟨S1x128, .i32⟩
  | .hbm, ⟨30, _⟩ => ⟨S1x128, .i32⟩
  | .hbm, ⟨31, _⟩ => ⟨S1x128, .i32⟩
  | .hbm, ⟨32, _⟩ => ⟨S128x1, .i32⟩
  | .hbm, ⟨33, _⟩ => ⟨S_, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x1, .i32⟩
  | .hbm, ⟨38, _⟩ => ⟨S_, .i32⟩
  | .hbm, ⟨39, _⟩ => ⟨S128x1, .i32⟩
  | .hbm, ⟨40, _⟩ => ⟨S128x1, .i1⟩
  | .hbm, ⟨41, _⟩ => ⟨S128x1, .i32⟩
  | .hbm, ⟨42, _⟩ => ⟨S128x1, .i32⟩
  | .hbm, ⟨43, _⟩ => ⟨S_, .i32⟩
  | .hbm, ⟨44, _⟩ => ⟨S128x1, .i32⟩
  | .hbm, ⟨45, _⟩ => ⟨S128x1, .i1⟩
  | .hbm, ⟨46, _⟩ => ⟨S128x1, .i1⟩
  | .hbm, ⟨47, _⟩ => ⟨S_, .i32⟩
  | .hbm, ⟨48, _⟩ => ⟨S128x1, .i32⟩
  | .hbm, ⟨49, _⟩ => ⟨S128x1, .i32⟩
  | .hbm, ⟨50, _⟩ => ⟨S128x1, .i32⟩
  | .hbm, ⟨51, _⟩ => ⟨S128x128, .i32⟩
  | .hbm, ⟨52, _⟩ => ⟨S128x128, .i32⟩
  | .hbm, ⟨53, _⟩ => ⟨S128x128, .i1⟩
  | .hbm, ⟨54, _⟩ => ⟨S1x128x128, .i1⟩
  | .hbm, ⟨55, _⟩ => ⟨S_, .f32⟩
  | .hbm, ⟨56, _⟩ => ⟨S_, .f32⟩
  | .hbm, ⟨57, _⟩ => ⟨S8x128x128, .i1⟩
  | .hbm, ⟨58, _⟩ => ⟨S8x128x128, .f32⟩
  | .hbm, ⟨59, _⟩ => ⟨S8x128x128, .f32⟩
  | .hbm, ⟨60, _⟩ => ⟨S8x128x128, .bf16⟩
  | .hbm, ⟨61, _⟩ => ⟨S128x8, .f32⟩
  | .hbm, ⟨62, _⟩ => ⟨S128x8x64, .f32⟩
  | .hbm, ⟨63, _⟩ => ⟨S128x512, .f32⟩
  | .hbm, ⟨64, _⟩ => ⟨S4096x512, .bf16⟩
  | .hbm, ⟨65, _⟩ => ⟨S4096x1024, .bf16⟩
  | .hbm, ⟨66, _⟩ => ⟨S4096x2048, .bf16⟩
  | .hbm, ⟨67, _⟩ => ⟨S512x1024, .bf16⟩
  | .hbm, ⟨68, _⟩ => ⟨S512x1024, .bf16⟩
  | .hbm, ⟨69, _⟩ => ⟨S1024x1024, .bf16⟩
  | .hbm, ⟨70, _⟩ => ⟨S512x4096, .bf16⟩
  | .hbm, ⟨71, _⟩ => ⟨S4096x1024, .bf16⟩
  | .hbm, ⟨72, _⟩ => ⟨S4096x1024, .bf16⟩
  | .hbm, ⟨73, _⟩ => ⟨S1024x4096, .bf16⟩
  | .hbm, ⟨74, _⟩ => ⟨S4096x1024, .f32⟩
  | .hbm, ⟨75, _⟩ => ⟨S4096x1024, .f32⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .f32⟩
  | .local _ .vmem, ⟨7, _⟩ => ⟨S256x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S8x128x128, .bf16⟩
  | .local _ .vmem, ⟨12, _⟩ => ⟨S128x512, .f32⟩
  | .local _ .vmem, ⟨13, _⟩ => ⟨S1x512, .f32⟩
  | .local _ .vmem, ⟨14, _⟩ => ⟨S1x512, .f32⟩
  | .local _ .vmem, ⟨15, _⟩ => ⟨S1x1024, .f32⟩
  | .local _ .vmem, ⟨16, _⟩ => ⟨S512x256, .bf16⟩
  | .local _ .vmem, ⟨17, _⟩ => ⟨S512x256, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S1024x256, .bf16⟩
  | .local _ .vmem, ⟨23, _⟩ => ⟨S1024x256, .bf16⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v2 : Ref sig .tc := ⟨.hbm, 31, rfl⟩
abbrev main_v3 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20_0 : Ref sig .tc := ⟨.hbm, 70, rfl⟩
abbrev main_v20_1 : Ref sig .tc := ⟨.hbm, 71, rfl⟩
abbrev main_v20_2 : Ref sig .tc := ⟨.hbm, 72, rfl⟩
abbrev main_v20_3 : Ref sig .tc := ⟨.hbm, 73, rfl⟩
abbrev main_v20_4 : Ref sig .tc := ⟨.hbm, 74, rfl⟩
abbrev main_v20_5 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixReferenceIdeal.lean ====
abbrev S4096x512 : Shape := ⟨2, ![4096, 512]⟩
abbrev S4096x1024 : Shape := ⟨2, ![4096, 1024]⟩
abbrev S4096x2048 : Shape := ⟨2, ![4096, 2048]⟩
abbrev S512x1024 : Shape := ⟨2, ![512, 1024]⟩
abbrev S1024x1024 : Shape := ⟨2, ![1024, 1024]⟩
abbrev S8x128x128 : Shape := ⟨3, ![8, 128, 128]⟩
abbrev S8x128 : Shape := ⟨2, ![8, 128]⟩
abbrev S1x512 : Shape := ⟨2, ![1, 512]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S32x128x8x64 : Shape := ⟨4, ![32, 128, 8, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x32x64x128 : Shape := ⟨4, ![8, 32, 64, 128]⟩
abbrev S128x8 : Shape := ⟨2, ![128, 8]⟩
abbrev S1x128x8x1 : Shape := ⟨4, ![1, 128, 8, 1]⟩
abbrev S512x4096 : Shape := ⟨2, ![512, 4096]⟩
abbrev S1024x4096 : Shape := ⟨2, ![1024, 4096]⟩

abbrev nBuf : Space → Nat
  | .hbm => 151
  | .vmem => 0
  | .smem => 0
  | _ => 0

abbrev hbmTy0_0 (i : Nat) : BufTy := match i % 128 with
  | 0 => ⟨S4096x512, .f32⟩
  | 1 => ⟨S4096x1024, .f32⟩
  | 2 => ⟨S4096x2048, .f32⟩
  | 3 => ⟨S4096x1024, .f32⟩
  | 4 => ⟨S512x1024, .f32⟩
  | 5 => ⟨S512x1024, .f32⟩
  | 6 => ⟨S1024x1024, .f32⟩
  | 7 => ⟨S8x128x128, .f32⟩
  | 8 => ⟨S8x128, .f32⟩
  | 9 => ⟨S1x512, .f32⟩
  | 10 => ⟨S1x512, .f32⟩
  | 11 => ⟨S1x1024, .f32⟩
  | 12 => ⟨S4096x1024, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S4096x1024, .f32⟩
  | 30 => ⟨S4096x512, .f32⟩
  | 31 => ⟨S4096x512, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S4096x512, .f32⟩
  | 39 => ⟨S4096x512, .f32⟩
  | 40 => ⟨S4096x512, .f32⟩
  | 41 => ⟨S_, .f32⟩
  | 42 => ⟨S4096, .f32⟩
  | 43 => ⟨S4096x1, .f32⟩
  | 44 => ⟨S_, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S4096x512, .f32⟩
  | 57 => ⟨S32x128x8x64, .f32⟩
  | 58 => ⟨S128, .i32⟩
  | 59 => ⟨S128x1, .i32⟩
  | 60 => ⟨S128, .i32⟩
  | 61 => ⟨S1x128, .i32⟩
  | 62 => ⟨S_, .i32⟩
  | 63 => ⟨S_, .i32⟩
  | 64 => ⟨S1x128, .i32⟩
  | 65 => ⟨S1x128, .i32⟩
  | 66 => ⟨S1x128, .i32⟩
  | 67 => ⟨S_, .i32⟩
  | 68 => ⟨S1x128, .i32⟩
  | 69 => ⟨S1x128, .i1⟩
  | 70 => ⟨S1x128, .i32⟩
  | 71 => ⟨S1x128, .i32⟩
  | 72 => ⟨S_, .i32⟩
  | 73 => ⟨S1x128, .i32⟩
  | 74 => ⟨S1x128, .i1⟩
  | 75 => ⟨S1x128, .i1⟩
  | 76 => ⟨S_, .i32⟩
  | 77 => ⟨S1x128, .i32⟩
  | 78 => ⟨S1x128, .i32⟩
  | 79 => ⟨S1x128, .i32⟩
  | 80 => ⟨S_, .i32⟩
  | 81 => ⟨S_, .i32⟩
  | 82 => ⟨S128x1, .i32⟩
  | 83 => ⟨S128x1, .i32⟩
  | 84 => ⟨S128x1, .i32⟩
  | 85 => ⟨S_, .i32⟩
  | 86 => ⟨S128x1, .i32⟩
  | 87 => ⟨S128x1, .i1⟩
  | 88 => ⟨S128x1, .i32⟩
  | 89 => ⟨S128x1, .i32⟩
  | 90 => ⟨S_, .i32⟩
  | 91 => ⟨S128x1, .i32⟩
  | 92 => ⟨S128x1, .i1⟩
  | 93 => ⟨S128x1, .i1⟩
  | 94 => ⟨S_, .i32⟩
  | 95 => ⟨S128x1, .i32⟩
  | 96 => ⟨S128x1, .i32⟩
  | 97 => ⟨S128x1, .i32⟩
  | 98 => ⟨S128x128, .i32⟩
  | 99 => ⟨S128x128, .i32⟩
  | 100 => ⟨S128x128, .i1⟩
  | 101 => ⟨S1x128x128, .i1⟩
  | 102 => ⟨S_, .f32⟩
  | 103 => ⟨S8x128x128, .i1⟩
  | 104 => ⟨S8x128x128, .f32⟩
  | 105 => ⟨S8x128x128, .f32⟩
  | 106 => ⟨S8x32x64x128, .f32⟩
  | 107 => ⟨S32x128x8x64, .f32⟩
  | 108 => ⟨S128x8, .f32⟩
  | 109 => ⟨S1x128x8x1, .f32⟩
  | 110 => ⟨S32x128x8x64, .f32⟩
  | 111 => ⟨S32x128x8x64, .f32⟩
  | 112 => ⟨S4096x512, .f32⟩
  | 113 => ⟨S4096x512, .f32⟩
  | 114 => ⟨S4096x1024, .f32⟩
  | 115 => ⟨S4096x2048, .f32⟩
  | 116 => ⟨S4096x2048, .f32⟩
  | 117 => ⟨S_, .f32⟩
  | 118 => ⟨S4096x2048, .f32⟩
  | 119 => ⟨S4096x2048, .f32⟩
  | 120 => ⟨S_, .f32⟩
  | 121 => ⟨S4096x2048, .f32⟩
  | 122 => ⟨S4096x2048, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x512, .f32⟩

abbrev hbmTy0_1 (i : Nat) : BufTy := match i % 128 with
  | 0 => ⟨S4096x1024, .f32⟩
  | 1 => ⟨S4096x1024, .f32⟩
  | 2 => ⟨S_, .f32⟩
  | 3 => ⟨S4096, .f32⟩
  | 4 => ⟨S4096x1, .f32⟩
  | 5 => ⟨S_, .f32⟩
  | 6 => ⟨S4096x1, .f32⟩
  | 7 => ⟨S4096x1, .f32⟩
  | 8 => ⟨S_, .f32⟩
  | 9 => ⟨S4096x1, .f32⟩
  | 10 => ⟨S4096x1, .f32⟩
  | 11 => ⟨S4096x1, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S512x4096, .f32⟩
  | 18 => ⟨S512x4096, .bf16⟩
  | 19 => ⟨S4096x1024, .bf16⟩
  | 20 => ⟨S4096x1024, .bf16⟩
  | 21 => ⟨S1024x4096, .f32⟩
  | 22 => ⟨S1024x4096, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_c : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_0 : Ref sig .tc := ⟨.hbm, 76, rfl⟩
abbrev main_call0_v12 : Ref sig .tc := ⟨.hbm, 77, rfl⟩
abbrev main_call0_v13 : Ref sig .tc := ⟨.hbm, 78, rfl⟩
abbrev main_v41 : Ref sig .tc := ⟨.hbm, 79, rfl⟩
abbrev main_c_8 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_c : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_0 : Ref sig .tc := ⟨.hbm, 94, rfl⟩
abbrev main_call1_v12 : Ref sig .tc := ⟨.hbm, 95, rfl⟩
abbrev main_call1_v13 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_cst_9 : Ref sig .tc := ⟨.hbm, 102, rfl⟩
abbrev main_call2_v0 : Ref sig .tc := ⟨.hbm, 103, rfl⟩
abbrev main_call2_v1 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_cst_10 : Ref sig .tc := ⟨.hbm, 117, rfl⟩
abbrev main_v59 : Ref sig .tc := ⟨.hbm, 118, rfl⟩
abbrev main_v60 : Ref sig .tc := ⟨.hbm, 119, rfl⟩
abbrev main_cst_11 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_cst_12 : Ref sig .tc := ⟨.hbm, 130, rfl⟩
abbrev main_v70 : Ref sig .tc := ⟨.hbm, 131, rfl⟩
abbrev main_v71 : Ref sig .tc := ⟨.hbm, 132, rfl⟩
abbrev main_cst_13 : Ref sig .tc := ⟨.hbm, 133, rfl⟩
abbrev main_v72 : Ref sig .tc := ⟨.hbm, 134, rfl⟩
abbrev main_v73 : Ref sig .tc := ⟨.hbm, 135, rfl⟩
abbrev main_cst_14 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩

abbrev nD : Nat := 1
abbrev τ : Topo := Topo.v7x

variable {F : FTy → Type} [FloatOps F]
-- ==== TokKernel.lean ====
abbrev S4096x1024 : Shape := ⟨2, ![4096, 1024]⟩
abbrev S1x1024 : Shape := ⟨2, ![1, 1024]⟩
abbrev S1024x4616 : Shape := ⟨2, ![1024, 4616]⟩
abbrev S1x8 : Shape := ⟨2, ![1, 8]⟩
abbrev S1x64 : Shape := ⟨2, ![1, 64]⟩
abbrev S2 : Shape := ⟨1, ![2]⟩
abbrev S2x1x1x1 : Shape := ⟨4, ![2, 1, 1, 1]⟩
abbrev S1x1x2x1 : Shape := ⟨4, ![1, 1, 2, 1]⟩
abbrev S2x1x2x1 : Shape := ⟨4, ![2, 1, 2, 1]⟩
abbrev S2x64x2x64 : Shape := ⟨4, ![2, 64, 2, 64]⟩
abbrev S128x128 : Shape := ⟨2, ![128, 128]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x1x1x64 : Shape := ⟨4, ![1, 1, 1, 64]⟩
abbrev S1x1x8x64 : Shape := ⟨4, ![1, 1, 8, 64]⟩
abbrev S1x512 : Shape := ⟨2, ![1, 512]⟩
abbrev S_ : Shape := ⟨0, ![]⟩
abbrev S1x128 : Shape := ⟨2, ![1, 128]⟩
abbrev S128 : Shape := ⟨1, ![128]⟩
abbrev S128x1x1 : Shape := ⟨3, ![128, 1, 1]⟩
abbrev S8 : Shape := ⟨1, ![8]⟩
abbrev S1x8x1 : Shape := ⟨3, ![1, 8, 1]⟩
abbrev S1x1x128 : Shape := ⟨3, ![1, 1, 128]⟩
abbrev S128x8x1 : Shape := ⟨3, ![128, 8, 1]⟩
abbrev S128x8x128 : Shape := ⟨3, ![128, 8, 128]⟩
abbrev S128x1024 : Shape := ⟨2, ![128, 1024]⟩
abbrev S1x8x128 : Shape := ⟨3, ![1, 8, 128]⟩
abbrev S4616x1024 : Shape := ⟨2, ![4616, 1024]⟩
abbrev S1536x1024 : Shape := ⟨2, ![1536, 1024]⟩
abbrev S3072x1024 : Shape := ⟨2, ![3072, 1024]⟩
abbrev S8x1024 : Shape := ⟨2, ![8, 1024]⟩
abbrev S120x1024 : Shape := ⟨2, ![120, 1024]⟩
abbrev S4736x1024 : Shape := ⟨2, ![4736, 1024]⟩
abbrev S16x1024x256 : Shape := ⟨3, ![16, 1024, 256]⟩
abbrev S16x512x256 : Shape := ⟨3, ![16, 512, 256]⟩
abbrev S4096x512 : Shape := ⟨2, ![4096, 512]⟩
abbrev S4096x128 : Shape := ⟨2, ![4096, 128]⟩
abbrev S4096x2048 : Shape := ⟨2, ![4096, 2048]⟩
abbrev S256x1024 : Shape := ⟨2, ![256, 1024]⟩
abbrev S1x1024x256 : Shape := ⟨3, ![1, 1024, 256]⟩
abbrev S1x512x256 : Shape := ⟨3, ![1, 512, 256]⟩
abbrev S256x512 : Shape := ⟨2, ![256, 512]⟩
abbrev S256x128 : Shape := ⟨2, ![256, 128]⟩
abbrev S256x2048 : Shape := ⟨2, ![256, 2048]⟩
abbrev S512x1024 : Shape := ⟨2, ![512, 1024]⟩
abbrev S1024x256 : Shape := ⟨2, ![1024, 256]⟩
abbrev S512x256 : Shape := ⟨2, ![512, 256]⟩
abbrev S1024x1024 : Shape := ⟨2, ![1024, 1024]⟩
abbrev S2048x1024 : Shape := ⟨2, ![2048, 1024]⟩

abbrev nBuf : Space → Nat
  | .hbm => 175
  | .vmem => 36
  | .smem => 0
  | _ => 0

abbrev hbmTy0_0 (i : Nat) : BufTy := match i % 128 with
  | 0 => ⟨S4096x1024, .f32⟩
  | 1 => ⟨S1x1024, .f32⟩
  | 2 => ⟨S1024x4616, .f32⟩
  | 3 => ⟨S1x8, .f32⟩
  | 4 => ⟨S1x64, .f32⟩
  | 5 => ⟨S1x64, .f32⟩
  | 6 => ⟨S2, .i32⟩
  | 7 => ⟨S2x1x1x1, .i32⟩
  | 8 => ⟨S1x1x2x1, .i32⟩
  | 9 => ⟨S2x1x2x1, .i32⟩
  | 10 => ⟨S2x1x2x1, .i32⟩
  | 11 => ⟨S2x1x2x1, .i1⟩
  | 12 => ⟨S2x64x2x64, .i1⟩
  | 13 => ⟨S128x128, .i1⟩
  | 14 => ⟨S128x128, .bf16⟩
  | 15 => ⟨S256, .i32⟩
  | 16 => ⟨S1x256, .i32⟩
  | 17 => ⟨S256, .i32⟩
  | 18 => ⟨S256x1, .i32⟩
  | 19 => ⟨S256x256, .i32⟩
  | 20 => ⟨S256x256, .i32⟩
  | 21 => ⟨S256x256, .i1⟩
  | 22 => ⟨S256x256, .bf16⟩
  | 23 => ⟨S1x1x1x64, .f32⟩
  | 24 => ⟨S1x1x8x64, .f32⟩
  | 25 => ⟨S1x512, .f32⟩
  | 26 => ⟨S1x1x1x64, .f32⟩
  | 27 => ⟨S1x1x8x64, .f32⟩
  | 28 => ⟨S1x512, .f32⟩
  | 29 => ⟨S_, .i32⟩
  | 30 => ⟨S_, .f32⟩
  | 31 => ⟨S1x128, .f32⟩
  | 32 => ⟨S128, .i32⟩
  | 33 => ⟨S128x1x1, .i32⟩
  | 34 => ⟨S8, .i32⟩
  | 35 => ⟨S1x8x1, .i32⟩
  | 36 => ⟨S128, .i32⟩
  | 37 => ⟨S1x1x128, .i32⟩
  | 38 => ⟨S_, .i32⟩
  | 39 => ⟨S128x1x1, .i32⟩
  | 40 => ⟨S128x1x1, .i32⟩
  | 41 => ⟨S128x8x1, .i32⟩
  | 42 => ⟨S128x8x1, .i32⟩
  | 43 => ⟨S128x8x1, .i1⟩
  | 44 => ⟨S_, .i32⟩
  | 45 => ⟨S1x1x128, .i32⟩
  | 46 => ⟨S1x1x128, .i1⟩
  | 47 => ⟨S128x8x128, .i1⟩
  | 48 => ⟨S128x8x128, .i1⟩
  | 49 => ⟨S128x8x128, .i1⟩
  | 50 => ⟨S128x8x128, .f32⟩
  | 51 => ⟨S_, .f32⟩
  | 52 => ⟨S128x8x128, .f32⟩
  | 53 => ⟨S128x8x128, .f32⟩
  | 54 => ⟨S_, .i32⟩
  | 55 => ⟨S128x1x1, .i32⟩
  | 56 => ⟨S128x1x1, .i32⟩
  | 57 => ⟨S128x8x1, .i32⟩
  | 58 => ⟨S128x8x1, .i32⟩
  | 59 => ⟨S128x8x1, .i1⟩
  | 60 => ⟨S_, .i32⟩
  | 61 => ⟨S1x1x128, .i32⟩
  | 62 => ⟨S1x1x128, .i1⟩
  | 63 => ⟨S128x8x128, .i1⟩
  | 64 => ⟨S128x8x128, .i1⟩
  | 65 => ⟨S128x8x128, .i1⟩
  | 66 => ⟨S128x8x128, .f32⟩
  | 67 => ⟨S128x8x128, .f32⟩
  | 68 => ⟨S_, .i32⟩
  | 69 => ⟨S128x1x1, .i32⟩
  | 70 => ⟨S128x1x1, .i32⟩
  | 71 => ⟨S128x8x1, .i32⟩
  | 72 => ⟨S128x8x1, .i32⟩
  | 73 => ⟨S128x8x1, .i1⟩
  | 74 => ⟨S_, .i32⟩
  | 75 => ⟨S1x1x128, .i32⟩
  | 76 => ⟨S1x1x128, .i1⟩
  | 77 => ⟨S128x8x128, .i1⟩
  | 78 => ⟨S128x8x128, .i1⟩
  | 79 => ⟨S128x8x128, .i1⟩
  | 80 => ⟨S128x8x128, .f32⟩
  | 81 => ⟨S128x8x128, .f32⟩
  | 82 => ⟨S_, .f32⟩
  | 83 => ⟨S128x8x128, .f32⟩
  | 84 => ⟨S128x8x128, .f32⟩
  | 85 => ⟨S128x1024, .f32⟩
  | 86 => ⟨S128x1024, .bf16⟩
  | 87 => ⟨S_, .i32⟩
  | 88 => ⟨S128x1x1, .i32⟩
  | 89 => ⟨S128x1x1, .i32⟩
  | 90 => ⟨S128x8x1, .i32⟩
  | 91 => ⟨S128x8x1, .i32⟩
  | 92 => ⟨S128x8x1, .i1⟩
  | 93 => ⟨S_, .i32⟩
  | 94 => ⟨S1x1x128, .i32⟩
  | 95 => ⟨S1x1x128, .i1⟩
  | 96 => ⟨S128x8x128, .i1⟩
  | 97 => ⟨S128x8x128, .i1⟩
  | 98 => ⟨S128x8x128, .i1⟩
  | 99 => ⟨S128x8x128, .f32⟩
  | 100 => ⟨S_, .f32⟩
  | 101 => ⟨S128x8x128, .f32⟩
  | 102 => ⟨S128x8x128, .f32⟩
  | 103 => ⟨S_, .i32⟩
  | 104 => ⟨S128x1x1, .i32⟩
  | 105 => ⟨S128x1x1, .i32⟩
  | 106 => ⟨S128x8x1, .i32⟩
  | 107 => ⟨S128x8x1, .i32⟩
  | 108 => ⟨S128x8x1, .i1⟩
  | 109 => ⟨S_, .i32⟩
  | 110 => ⟨S1x1x128, .i32⟩
  | 111 => ⟨S1x1x128, .i1⟩
  | 112 => ⟨S128x8x128, .i1⟩
  | 113 => ⟨S128x8x128, .i1⟩
  | 114 => ⟨S128x8x128, .i1⟩
  | 115 => ⟨S128x8x128, .f32⟩
  | 116 => ⟨S128x8x128, .f32⟩
  | 117 => ⟨S_, .i32⟩
  | 118 => ⟨S128x1x1, .i32⟩
  | 119 => ⟨S128x1x1, .i32⟩
  | 120 => ⟨S128x8x1, .i32⟩
  | 121 => ⟨S128x8x1, .i32⟩
  | 122 => ⟨S128x8x1, .i1⟩
  | 123 => ⟨S_, .i32⟩
  | 124 => ⟨S1x1x128, .i32⟩
  | 125 => ⟨S1x1x128, .i1⟩
  | 126 => ⟨S128x8x128, .i1⟩
  | 127 => ⟨S128x8x128, .i1⟩
  | _ => ⟨S4096x1024, .f32⟩

abbrev hbmTy0_1 (i : Nat) : BufTy := match i % 128 with
  | 0 => ⟨S128x8x128, .i1⟩
  | 1 => ⟨S128x8x128, .f32⟩
  | 2 => ⟨S128x8x128, .f32⟩
  | 3 => ⟨S_, .f32⟩
  | 4 => ⟨S128x8x128, .f32⟩
  | 5 => ⟨S128x8x128, .f32⟩
  | 6 => ⟨S128x1024, .f32⟩
  | 7 => ⟨S128x1024, .bf16⟩
  | 8 => ⟨S_, .i32⟩
  | 9 => ⟨S1x1x128, .i32⟩
  | 10 => ⟨S1x1x128, .i1⟩
  | 11 => ⟨S_, .i32⟩
  | 12 => ⟨S1x1x128, .i32⟩
  | 13 => ⟨S1x1x128, .i1⟩
  | 14 => ⟨S1x1x128, .i1⟩
  | 15 => ⟨S1x8x128, .i1⟩
  | 16 => ⟨S1x1024, .i1⟩
  | 17 => ⟨S1x1024, .f32⟩
  | 18 => ⟨S_, .i32⟩
  | 19 => ⟨S1x1x128, .i32⟩
  | 20 => ⟨S1x1x128, .i1⟩
  | 21 => ⟨S_, .i32⟩
  | 22 => ⟨S1x1x128, .i32⟩
  | 23 => ⟨S1x1x128, .i1⟩
  | 24 => ⟨S1x1x128, .i1⟩
  | 25 => ⟨S1x8x128, .i1⟩
  | 26 => ⟨S1x1024, .i1⟩
  | 27 => ⟨S1x1024, .f32⟩
  | 28 => ⟨S4616x1024, .f32⟩
  | 29 => ⟨S1536x1024, .f32⟩
  | 30 => ⟨S3072x1024, .f32⟩
  | 31 => ⟨S8x1024, .f32⟩
  | 32 => ⟨S_, .f32⟩
  | 33 => ⟨S120x1024, .f32⟩
  | 34 => ⟨S4736x1024, .f32⟩
  | 35 => ⟨S4736x1024, .bf16⟩
  | 36 => ⟨S4096x1024, .bf16⟩
  | 37 => ⟨S4096x1024, .bf16⟩
  | 38 => ⟨S4096x1024, .bf16⟩
  | 39 => ⟨S16x1024x256, .bf16⟩
  | 40 => ⟨S4096x1024, .bf16⟩
  | 41 => ⟨S16x512x256, .bf16⟩
  | 42 => ⟨S4096x512, .bf16⟩
  | 43 => ⟨S4096x512, .bf16⟩
  | 44 => ⟨S4096x128, .f32⟩
  | 45 => ⟨S4096x1024, .bf16⟩
  | 46 => ⟨S4096x2048, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4736x1024, .bf16⟩
  | .local _ .vmem, ⟨4, _⟩ => ⟨S128x128, .bf16⟩
  | .local _ .vmem, ⟨5, _⟩ => ⟨S1x512, .f32⟩
  | .local _ .vmem, ⟨6, _⟩ => ⟨S1x512, .f32⟩
  | .local _ .vmem, ⟨7, _⟩ => ⟨S1x128, .f32⟩
  | .local _ .vmem, ⟨8, _⟩ => ⟨S256x256, .bf16⟩
  | .local _ .vmem, ⟨9, _⟩ => ⟨S128x1024, .bf16⟩
  | .local _ .vmem, ⟨10, _⟩ => ⟨S128x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S1x1024x256, .bf16⟩
  | .local _ .vmem, ⟨20, _⟩ => ⟨S1x1024x256, .bf16⟩
  | .local _ .vmem, ⟨21, _⟩ => ⟨S256x1024, .bf16⟩
  | .local _ .vmem, ⟨22, _⟩ => ⟨S256x1024, .bf16⟩
  | .local _ .vmem, ⟨23, _⟩ => ⟨S1x512x256, .bf16⟩
  | .local _ .vmem, ⟨24, _⟩ => ⟨S1x512x256, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x128, .f32⟩
  | .local _ .vmem, ⟨30, _⟩ => ⟨S256x128, .f32⟩
  | .local _ .vmem, ⟨31, _⟩ => ⟨S256x1024, .bf16⟩
  | .local _ .vmem, ⟨32, _⟩ => ⟨S256x1024, .bf16⟩
  | .local _ .vmem, ⟨33, _⟩ => ⟨S256x2048, .bf16⟩
  | .local _ .vmem, ⟨34, _⟩ => ⟨S256x2048, .bf16⟩
  | .local _ .vmem, ⟨35, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_1 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_c_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_3 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c_4 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_c_5 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_6 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_c_7 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_c_8 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_9 : Ref sig .tc := ⟨.hbm, 100, rfl⟩
abbrev main_v82 : Ref sig .tc := ⟨.hbm, 101, rfl⟩
abbrev main_v83 : Ref sig .tc := ⟨.hbm, 102, rfl⟩
abbrev main_c_10 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_c_11 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_c_12 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_c_13 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_cst_14 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_c_15 : Ref sig .tc := ⟨.hbm, 136, rfl⟩
abbrev main_v112 : Ref sig .tc := ⟨.hbm, 137, rfl⟩
abbrev main_v113 : Ref sig .tc := ⟨.hbm, 138, rfl⟩
abbrev main_c_16 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_c_17 : Ref sig .tc := ⟨.hbm, 146, rfl⟩
abbrev main_v120 : Ref sig .tc := ⟨.hbm, 147, rfl⟩
abbrev main_v121 : Ref sig .tc := ⟨.hbm, 148, rfl⟩
abbrev main_c_18 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_cst_19 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135_0 : Ref sig .tc := ⟨.hbm, 164, rfl⟩
abbrev main_v135_1 : Ref sig .tc := ⟨.hbm, 165, rfl⟩
abbrev main_v135_2 : Ref sig .tc := ⟨.hbm, 166, rfl⟩
abbrev main_v135_3 : Ref sig .tc := ⟨.hbm, 167, rfl⟩
abbrev main_v135_4 : Ref sig .tc := ⟨.hbm, 168, rfl⟩
abbrev main_v135_5 : Ref sig .tc := ⟨.hbm, 169, rfl⟩
abbrev main_v135_6 : Ref sig .tc := ⟨.hbm, 170, rfl⟩
abbrev main_v135_7 : Ref sig .tc := ⟨.hbm, 171, rfl⟩
abbrev main_v135_8 : Ref sig .tc := ⟨.hbm, 172, rfl⟩
abbrev main_v135_9 : Ref sig .tc := ⟨.hbm, 173, rfl⟩
abbrev main_v135_10 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4736x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== TokReferenceIdeal.lean ====
abbrev S4096x1024 : Shape := ⟨2, ![4096, 1024]⟩
abbrev S1x1024 : Shape := ⟨2, ![1, 1024]⟩
abbrev S1024x4616 : Shape := ⟨2, ![1024, 4616]⟩
abbrev S1x8 : Shape := ⟨2, ![1, 8]⟩
abbrev S1x64 : Shape := ⟨2, ![1, 64]⟩
abbrev S_ : Shape := ⟨0, ![]⟩
abbrev S4096 : Shape := ⟨1, ![4096]⟩
abbrev S4096x1 : Shape := ⟨2, ![4096, 1]⟩
abbrev S4096x4616 : Shape := ⟨2, ![4096, 4616]⟩
abbrev S4096x512 : Shape := ⟨2, ![4096, 512]⟩
abbrev S4096x8x64 : Shape := ⟨3, ![4096, 8, 64]⟩
abbrev S4096x8 : Shape := ⟨2, ![4096, 8]⟩
abbrev S4096x8x1 : Shape := ⟨3, ![4096, 8, 1]⟩
abbrev S1x1x64 : Shape := ⟨3, ![1, 1, 64]⟩
abbrev S1x4096 : Shape := ⟨2, ![1, 4096]⟩
abbrev S4096x4096 : Shape := ⟨2, ![4096, 4096]⟩
abbrev S4096x8x2 : Shape := ⟨3, ![4096, 8, 2]⟩
abbrev S4096x8x3 : Shape := ⟨3, ![4096, 8, 3]⟩
abbrev S4096x8x58 : Shape := ⟨3, ![4096, 8, 58]⟩
abbrev S4096x8x128 : Shape := ⟨3, ![4096, 8, 128]⟩
abbrev S4096x8x60 : Shape := ⟨3, ![4096, 8, 60]⟩
abbrev S16x256x1024 : Shape := ⟨3, ![16, 256, 1024]⟩
abbrev S16x1024x256 : Shape := ⟨3, ![16, 1024, 256]⟩
abbrev S16x256x512 : Shape := ⟨3, ![16, 256, 512]⟩
abbrev S16x512x256 : Shape := ⟨3, ![16, 512, 256]⟩
abbrev S4096x128 : Shape := ⟨2, ![4096, 128]⟩
abbrev S4096x2048 : Shape := ⟨2, ![4096, 2048]⟩

abbrev nBuf : Space → Nat
  | .hbm => 139
  | .vmem => 0
  | .smem => 0
  | _ => 0

abbrev hbmTy0_0 (i : Nat) : BufTy := match i % 128 with
  | 0 => ⟨S4096x1024, .f32⟩
  | 1 => ⟨S1x1024, .f32⟩
  | 2 => ⟨S1024x4616, .f32⟩
  | 3 => ⟨S1x8, .f32⟩
  | 4 => ⟨S1x64, .f32⟩
  | 5 => ⟨S1x64, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1024, .f32⟩
  | 18 => ⟨S4096x1024, .f32⟩
  | 19 => ⟨S4096x1024, .f32⟩
  | 20 => ⟨S4096x1024, .f32⟩
  | 21 => ⟨S4096x4616, .f32⟩
  | 22 => ⟨S4096x512, .f32⟩
  | 23 => ⟨S4096x8x64, .f32⟩
  | 24 => ⟨S4096x8x64, .f32⟩
  | 25 => ⟨S_, .f32⟩
  | 26 => ⟨S4096x8, .f32⟩
  | 27 => ⟨S4096x8x1, .f32⟩
  | 28 => ⟨S_, .f32⟩
  | 29 => ⟨S4096x8x1, .f32⟩
  | 30 => ⟨S4096x8x1, .f32⟩
  | 31 => ⟨S_, .f32⟩
  | 32 => ⟨S4096x8x1, .f32⟩
  | 33 => ⟨S4096x8x1, .f32⟩
  | 34 => ⟨S4096x8x1, .f32⟩
  | 35 => ⟨S4096x8x64, .f32⟩
  | 36 => ⟨S4096x8x64, .f32⟩
  | 37 => ⟨S1x1x64, .f32⟩
  | 38 => ⟨S4096x8x64, .f32⟩
  | 39 => ⟨S4096x8x64, .f32⟩
  | 40 => ⟨S4096x512, .f32⟩
  | 41 => ⟨S4096x8x64, .f32⟩
  | 42 => ⟨S4096x8x64, .f32⟩
  | 43 => ⟨S_, .f32⟩
  | 44 => ⟨S4096x8, .f32⟩
  | 45 => ⟨S4096x8x1, .f32⟩
  | 46 => ⟨S_, .f32⟩
  | 47 => ⟨S4096x8x1, .f32⟩
  | 48 => ⟨S4096x8x1, .f32⟩
  | 49 => ⟨S_, .f32⟩
  | 50 => ⟨S4096x8x1, .f32⟩
  | 51 => ⟨S4096x8x1, .f32⟩
  | 52 => ⟨S4096x8x1, .f32⟩
  | 53 => ⟨S4096x8x64, .f32⟩
  | 54 => ⟨S4096x8x64, .f32⟩
  | 55 => ⟨S1x1x64, .f32⟩
  | 56 => ⟨S4096x8x64, .f32⟩
  | 57 => ⟨S4096x8x64, .f32⟩
  | 58 => ⟨S4096x512, .f32⟩
  | 59 => ⟨S4096x8x64, .f32⟩
  | 60 => ⟨S4096x8, .f32⟩
  | 61 => ⟨S4096x8, .f32⟩
  | 62 => ⟨S4096x8, .f32⟩
  | 63 => ⟨S4096x8, .f32⟩
  | 64 => ⟨S_, .f32⟩
  | 65 => ⟨S4096x8, .f32⟩
  | 66 => ⟨S4096x8, .f32⟩
  | 67 => ⟨S4096x8, .f32⟩
  | 68 => ⟨S4096x8, .f32⟩
  | 69 => ⟨S4096x8, .i1⟩
  | 70 => ⟨S4096x8, .f32⟩
  | 71 => ⟨S4096x8, .f32⟩
  | 72 => ⟨S4096x8, .f32⟩
  | 73 => ⟨S4096x8, .f32⟩
  | 74 => ⟨S4096x8, .f32⟩
  | 75 => ⟨S4096x8, .f32⟩
  | 76 => ⟨S4096x8, .f32⟩
  | 77 => ⟨S4096x8, .f32⟩
  | 78 => ⟨S4096x8, .f32⟩
  | 79 => ⟨S4096, .i32⟩
  | 80 => ⟨S1x4096, .i32⟩
  | 81 => ⟨S4096, .i32⟩
  | 82 => ⟨S4096x1, .i32⟩
  | 83 => ⟨S4096x4096, .i32⟩
  | 84 => ⟨S4096x4096, .i32⟩
  | 85 => ⟨S4096x4096, .i1⟩
  | 86 => ⟨S4096x4096, .f32⟩
  | 87 => ⟨S4096x8, .f32⟩
  | 88 => ⟨S_, .f32⟩
  | 89 => ⟨S4096x8, .f32⟩
  | 90 => ⟨S4096x8, .f32⟩
  | 91 => ⟨S4096x8x1, .f32⟩
  | 92 => ⟨S_, .f32⟩
  | 93 => ⟨S4096x8x64, .f32⟩
  | 94 => ⟨S4096x8x64, .f32⟩
  | 95 => ⟨S_, .f32⟩
  | 96 => ⟨S4096x8x64, .f32⟩
  | 97 => ⟨S4096x8x64, .f32⟩
  | 98 => ⟨S_, .f32⟩
  | 99 => ⟨S4096x8x2, .f32⟩
  | 100 => ⟨S_, .f32⟩
  | 101 => ⟨S4096x8x3, .f32⟩
  | 102 => ⟨S_, .f32⟩
  | 103 => ⟨S4096x8x58, .f32⟩
  | 104 => ⟨S4096x8x128, .f32⟩
  | 105 => ⟨S4096x1024, .f32⟩
  | 106 => ⟨S_, .f32⟩
  | 107 => ⟨S4096x8x3, .f32⟩
  | 108 => ⟨S4096x8x1, .f32⟩
  | 109 => ⟨S_, .f32⟩
  | 110 => ⟨S4096x8x60, .f32⟩
  | 111 => ⟨S4096x8x128, .f32⟩
  | 112 => ⟨S4096x1024, .f32⟩
  | 113 => ⟨S_, .f32⟩
  | 114 => ⟨S4096x8x64, .f32⟩
  | 115 => ⟨S4096x8x128, .f32⟩
  | 116 => ⟨S4096x1024, .f32⟩
  | 117 => ⟨S4096x1024, .bf16⟩
  | 118 => ⟨S4096x1024, .bf16⟩
  | 119 => ⟨S4096x1024, .bf16⟩
  | 120 => ⟨S16x256x1024, .f32⟩
  | 121 => ⟨S16x1024x256, .f32⟩
  | 122 => ⟨S16x1024x256, .bf16⟩
  | 123 => ⟨S4096x1024, .bf16⟩
  | 124 => ⟨S4096x512, .f32⟩
  | 125 => ⟨S16x256x512, .f32⟩
  | 126 => ⟨S16x512x256, .f32⟩
  | 127 => ⟨S16x512x256, .bf16⟩
  | _ => ⟨S4096x1024, .f32⟩

abbrev hbmTy0_1 (i : Nat) : BufTy := match i % 128 with
  | 0 => ⟨S4096x512, .f32⟩
  | 1 => ⟨S4096x512, .bf16⟩
  | 2 => ⟨S4096x512, .f32⟩
  | 3 => ⟨S4096x512, .bf16⟩
  | 4 => ⟨S_, .i32⟩
  | 5 => ⟨S_, .f32⟩
  | 6 => ⟨S4096x128, .f32⟩
  | 7 => ⟨S4096x1024, .f32⟩
  | 8 => ⟨S4096x1024, .bf16⟩
  | 9 => ⟨S4096x2048, .f32⟩
  | 10 => ⟨S4096x2048, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call0_v0 : Ref sig .tc := ⟨.hbm, 63, rfl⟩
abbrev main_call0_call0_cst : Ref sig .tc := ⟨.hbm, 64, rfl⟩
abbrev main_call0_call0_v0 : Ref sig .tc := ⟨.hbm, 65, rfl⟩
abbrev main_call0_call0_v1 : Ref sig .tc := ⟨.hbm, 66, rfl⟩
abbrev main_call0_call0_v2 : Ref sig .tc := ⟨.hbm, 67, rfl⟩
abbrev main_call0_call0_v3 : Ref sig .tc := ⟨.hbm, 68, rfl⟩
abbrev main_call0_call0_v4 : Ref sig .tc := ⟨.hbm, 69, rfl⟩
abbrev main_call0_call0_v5 : Ref sig .tc := ⟨.hbm, 70, rfl⟩
abbrev main_call0_call0_v6 : Ref sig .tc := ⟨.hbm, 71, rfl⟩
abbrev main_call0_call0_v7 : Ref sig .tc := ⟨.hbm, 72, rfl⟩
abbrev main_call0_call0_v8 : Ref sig .tc := ⟨.hbm, 73, rfl⟩
abbrev main_call0_call0_v9 : Ref sig .tc := ⟨.hbm, 74, rfl⟩
abbrev main_call0_call0_v10 : Ref sig .tc := ⟨.hbm, 75, rfl⟩
abbrev main_call0_call0_v11 : Ref sig .tc := ⟨.hbm, 76, rfl⟩
abbrev main_call0_v1 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_cst_11 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_cst_13 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_cst_15 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c : Ref sig .tc := ⟨.hbm, 132, rfl⟩
abbrev main_call1_v0 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩

abbrev nD : Nat := 1
abbrev τ : Topo := Topo.v7x

variable {F : FTy → Type} [FloatOps F]
-- ==== Proof.Dw.Down.lean ====
/- The weight gradient of the down projection: the blocked product over the tokens is the gradient of the plain product. -/
module
public import proofs.«01_k».proof.Proof.Gen.DownKernelIdeal.Value
public import proofs.«01_k».proof.Proof.Gen.DownReferenceIdeal.Read
public import proofs.«01_k».proof.Proof.Gen.DownReferenceIdeal.Run
public import Idealize.ShloMosaic.Lib.Pipeline.ValueKit
public import Idealize.ShloMosaic.Lib.Pointwise
public import proofs.«01_k».proof.Defs
@[expose] public section
set_option maxRecDepth 16384
noncomputable section
open Idealize.ShloMosaic Idealize.ShloMosaic.TcCoe Idealize.SL.Sem

namespace Cert.DownKernelIdeal.Value
open Cert.DownKernelIdeal Cert.DownKernelIdeal.Gen
variable (m : (ℓ : Loc nD τ sig) → Buf (Elt Ideal) ℓ)

/-- The index maps of the windows. -/
theorem idx : ∀ t : Fin cfg0.N, win0_0.index t = ![t.val, 0] ∧ win0_1.index t = ![0, 0] ∧ win0_2.index t = ![t.val, 0] ∧ t.val < 4 :=
  (by decide +kernel : ∀ t : Fin grid0.N, _)

/-- Row `i` of point `t`'s block. -/
def row (t : Fin cfg0.N) (i : Fin 704) : Fin 2816 := ⟨t.val * 704 + i.val, by have := (idx t).2.2.2; omega⟩

theorem b0 (c : Dev nD) (t : Fin cfg0.N) (i : Fin 704) (k : Fin 4096) :
    iblk m c 0 t (ix2 i k) = m ((c : Thread nD τ).loc main_arg0) (ix2 (row t i) k) := by
  unfold row
  blk_ext [iblk, V, idx t]
theorem b1 (c : Dev nD) (t : Fin cfg0.N) (i : Fin 4096) (k : Fin 1024) :
    iblk m c 1 t (ix2 i k) = m ((c : Thread nD τ).loc main_arg1) (ix2 i k) := by
  blk_ext [iblk, V, idx t]

/-- One block's payload is the product over all tokens. -/
theorem pay (x0 : Vec Ideal S704x4096 .bf16) (x1 : Vec Ideal S4096x1024 .bf16) (i : Fin 704) (k : Fin 1024) :
    k0_pay1 x0 x1 (ix2 i k) = ∑ s : Fin 4096, x0 (ix2 i s) * x1 (ix2 s k) := by
  pointwise [k0_pay1]

/-- The products of the rows of one array with the columns of another, over all tokens. -/
def prod (A : FVec Ideal S2816x4096 .bf16) (B : FVec Ideal S4096x1024 .bf16) : FVec Ideal S2816x1024 .bf16 :=
  fun i => ∑ s : Fin 4096, A (ix2 (i 0) s) * B (ix2 s (i 1))

theorem q (c : Dev nD) (t : Fin cfg0.N) (i : Fin 704) (k : Fin 1024) : k0_pay1 (iblk m c 0 t) (iblk m c 1 t) (ix2 i k)
    = prod (m ((c : Thread nD τ).loc main_arg0)) (m ((c : Thread nD τ).loc main_arg1)) (ix2 (row t i) k) :=
  (pay _ _ i k).trans (Finset.sum_congr rfl fun s _ => by rw [b0, b1]; rfl)

/-- The result array holds the products over all tokens. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf z => ?_
  blk_simp
  rw [after0_2]
  have e : ∀ z : S704x1024.Idx, (((View.whole main_v0).slice (win0_2.rect t)).emb z) = ix2 (row t (z 0)) (z 1) := by
    intro z; unfold row; blk_ext [idx t]
  rw [e]
  have pt : ∀ z : S704x1024.Idx, k0_pay1 (iblk m c 0 t) (iblk m c 1 t) z = _ := fun z => (congrArg _ (eq_ix2 z)).trans (q m c t (z 0) (z 1))
  frame_out
  exact pt z

end Cert.DownKernelIdeal.Value

namespace Cert.DownReferenceIdeal.Value
open Cert.DownReferenceIdeal Cert.DownReferenceIdeal.Gen Cert.DownReferenceIdeal.Read

/-- The gradient of the plain product, entry by entry. -/
theorem value (X0 : FVec Ideal S2816x4096 .bf16) (X1 : FVec Ideal S4096x1024 .bf16) (i : Fin 2816) (k : Fin 1024) :
    val_main_v7 (F := Ideal) X0 X1 (ix2 i k) = ∑ s : Fin 4096, X0 (ix2 i s) * X1 (ix2 s k) := by
  pointwise [val_main_v7, val_main_v6, val_main_v5, val_main_v4, val_main_v3, val_main_cst, val_main_v2, val_main_v1, val_main_v0]
  exact Finset.sum_congr rfl fun s _ => mul_comm _ _

/-- The reference keeps its arguments and ends with every counter at zero. -/
theorem frame : Cert.quiescent_DownReferenceIdeal := fun m ρ _ => (θ_run Cert.DownReferenceIdeal.defs _ _).mono
    (fun r h => ⟨fun c => (h c).2, sem_eq_zero_of_no_sems (by decide) r.2⟩) (Cert.DownReferenceIdeal.Value.run (F := Ideal) m ρ)

/-- Both programs run to the end, return equal results and leave their arguments unchanged. -/
theorem algebraic : Cert.algebraic_DownKernelIdeal_DownReferenceIdeal := by
  intro m g m' g' _ hag
  refine ⟨_, Cert.DownKernelIdeal.Value.run_blocks m g, ?_⟩
  refine (θ_run _ _ _).mono (fun r h c => ⟨(h c).1.trans ?_, (h c).2⟩) (Cert.DownReferenceIdeal.Value.run m' g')
  refine Eq.trans ?_ (Cert.DownKernelIdeal.Value.final m c).symm
  obtain ⟨e0, e1⟩ := hag c
  refine (val_main_v7_eq _ _).trans (funext fun z => ?_)
  rw [e0, e1]
  exact (congrArg _ (eq_ix2 z)).trans (value _ _ (z 0) (z 1))

end Cert.DownReferenceIdeal.Value
end
end
-- ==== Proof.Dw.FfnIn.lean ====
/- The weight gradient of the gated projection: the blocked product over the tokens is the gradient of the plain product. -/
module
public import proofs.«01_k».proof.Proof.Gen.FfnInKernelIdeal.Value
public import proofs.«01_k».proof.Proof.Gen.FfnInReferenceIdeal.Read
public import proofs.«01_k».proof.Proof.Gen.FfnInReferenceIdeal.Run
public import Idealize.ShloMosaic.Lib.Pipeline.ValueKit
public import Idealize.ShloMosaic.Lib.Pointwise
public import proofs.«01_k».proof.Defs
@[expose] public section
set_option maxRecDepth 16384
noncomputable section
open Idealize.ShloMosaic Idealize.ShloMosaic.TcCoe Idealize.SL.Sem

namespace Cert.FfnInKernelIdeal.Value
open Cert.FfnInKernelIdeal Cert.FfnInKernelIdeal.Gen
variable (m : (ℓ : Loc nD τ sig) → Buf (Elt Ideal) ℓ)

/-- The index maps of the windows. -/
theorem idx : ∀ t : Fin cfg0.N, win0_0.index t = ![t.val, 0] ∧ win0_1.index t = ![0, 0] ∧ win0_2.index t = ![t.val, 0] ∧ t.val < 8 :=
  (by decide +kernel : ∀ t : Fin grid0.N, _)

/-- Row `i` of point `t`'s block. -/
def row (t : Fin cfg0.N) (i : Fin 704) : Fin 5632 := ⟨t.val * 704 + i.val, by have := (idx t).2.2.2; omega⟩

theorem b0 (c : Dev nD) (t : Fin cfg0.N) (i : Fin 704) (k : Fin 4096) :
    iblk m c 0 t (ix2 i k) = m ((c : Thread nD τ).loc main_arg0) (ix2 (row t i) k) := by
  unfold row
  blk_ext [iblk, V, idx t]
theorem b1 (c : Dev nD) (t : Fin cfg0.N) (i : Fin 4096) (k : Fin 1024) :
    iblk m c 1 t (ix2 i k) = m ((c : Thread nD τ).loc main_arg1) (ix2 i k) := by
  blk_ext [iblk, V, idx t]

/-- One block's payload is the product over all tokens. -/
theorem pay (x0 : Vec Ideal S704x4096 .bf16) (x1 : Vec Ideal S4096x1024 .bf16) (i : Fin 704) (k : Fin 1024) :
    k0_pay1 x0 x1 (ix2 i k) = ∑ s : Fin 4096, x0 (ix2 i s) * x1 (ix2 s k) := by
  pointwise [k0_pay1]

/-- The products of the rows of one array with the columns of another, over all tokens. -/
def prod (A : FVec Ideal S5632x4096 .bf16) (B : FVec Ideal S4096x1024 .bf16) : FVec Ideal S5632x1024 .bf16 :=
  fun i => ∑ s : Fin 4096, A (ix2 (i 0) s) * B (ix2 s (i 1))

theorem q (c : Dev nD) (t : Fin cfg0.N) (i : Fin 704) (k : Fin 1024) : k0_pay1 (iblk m c 0 t) (iblk m c 1 t) (ix2 i k)
    = prod (m ((c : Thread nD τ).loc main_arg0)) (m ((c : Thread nD τ).loc main_arg1)) (ix2 (row t i) k) :=
  (pay _ _ i k).trans (Finset.sum_congr rfl fun s _ => by rw [b0, b1]; rfl)

/-- The result array holds the products over all tokens. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf z => ?_
  blk_simp
  rw [after0_2]
  have e : ∀ z : S704x1024.Idx, (((View.whole main_v0).slice (win0_2.rect t)).emb z) = ix2 (row t (z 0)) (z 1) := by
    intro z; unfold row; blk_ext [idx t]
  rw [e]
  have pt : ∀ z : S704x1024.Idx, k0_pay1 (iblk m c 0 t) (iblk m c 1 t) z = _ := fun z => (congrArg _ (eq_ix2 z)).trans (q m c t (z 0) (z 1))
  frame_out
  exact pt z

end Cert.FfnInKernelIdeal.Value

namespace Cert.FfnInReferenceIdeal.Value
open Cert.FfnInReferenceIdeal Cert.FfnInReferenceIdeal.Gen Cert.FfnInReferenceIdeal.Read

/-- The gradient of the plain product, entry by entry. -/
theorem value (X0 : FVec Ideal S5632x4096 .bf16) (X1 : FVec Ideal S4096x1024 .bf16) (i : Fin 5632) (k : Fin 1024) :
    val_main_v8 (F := Ideal) X0 X1 (ix2 i k) = ∑ s : Fin 4096, X0 (ix2 i s) * X1 (ix2 s k) := by
  pointwise [val_main_v8, val_main_v7, val_main_v6, val_main_v5, val_main_v4, val_main_v3, val_main_cst, val_main_v2, val_main_v1, val_main_v0]

/-- The reference keeps its arguments and ends with every counter at zero. -/
theorem frame : Cert.quiescent_FfnInReferenceIdeal := fun m ρ _ => (θ_run Cert.FfnInReferenceIdeal.defs _ _).mono
    (fun r h => ⟨fun c => (h c).2, sem_eq_zero_of_no_sems (by decide) r.2⟩) (Cert.FfnInReferenceIdeal.Value.run (F := Ideal) m ρ)

/-- Both programs run to the end, return equal results and leave their arguments unchanged. -/
theorem algebraic : Cert.algebraic_FfnInKernelIdeal_FfnInReferenceIdeal := by
  intro m g m' g' _ hag
  refine ⟨_, Cert.FfnInKernelIdeal.Value.run_blocks m g, ?_⟩
  refine (θ_run _ _ _).mono (fun r h c => ⟨(h c).1.trans ?_, (h c).2⟩) (Cert.FfnInReferenceIdeal.Value.run m' g')
  refine Eq.trans ?_ (Cert.FfnInKernelIdeal.Value.final m c).symm
  obtain ⟨e0, e1⟩ := hag c
  refine (val_main_v8_eq _ _).trans (funext fun z => ?_)
  rw [e0, e1]
  exact (congrArg _ (eq_ix2 z)).trans (value _ _ (z 0) (z 1))

end Cert.FfnInReferenceIdeal.Value
end
end
-- ==== Proof.Dw.Out.lean ====
/- The weight gradient of the output projection: the blocked product over the tokens is the gradient of the plain product. -/
module
public import proofs.«01_k».proof.Proof.Gen.OutKernelIdeal.Value
public import proofs.«01_k».proof.Proof.Gen.OutReferenceIdeal.Read
public import proofs.«01_k».proof.Proof.Gen.OutReferenceIdeal.Run
public import Idealize.ShloMosaic.Lib.Pipeline.ValueKit
public import Idealize.ShloMosaic.Lib.Pointwise
public import proofs.«01_k».proof.Defs
@[expose] public section
set_option maxRecDepth 16384
noncomputable section
open Idealize.ShloMosaic Idealize.ShloMosaic.TcCoe Idealize.SL.Sem

namespace Cert.OutKernelIdeal.Value
open Cert.OutKernelIdeal Cert.OutKernelIdeal.Gen
variable (m : (ℓ : Loc nD τ sig) → Buf (Elt Ideal) ℓ)

/-- The index maps of the windows. -/
theorem idx : ∀ t : Fin cfg0.N, win0_0.index t = ![t.val, 0] ∧ win0_1.index t = ![0, 0] ∧ win0_2.index t = ![t.val, 0] ∧ t.val < 2 :=
  (by decide +kernel : ∀ t : Fin grid0.N, _)

/-- Row `i` of point `t`'s block. -/
def row (t : Fin cfg0.N) (i : Fin 512) : Fin 1024 := ⟨t.val * 512 + i.val, by have := (idx t).2.2.2; omega⟩

theorem b0 (c : Dev nD) (t : Fin cfg0.N) (i : Fin 512) (k : Fin 4096) :
    iblk m c 0 t (ix2 i k) = m ((c : Thread nD τ).loc main_arg0) (ix2 (row t i) k) := by
  unfold row
  blk_ext [iblk, V, idx t]
theorem b1 (c : Dev nD) (t : Fin cfg0.N) (i : Fin 4096) (k : Fin 1024) :
    iblk m c 1 t (ix2 i k) = m ((c : Thread nD τ).loc main_arg1) (ix2 i k) := by
  blk_ext [iblk, V, idx t]

/-- One block's payload is the product over all tokens. -/
theorem pay (x0 : Vec Ideal S512x4096 .bf16) (x1 : Vec Ideal S4096x1024 .bf16) (i : Fin 512) (k : Fin 1024) :
    k0_pay1 x0 x1 (ix2 i k) = ∑ s : Fin 4096, x0 (ix2 i s) * x1 (ix2 s k) := by
  pointwise [k0_pay1]

/-- The products of the rows of one array with the columns of another, over all tokens. -/
def prod (A : FVec Ideal S1024x4096 .bf16) (B : FVec Ideal S4096x1024 .bf16) : FVec Ideal S1024x1024 .bf16 :=
  fun i => ∑ s : Fin 4096, A (ix2 (i 0) s) * B (ix2 s (i 1))

theorem q (c : Dev nD) (t : Fin cfg0.N) (i : Fin 512) (k : Fin 1024) : k0_pay1 (iblk m c 0 t) (iblk m c 1 t) (ix2 i k)
    = prod (m ((c : Thread nD τ).loc main_arg0)) (m ((c : Thread nD τ).loc main_arg1)) (ix2 (row t i) k) :=
  (pay _ _ i k).trans (Finset.sum_congr rfl fun s _ => by rw [b0, b1]; rfl)

/-- The result array holds the products over all tokens. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf z => ?_
  blk_simp
  rw [after0_2]
  have e : ∀ z : S512x1024.Idx, (((View.whole main_v0).slice (win0_2.rect t)).emb z) = ix2 (row t (z 0)) (z 1) := by
    intro z; unfold row; blk_ext [idx t]
  rw [e]
  have pt : ∀ z : S512x1024.Idx, k0_pay1 (iblk m c 0 t) (iblk m c 1 t) z = _ := fun z => (congrArg _ (eq_ix2 z)).trans (q m c t (z 0) (z 1))
  frame_out
  exact pt z

end Cert.OutKernelIdeal.Value

namespace Cert.OutReferenceIdeal.Value
open Cert.OutReferenceIdeal Cert.OutReferenceIdeal.Gen Cert.OutReferenceIdeal.Read

/-- The gradient of the plain product, entry by entry. -/
theorem value (X0 : FVec Ideal S1024x4096 .bf16) (X1 : FVec Ideal S4096x1024 .bf16) (i : Fin 1024) (k : Fin 1024) :
    val_main_v7 (F := Ideal) X0 X1 (ix2 i k) = ∑ s : Fin 4096, X0 (ix2 i s) * X1 (ix2 s k) := by
  pointwise [val_main_v7, val_main_v6, val_main_v5, val_main_v4, val_main_v3, val_main_cst, val_main_v2, val_main_v1, val_main_v0]
  exact Finset.sum_congr rfl fun s _ => mul_comm _ _

/-- The reference keeps its arguments and ends with every counter at zero. -/
theorem frame : Cert.quiescent_OutReferenceIdeal := fun m ρ _ => (θ_run Cert.OutReferenceIdeal.defs _ _).mono
    (fun r h => ⟨fun c => (h c).2, sem_eq_zero_of_no_sems (by decide) r.2⟩) (Cert.OutReferenceIdeal.Value.run (F := Ideal) m ρ)

/-- Both programs run to the end, return equal results and leave their arguments unchanged. -/
theorem algebraic : Cert.algebraic_OutKernelIdeal_OutReferenceIdeal := by
  intro m g m' g' _ hag
  refine ⟨_, Cert.OutKernelIdeal.Value.run_blocks m g, ?_⟩
  refine (θ_run _ _ _).mono (fun r h c => ⟨(h c).1.trans ?_, (h c).2⟩) (Cert.OutReferenceIdeal.Value.run m' g')
  refine Eq.trans ?_ (Cert.OutKernelIdeal.Value.final m c).symm
  obtain ⟨e0, e1⟩ := hag c
  refine (val_main_v7_eq _ _).trans (funext fun z => ?_)
  rw [e0, e1]
  exact (congrArg _ (eq_ix2 z)).trans (value _ _ (z 0) (z 1))

end Cert.OutReferenceIdeal.Value
end
end
-- ==== Proof.Dw.In.lean ====
/- The weight gradient of the input projection: the blocked product over the tokens is the gradient of the plain product. -/
module
public import proofs.«01_k».proof.Proof.Gen.InKernelIdeal.Value
public import proofs.«01_k».proof.Proof.Gen.InReferenceIdeal.Read
public import proofs.«01_k».proof.Proof.Gen.InReferenceIdeal.Run
public import Idealize.ShloMosaic.Lib.Pipeline.ValueKit
public import Idealize.ShloMosaic.Lib.Pointwise
public import proofs.«01_k».proof.Defs
@[expose] public section
set_option maxRecDepth 16384
noncomputable section
open Idealize.ShloMosaic Idealize.ShloMosaic.TcCoe Idealize.SL.Sem

namespace Cert.InKernelIdeal.Value
open Cert.InKernelIdeal Cert.InKernelIdeal.Gen
variable (m : (ℓ : Loc nD τ sig) → Buf (Elt Ideal) ℓ)

/-- The index maps of the windows. -/
theorem idx : ∀ t : Fin cfg0.N, win0_0.index t = ![t.val, 0] ∧ win0_1.index t = ![0, 0] ∧ win0_2.index t = ![t.val, 0] ∧ t.val < 8 :=
  (by decide +kernel : ∀ t : Fin grid0.N, _)

/-- Row `i` of point `t`'s block. -/
def row (t : Fin cfg0.N) (i : Fin 592) : Fin 4736 := ⟨t.val * 592 + i.val, by have := (idx t).2.2.2; omega⟩

theorem b0 (c : Dev nD) (t : Fin cfg0.N) (i : Fin 592) (k : Fin 4096) :
    iblk m c 0 t (ix2 i k) = m ((c : Thread nD τ).loc main_arg0) (ix2 (row t i) k) := by
  unfold row
  blk_ext [iblk, V, idx t]
theorem b1 (c : Dev nD) (t : Fin cfg0.N) (i : Fin 4096) (k : Fin 1024) :
    iblk m c 1 t (ix2 i k) = m ((c : Thread nD τ).loc main_arg1) (ix2 i k) := by
  blk_ext [iblk, V, idx t]

/-- One block's payload is the product over all tokens. -/
theorem pay (x0 : Vec Ideal S592x4096 .bf16) (x1 : Vec Ideal S4096x1024 .bf16) (i : Fin 592) (k : Fin 1024) :
    k0_pay1 x0 x1 (ix2 i k) = ∑ s : Fin 4096, x0 (ix2 i s) * x1 (ix2 s k) := by
  pointwise [k0_pay1]

/-- The products of the rows of one array with the columns of another, over all tokens. -/
def prod (A : FVec Ideal S4736x4096 .bf16) (B : FVec Ideal S4096x1024 .bf16) : FVec Ideal S4736x1024 .bf16 :=
  fun i => ∑ s : Fin 4096, A (ix2 (i 0) s) * B (ix2 s (i 1))

theorem q (c : Dev nD) (t : Fin cfg0.N) (i : Fin 592) (k : Fin 1024) : k0_pay1 (iblk m c 0 t) (iblk m c 1 t) (ix2 i k)
    = prod (m ((c : Thread nD τ).loc main_arg0)) (m ((c : Thread nD τ).loc main_arg1)) (ix2 (row t i) k) :=
  (pay _ _ i k).trans (Finset.sum_congr rfl fun s _ => by rw [b0, b1]; rfl)

/-- The result array holds the products over all tokens. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf z => ?_
  blk_simp
  rw [after0_2]
  have e : ∀ z : S592x1024.Idx, (((View.whole main_v0).slice (win0_2.rect t)).emb z) = ix2 (row t (z 0)) (z 1) := by
    intro z; unfold row; blk_ext [idx t]
  rw [e]
  have pt : ∀ z : S592x1024.Idx, k0_pay1 (iblk m c 0 t) (iblk m c 1 t) z = _ := fun z => (congrArg _ (eq_ix2 z)).trans (q m c t (z 0) (z 1))
  frame_out
  exact pt z

end Cert.InKernelIdeal.Value

namespace Cert.InReferenceIdeal.Value
open Cert.InReferenceIdeal Cert.InReferenceIdeal.Gen Cert.InReferenceIdeal.Read

/-- The gradient of the plain product, entry by entry. -/
theorem value (X0 : FVec Ideal S4736x4096 .bf16) (X1 : FVec Ideal S4096x1024 .bf16) (i : Fin 4736) (k : Fin 1024) :
    val_main_v8 (F := Ideal) X0 X1 (ix2 i k) = ∑ s : Fin 4096, X0 (ix2 i s) * X1 (ix2 s k) := by
  pointwise [val_main_v8, val_main_v7, val_main_v6, val_main_v5, val_main_v4, val_main_v3, val_main_cst, val_main_v2, val_main_v1, val_main_v0]

/-- The reference keeps its arguments and ends with every counter at zero. -/
theorem frame : Cert.quiescent_InReferenceIdeal := fun m ρ _ => (θ_run Cert.InReferenceIdeal.defs _ _).mono
    (fun r h => ⟨fun c => (h c).2, sem_eq_zero_of_no_sems (by decide) r.2⟩) (Cert.InReferenceIdeal.Value.run (F := Ideal) m ρ)

/-- Both programs run to the end, return equal results and leave their arguments unchanged. -/
theorem algebraic : Cert.algebraic_InKernelIdeal_InReferenceIdeal := by
  intro m g m' g' _ hag
  refine ⟨_, Cert.InKernelIdeal.Value.run_blocks m g, ?_⟩
  refine (θ_run _ _ _).mono (fun r h c => ⟨(h c).1.trans ?_, (h c).2⟩) (Cert.InReferenceIdeal.Value.run m' g')
  refine Eq.trans ?_ (Cert.InKernelIdeal.Value.final m c).symm
  obtain ⟨e0, e1⟩ := hag c
  refine (val_main_v8_eq _ _).trans (funext fun z => ?_)
  rw [e0, e1]
  exact (congrArg _ (eq_ix2 z)).trans (value _ _ (z 0) (z 1))

end Cert.InReferenceIdeal.Value
end
end
-- ==== Proof.Ffn.Lift.lean ====
/- Finite numbers inside the extended reals: how sums, quotients, roots and the literals of the two
   programs act on them. -/
module
public import Mathlib.Tactic.FieldSimp
public import Mathlib.Tactic.LinearCombination
public import Mathlib.Tactic.Positivity
public import Idealize.ShloMosaic.Lib.Pointwise
@[expose] public section
noncomputable section
open Idealize.ShloMosaic
namespace Cert.Lift

/-- A finite sum of finite numbers is finite, and is the sum of the numbers. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of finite numbers by a number other than zero. -/
theorem div_fin (x : ℝ) {y : ℝ} (hy : y ≠ 0) : Ideal.div (x : EReal) (y : EReal) = ((x / y : ℝ) : EReal) := by
  rw [Ideal.div_coe hy, ← EReal.coe_mul, mul_one_div]

/-- The reciprocal root of a positive number. -/
theorem rsqrt_fin {r : ℝ} (hr : 0 < r) : Ideal.rsqrt (r : EReal) = (((√r)⁻¹ : ℝ) : EReal) := by
  rw [Ideal.rsqrt_coe, if_neg (not_lt.mpr hr.le), if_neg hr.ne']

/-- The small number that every norm adds to its mean square. -/
def eps : ℝ := 8796093 / 2 ^ 43

theorem eps_pos : 0 < eps := by unfold eps; norm_num

theorem lit_eps : Ideal.ofBits FTy.f32 897988541#32 = ((eps : ℝ) : EReal) := by
  simp [Ideal.ofBits, Ideal.ieee, eps, -EReal.coe_mul]; norm_num

theorem lit_1024 : Ideal.ofBits FTy.f32 1149239296#32 = ((1024 : ℝ) : EReal) := by
  simp [Ideal.ofBits, Ideal.ieee, -EReal.coe_mul]; norm_num

theorem lit_half : Ideal.ofBits FTy.f32 1056964608#32 = ((1 / 2 : ℝ) : EReal) := by
  simp [Ideal.ofBits, Ideal.ieee, -EReal.coe_mul]; norm_num

theorem lit_mhalf : Ideal.ofBits FTy.f32 3204448256#32 = ((-(1 / 2) : ℝ) : EReal) := by
  simp [Ideal.ofBits, Ideal.ieee, -EReal.coe_mul]; norm_num

theorem lit_one : Ideal.ofBits FTy.f32 1065353216#32 = ((1 : ℝ) : EReal) := by
  simp [Ideal.ofBits, Ideal.ieee, -EReal.coe_mul]; norm_num

theorem lit_two : Ideal.ofBits FTy.f32 1073741824#32 = ((2 : ℝ) : EReal) := by
  simp [Ideal.ofBits, Ideal.ieee, -EReal.coe_mul]; norm_num

theorem lit_inv1024 : Ideal.ofBits FTy.f32 981467136#32 = ((1 / 1024 : ℝ) : EReal) := by
  simp [Ideal.ofBits, Ideal.ieee, -EReal.coe_mul]; norm_num

theorem lit_inv2048 : Ideal.ofBits FTy.f32 973078528#32 = ((1 / 2048 : ℝ) : EReal) := by
  simp [Ideal.ofBits, Ideal.ieee, -EReal.coe_mul]; norm_num

theorem one_fin : (1 : EReal) = ((1 : ℝ) : EReal) := rfl
theorem zero_fin : (0 : EReal) = ((0 : ℝ) : EReal) := rfl

/-- The logistic function. -/
def sgm (t : ℝ) : ℝ := 1 / (1 + Real.exp (-t))

theorem one_add_exp_ne (t : ℝ) : 1 + Real.exp t ≠ 0 := by positivity

/-- The logistic function by a hyperbolic tangent. -/
theorem sgm_tanh (t : ℝ) : 1 / 2 * Real.tanh (1 / 2 * t) + 1 / 2 = sgm t := by
  unfold sgm
  rw [Real.tanh_eq_sinh_div_cosh, Real.sinh_eq, Real.cosh_eq]
  have h : Real.exp (-t) = Real.exp (-(1 / 2 * t)) * Real.exp (-(1 / 2 * t)) := by
    rw [← Real.exp_add]; congr 1; ring
  have h' : Real.exp (1 / 2 * t) * Real.exp (-(1 / 2 * t)) = 1 := by
    rw [← Real.exp_add]; simp
  have p := Real.exp_pos (1 / 2 * t)
  have q := Real.exp_pos (-(1 / 2 * t))
  rw [h]
  have n1 : Real.exp (1 / 2 * t) + Real.exp (-(1 / 2 * t)) ≠ 0 := by positivity
  have n2 : 1 + Real.exp (-(1 / 2 * t)) * Real.exp (-(1 / 2 * t)) ≠ 0 := by positivity
  generalize Real.exp (1 / 2 * t) = a at *
  generalize Real.exp (-(1 / 2 * t)) = b at *
  field_simp
  linear_combination (2 * b) * h'
end Cert.Lift
end
end
-- ==== Proof.Mix.Model.lean ====
/- The forward pass of the spatial gating unit and of the gated merge, entry by entry over the extended reals. -/
module
public import proofs.«01_k».proof.Proof.Ffn.Lift
@[expose] public section
noncomputable section
open Idealize.ShloMosaic
namespace Cert.Mix

/-- The Gaussian error linear unit by a hyperbolic tangent. -/
def gelu (t : EReal) : EReal :=
  t * (Ideal.ofBits .f32 1056964608#32 * (1 + Ideal.tanh (Ideal.ofBits .f32 1061962282#32 * (t + Ideal.ofBits .f32 1027024659#32 * (t * t * t)))))

/-- The same function with its factors taken in another order. -/
theorem gelu_left (t : EReal) : Ideal.ofBits .f32 1056964608#32 * t *
    (1 + Ideal.tanh (Ideal.ofBits .f32 1061962282#32 * (t + Ideal.ofBits .f32 1027024659#32 * t * t * t))) = gelu t := by
  unfold gelu
  rw [mul_assoc (Ideal.ofBits .f32 1027024659#32 * t) t t, mul_assoc (Ideal.ofBits .f32 1027024659#32) t (t * t), ← mul_assoc t t t,
    mul_comm (Ideal.ofBits .f32 1056964608#32) t, mul_assoc]

/-- The mean of 512 numbers. -/
def mean (f : Fin 512 → EReal) : EReal := Ideal.div (∑ j, f j) (Ideal.ofBits .f32 1140850688#32)

/-- The layer norm of a row. -/
def lnorm (g b f : Fin 512 → EReal) (k : Fin 512) : EReal :=
  (f k - mean f) * Ideal.rsqrt (mean (fun j => (f j - mean f) * (f j - mean f)) + Ideal.ofBits .f32 897988541#32) * g k + b k

/-- The logistic function as the reference writes it. -/
def logistic (t : EReal) : EReal := Ideal.div 1 (1 + Ideal.exp (-t))

/-- The logistic function by a hyperbolic tangent, at every extended real. -/
theorem logistic_tanh (t : EReal) : Ideal.ofBits .f32 1056964608#32 * Ideal.tanh (Ideal.ofBits .f32 1056964608#32 * t)
    + Ideal.ofBits .f32 1056964608#32 = logistic t := by
  unfold logistic
  rw [Lift.lit_half]
  induction t with
  | bot =>
    rw [EReal.coe_mul_bot_of_pos (by norm_num), EReal.neg_bot]
    show ((1 / 2 : ℝ) : EReal) * ((-1 : ℝ) : EReal) + _ = Ideal.div 1 (1 + ⊤)
    rw [EReal.add_top_of_ne_bot (by decide)]
    unfold Ideal.div
    rw [if_neg (by simp), EReal.inv_top, mul_zero, ← EReal.coe_mul, ← EReal.coe_add]
    norm_num
  | top =>
    rw [EReal.coe_mul_top_of_pos (by norm_num), EReal.neg_top]
    show ((1 / 2 : ℝ) : EReal) * ((1 : ℝ) : EReal) + _ = Ideal.div ((1 : ℝ) : EReal) ((1 : ℝ) + (0 : ℝ))
    rw [← EReal.coe_mul, ← EReal.coe_add, ← EReal.coe_add, Lift.div_fin _ (by norm_num)]
    norm_num
  | coe r =>
    rw [← EReal.coe_mul, ← EReal.coe_neg]
    show ((1 / 2 : ℝ) : EReal) * ((Real.tanh (1 / 2 * r) : ℝ) : EReal) + _ = Ideal.div ((1 : ℝ) : EReal) ((1 : ℝ) + ((Real.exp (-r) : ℝ) : EReal))
    rw [← EReal.coe_mul, ← EReal.coe_add, ← EReal.coe_add, Lift.div_fin _ (Lift.one_add_exp_ne _), Lift.sgm_tanh]
    rfl

/-- The arguments of the two programs, by their entries. -/
structure Args where
  attn : Fin 4096 → Fin 512 → EReal
  uv : Fin 4096 → Fin 1024 → EReal
  gate : Fin 4096 → Fin 2048 → EReal
  x : Fin 4096 → Fin 1024 → EReal
  wa : Fin 512 → Fin 1024 → EReal
  wb : Fin 512 → Fin 1024 → EReal
  wo : Fin 1024 → Fin 1024 → EReal
  ws : Fin 8 → Fin 128 → Fin 128 → EReal
  bs : Fin 8 → Fin 128 → EReal
  gs : Fin 512 → EReal
  bg : Fin 512 → EReal
  gp : Fin 1024 → EReal

variable (P : Args)

/-- The activated lower half of a token's row. -/
def uu (n : Fin 4096) (k : Fin 512) : EReal := gelu (P.uv n ⟨k.val, by omega⟩)
/-- The normed upper half of a token's row. -/
def vn (n : Fin 4096) (k : Fin 512) : EReal := lnorm P.gs P.bg (fun j => gelu (P.uv n ⟨512 + j.val, by omega⟩)) k
/-- Whether token `s` of a window may act on token `i`: its chunk isn't a later one. -/
def seen (i s : Fin 128) : BitVec 1 :=
  IntOp.cmpi CmpIPredicate.sle (IntOp.divsi ArithUnit.host (BitVec.ofNat 32 s.val) 64#32) (IntOp.divsi ArithUnit.host (BitVec.ofNat 32 i.val) 64#32)
/-- The spatial weights of a group, masked. -/
def wm (g : Fin 8) (i s : Fin 128) : EReal := Scalar.select (seen i s) (P.ws g i s) 0
/-- The mixture over the tokens of a window, with its bias. -/
def mixed (n : Fin 4096) (k : Fin 512) : EReal :=
  ∑ s : Fin 128, vn P ⟨n.val / 128 * 128 + s.val, by omega⟩ k * wm P ⟨k.val / 64, by omega⟩ ⟨n.val % 128, by omega⟩ s
    + P.bs ⟨k.val / 64, by omega⟩ ⟨n.val % 128, by omega⟩
/-- The gated mixture. -/
def sgu (n : Fin 4096) (k : Fin 512) : EReal := uu P n k * mixed P n k
/-- The attention branch, projected. -/
def ya (n : Fin 4096) (k : Fin 1024) : EReal := ∑ j : Fin 512, P.attn n j * P.wa j k
/-- The spatial branch, projected. -/
def yb (n : Fin 4096) (k : Fin 1024) : EReal := ∑ j : Fin 512, sgu P n j * P.wb j k
/-- The two branches, merged by their gates. -/
def merged (n : Fin 4096) (k : Fin 1024) : EReal :=
  logistic (P.gate n ⟨k.val, by omega⟩) * ya P n k + logistic (P.gate n ⟨1024 + k.val, by omega⟩) * yb P n k
/-- The merged branches, projected. -/
def om (n : Fin 4096) (k : Fin 1024) : EReal := ∑ j : Fin 1024, merged P n j * P.wo j k
/-- The token's row with the normed branches added. -/
def out (n : Fin 4096) (k : Fin 1024) : EReal :=
  P.x n k + om P n k * Ideal.rsqrt (Ideal.div (∑ j, om P n j * om P n j) (Ideal.ofBits .f32 1149239296#32) + Ideal.ofBits .f32 897988541#32) * P.gp k
end Cert.Mix
end
end
-- ==== Proof.Mix.Pay.lean ====
/- The values that the gating kernel computes on a tile of 256 rows, entry by entry. -/
module
public import proofs.«01_k».proof.Proof.Mix.Model
public import proofs.«01_k».proof.Proof.Gen.MixKernelIdeal.Value
public import Idealize.ShloMosaic.Lib.Pipeline.ValueKit
@[expose] public section
set_option maxRecDepth 16384
noncomputable section
open Idealize.ShloMosaic Idealize.ShloMosaic.TcCoe Idealize.SL.Sem Cert.Mix
namespace Cert.MixKernelIdeal.Value
open Cert.MixKernelIdeal Cert.MixKernelIdeal.Gen

theorem p1 (v : Vec Ideal S256x1024 .bf16) (i : Fin 256) (k : Fin 1024) : k0_pay1 v (ix2 i k) = gelu (v (ix2 i k)) := by
  pointwise [k0_pay1]
  exact gelu_left _
theorem p2 (v : Vec Ideal S256x1024 .bf16) (i : Fin 256) (k : Fin 512) : k0_pay2 v (ix2 i k) = gelu (v (ix2 i ⟨k.val, by omega⟩)) := by
  pointwise [k0_pay2, p1]
theorem p3 (v : Vec Ideal S256x1024 .bf16) (x y : Vec Ideal S1x512 .f32) (i : Fin 256) (k : Fin 512) : k0_pay3 v x y (ix2 i k)
    = lnorm (fun j => x (ix2 0 j)) (fun j => y (ix2 0 j)) (fun j => gelu (v (ix2 i ⟨512 + j.val, by omega⟩))) k := by
  pointwise [k0_pay3, p1]
  rfl
/-- The bias of a row is that of its place in its window. -/
theorem p5 (b : Vec Ideal S128x512 .f32) (i : Fin 256) (k : Fin 512) :
    k0_pay5 (k0_pay4 b) (ix2 i k) = b (ix2 ⟨i.val % 128, Nat.mod_lt _ (by decide)⟩ k) := by
  pointwise [k0_pay5, k0_pay4]
  by_cases h : i.val < 128
  · rw [dif_pos h]; congr 2; ext; show i.val = i.val % 128; omega
  · rw [dif_neg h]; congr 2; ext; show i.val - 128 = i.val % 128; omega

/-- Whether a lane lies in the lower half of a slab. -/
def low (l : Fin 128) : BitVec 1 := if l.val < 64 then 1#1 else 0#1
theorem p6 (i l : Fin 128) : k0_pay6 (ix2 i l) = low l := by
  pointwise [k0_pay6]
  unfold low
  revert l
  decide

/-- The mixture of a tile's normed rows over the tokens of their windows. -/
def mixw (W : Fin 8 → Fin 128 → Fin 128 → EReal) (v : FVec Ideal S256x512 .f32) (i : Fin 256) (k : Fin 512) : EReal :=
  ∑ s : Fin 128, W ⟨k.val / 64, by omega⟩ ⟨i.val % 128, by omega⟩ s * v (ix2 ⟨i.val / 128 * 128 + s.val, by omega⟩ k)

/-- The two products of a slab, each with the other half of its lanes zeroed, add up to the mixture. -/
theorem slab (W : Fin 8 → Fin 128 → Fin 128 → EReal) (v : FVec Ideal S256x512 .f32) (i l : Fin 128) (a b : Fin 128 → EReal)
    (g g' : Fin 8) (r : Fin 128 → Fin 256) (q : Fin 512) (r' : Fin 256) (hg : g.val = q.val / 128 * 2) (hg' : g'.val = q.val / 128 * 2 + 1)
    (hq : q.val % 128 = l.val) (hr : r'.val % 128 = i.val) (hr' : ∀ s, (r s).val = r'.val / 128 * 128 + s.val)
    (ha : ∀ s, a s = W g i s) (hb : ∀ s, b s = W g' i s) :
    ∑ s, Scalar.select (low l) (a s * v (ix2 (r s) q)) 0 + ∑ s, Scalar.select (low l) 0 (b s * v (ix2 (r s) q)) = mixw W v r' q := by
  have er : ∀ s, r s = ⟨r'.val / 128 * 128 + s.val, by omega⟩ := fun s => Fin.ext (hr' s)
  have ei : i = ⟨r'.val % 128, by omega⟩ := Fin.ext hr.symm
  unfold low mixw
  by_cases h : l.val < 64
  · have eg : g = ⟨q.val / 64, by omega⟩ := Fin.ext (by show g.val = q.val / 64; omega)
    simp only [if_pos h, ha, er, ← ei, ← eg]
    show ∑ s, _ + ∑ s : Fin 128, (0 : EReal) = _
    rw [Finset.sum_const_zero, add_zero]
    rfl
  · have eg : g' = ⟨q.val / 64, by omega⟩ := Fin.ext (by show g'.val = q.val / 64; omega)
    simp only [if_neg h, hb, er, ← ei, ← eg]
    show ∑ s : Fin 128, (0 : EReal) + _ = _
    rw [Finset.sum_const_zero, zero_add]
    rfl

variable (x0 : Vec Ideal S256x512 .bf16) (x1 : Vec Ideal S256x1024 .bf16) (x7 : Vec Ideal S8x128x128 .bf16) (x8 : Vec Ideal S128x512 .f32) (x9 x10 : Vec Ideal S1x512 .f32)

/-- The mask weights by their entries. -/
def wt (x7 : Vec Ideal S8x128x128 .bf16) (g : Fin 8) (i s : Fin 128) : EReal := x7 (ix3 g i s)

theorem ld3 (x7 : Vec Ideal S8x128x128 .bf16) (i s : Fin 128) : View.ld x7 r0_3 (ix3 0 i s) = wt x7 0 i s := by
  pointwise
  rfl
theorem ld4 (x7 : Vec Ideal S8x128x128 .bf16) (i s : Fin 128) : View.ld x7 r0_4 (ix3 0 i s) = wt x7 1 i s := by
  pointwise
  rfl
theorem ld5 (x7 : Vec Ideal S8x128x128 .bf16) (i s : Fin 128) : View.ld x7 r0_5 (ix3 0 i s) = wt x7 2 i s := by
  pointwise
  rfl
theorem ld6 (x7 : Vec Ideal S8x128x128 .bf16) (i s : Fin 128) : View.ld x7 r0_6 (ix3 0 i s) = wt x7 3 i s := by
  pointwise
  rfl
theorem ld7 (x7 : Vec Ideal S8x128x128 .bf16) (i s : Fin 128) : View.ld x7 r0_7 (ix3 0 i s) = wt x7 4 i s := by
  pointwise
  rfl
theorem ld8 (x7 : Vec Ideal S8x128x128 .bf16) (i s : Fin 128) : View.ld x7 r0_8 (ix3 0 i s) = wt x7 5 i s := by
  pointwise
  rfl
theorem ld9 (x7 : Vec Ideal S8x128x128 .bf16) (i s : Fin 128) : View.ld x7 r0_9 (ix3 0 i s) = wt x7 6 i s := by
  pointwise
  rfl
theorem ld10 (x7 : Vec Ideal S8x128x128 .bf16) (i s : Fin 128) : View.ld x7 r0_10 (ix3 0 i s) = wt x7 7 i s := by
  pointwise
  rfl

section
variable (v : FVec Ideal S256x512 .f32) (x7 : Vec Ideal S8x128x128 .bf16)
theorem p7 (i l : Fin 128) : k0_pay7 v (View.ld x7 r0_3) (View.ld x7 r0_4) (ix2 i l)
    = mixw (wt x7) v ⟨i.val, by omega⟩ ⟨l.val, by omega⟩ := by
  generalize ha : View.ld x7 r0_3 = a
  generalize hb : View.ld x7 r0_4 = b
  pointwise [k0_pay7, p6]
  exact slab (wt x7) v i l (fun s => a (ix3 0 i s)) (fun s => b (ix3 0 i s)) 0 1 (fun s => ⟨s.val, by omega⟩) ⟨l.val, by omega⟩ ⟨i.val, by omega⟩
      (by show 0 = _ / 128 * 2; dsimp only; omega) (by show 1 = _ / 128 * 2 + 1; dsimp only; omega) (by dsimp only; omega) (by dsimp only; omega) (fun s => by dsimp only; omega)
      (fun s => ha ▸ ld3 x7 i s) (fun s => hb ▸ ld4 x7 i s)
theorem p8 (i l : Fin 128) : k0_pay8 v (View.ld x7 r0_5) (View.ld x7 r0_6) (ix2 i l)
    = mixw (wt x7) v ⟨i.val, by omega⟩ ⟨128 + l.val, by omega⟩ := by
  generalize ha : View.ld x7 r0_5 = a
  generalize hb : View.ld x7 r0_6 = b
  pointwise [k0_pay8, p6]
  exact slab (wt x7) v i l (fun s => a (ix3 0 i s)) (fun s => b (ix3 0 i s)) 2 3 (fun s => ⟨s.val, by omega⟩) ⟨128 + l.val, by omega⟩ ⟨i.val, by omega⟩
      (by show 2 = _ / 128 * 2; dsimp only; omega) (by show 3 = _ / 128 * 2 + 1; dsimp only; omega) (by dsimp only; omega) (by dsimp only; omega) (fun s => by dsimp only; omega)
      (fun s => ha ▸ ld5 x7 i s) (fun s => hb ▸ ld6 x7 i s)
/-- Four slabs side by side. -/
theorem cat4 (a b c d : FVec Ideal S128x128 .f32) (i : Fin 128) (k : Fin 512) :
    concatenate S128x512 1 [⟨S128x128, a⟩, ⟨S128x128, b⟩, ⟨S128x128, c⟩, ⟨S128x128, d⟩] concatenates_S128x128_S128x128_S128x128_S128x128_S128x512_d1 (ix2 i k)
    = if h : k.val < 128 then a (ix2 i ⟨k.val, h⟩) else if h : k.val - 128 < 128 then b (ix2 i ⟨k.val - 128, h⟩)
      else if h : k.val - 128 - 128 < 128 then c (ix2 i ⟨k.val - 128 - 128, h⟩) else d (ix2 i ⟨k.val - 128 - 128 - 128, by omega⟩) := by
  pointwise
/-- The first window's mixture, its four slabs side by side. -/
theorem p12 (i : Fin 128) (k : Fin 512) : k0_pay12 v k0_pay6 (k0_pay7 v (View.ld x7 r0_3) (View.ld x7 r0_4)) (k0_pay8 v (View.ld x7 r0_5) (View.ld x7 r0_6))
    (k0_pay9 v) (k0_pay10 v) (k0_pay11 (F := Ideal)) (View.ld x7 r0_7) (View.ld x7 r0_8) (View.ld x7 r0_9) (View.ld x7 r0_10) (ix2 i k)
    = mixw (wt x7) v ⟨i.val, by omega⟩ k := by
  have h7 := p7 v x7
  have h8 := p8 v x7
  generalize k0_pay7 v (View.ld x7 r0_3) (View.ld x7 r0_4) = y at *
  generalize k0_pay8 v (View.ld x7 r0_5) (View.ld x7 r0_6) = z at *
  generalize ha : View.ld x7 r0_7 = a
  generalize hb : View.ld x7 r0_8 = b
  generalize hc : View.ld x7 r0_9 = c
  generalize hd : View.ld x7 r0_10 = d
  refine (cat4 _ _ _ _ i k).trans ?_
  have hk := k.isLt
  by_cases n1 : k.val < 128
  · rw [dif_pos n1, h7]
  rw [dif_neg n1]
  by_cases n2 : k.val - 128 < 128
  · rw [dif_pos n2, h8]; congr 1; ext; show 128 + (k.val - 128) = k.val; omega
  rw [dif_neg n2]
  by_cases n3 : k.val - 128 - 128 < 128
  · rw [dif_pos n3]
    pointwise [k0_pay9, k0_pay10, k0_pay11, p6]
    have eq : (⟨256 + (k.val - 128 - 128), by omega⟩ : Fin 512) = k := Fin.ext (by dsimp only; omega)
    exact (slab (wt x7) v i ⟨k.val - 128 - 128, n3⟩ (fun s => a (ix3 0 i s)) (fun s => b (ix3 0 i s)) 4 5 (fun s => ⟨s.val, by omega⟩) ⟨256 + (k.val - 128 - 128), by omega⟩ ⟨i.val, by omega⟩
      (by show 4 = _ / 128 * 2; dsimp only; omega) (by show 5 = _ / 128 * 2 + 1; dsimp only; omega) (by dsimp only; omega) (by dsimp only; omega) (fun s => by dsimp only; omega)
      (fun s => ha ▸ ld7 x7 i s) (fun s => hb ▸ ld8 x7 i s)).trans (congrArg (mixw (wt x7) v _) eq)
  · rw [dif_neg n3]
    pointwise [p6]
    have eq : (⟨384 + (k.val - 128 - 128 - 128), by omega⟩ : Fin 512) = k := Fin.ext (by dsimp only; omega)
    exact (slab (wt x7) v i ⟨k.val - 128 - 128 - 128, by omega⟩ (fun s => c (ix3 0 i s)) (fun s => d (ix3 0 i s)) 6 7 (fun s => ⟨s.val, by omega⟩) ⟨384 + (k.val - 128 - 128 - 128), by omega⟩ ⟨i.val, by omega⟩
      (by show 6 = _ / 128 * 2; dsimp only; omega) (by show 7 = _ / 128 * 2 + 1; dsimp only; omega) (by dsimp only; omega) (by dsimp only; omega) (fun s => by dsimp only; omega)
      (fun s => hc ▸ ld9 x7 i s) (fun s => hd ▸ ld10 x7 i s)).trans (congrArg (mixw (wt x7) v _) eq)
theorem p16 (i l : Fin 128) : k0_pay16 (k0_pay14 v k0_pay6) (k0_pay15 v k0_pay6 (View.ld x7 r0_3)) (View.ld x7 r0_4) (ix2 i l)
    = mixw (wt x7) v ⟨128 + i.val, by omega⟩ ⟨l.val, by omega⟩ := by
  generalize ha : View.ld x7 r0_3 = a
  generalize hb : View.ld x7 r0_4 = b
  pointwise [k0_pay16, k0_pay15, k0_pay14, k0_pay13, p6]
  exact slab (wt x7) v i l (fun s => a (ix3 0 i s)) (fun s => b (ix3 0 i s)) 0 1 (fun s => ⟨128 + s.val, by omega⟩) ⟨l.val, by omega⟩ ⟨128 + i.val, by omega⟩
      (by show 0 = _ / 128 * 2; dsimp only; omega) (by show 1 = _ / 128 * 2 + 1; dsimp only; omega) (by dsimp only; omega) (by dsimp only; omega) (fun s => by dsimp only; omega)
      (fun s => ha ▸ ld3 x7 i s) (fun s => hb ▸ ld4 x7 i s)
theorem p17 (i l : Fin 128) : k0_pay17 v k0_pay6 (View.ld x7 r0_5) (View.ld x7 r0_6) (ix2 i l)
    = mixw (wt x7) v ⟨128 + i.val, by omega⟩ ⟨128 + l.val, by omega⟩ := by
  generalize ha : View.ld x7 r0_5 = a
  generalize hb : View.ld x7 r0_6 = b
  pointwise [k0_pay17, p6]
  exact slab (wt x7) v i l (fun s => a (ix3 0 i s)) (fun s => b (ix3 0 i s)) 2 3 (fun s => ⟨128 + s.val, by omega⟩) ⟨128 + l.val, by omega⟩ ⟨128 + i.val, by omega⟩
      (by show 2 = _ / 128 * 2; dsimp only; omega) (by show 3 = _ / 128 * 2 + 1; dsimp only; omega) (by dsimp only; omega) (by dsimp only; omega) (fun s => by dsimp only; omega)
      (fun s => ha ▸ ld5 x7 i s) (fun s => hb ▸ ld6 x7 i s)
theorem p18 (i l : Fin 128) : k0_pay18 v k0_pay6 (View.ld x7 r0_7) (View.ld x7 r0_8) (ix2 i l)
    = mixw (wt x7) v ⟨128 + i.val, by omega⟩ ⟨256 + l.val, by omega⟩ := by
  generalize ha : View.ld x7 r0_7 = a
  generalize hb : View.ld x7 r0_8 = b
  pointwise [k0_pay18, p6]
  exact slab (wt x7) v i l (fun s => a (ix3 0 i s)) (fun s => b (ix3 0 i s)) 4 5 (fun s => ⟨128 + s.val, by omega⟩) ⟨256 + l.val, by omega⟩ ⟨128 + i.val, by omega⟩
      (by show 4 = _ / 128 * 2; dsimp only; omega) (by show 5 = _ / 128 * 2 + 1; dsimp only; omega) (by dsimp only; omega) (by dsimp only; omega) (fun s => by dsimp only; omega)
      (fun s => ha ▸ ld7 x7 i s) (fun s => hb ▸ ld8 x7 i s)
theorem p20 (i l : Fin 128) : k0_pay20 v k0_pay6 (ix2 i l) = Scalar.select (low l) (v (ix2 ⟨128 + i.val, by omega⟩ ⟨384 + l.val, by omega⟩)) 0 := by
  pointwise [k0_pay20, k0_pay19, p6]
theorem mul_low (b : BitVec 1) (a x : EReal) : a * Scalar.select b x 0 = Scalar.select b (a * x) 0 := by
  unfold Scalar.select
  split <;> simp
theorem mul_high (b : BitVec 1) (a x : EReal) : a * Scalar.select b 0 x = Scalar.select b 0 (a * x) := by
  unfold Scalar.select
  split <;> simp
/-- Both windows' mixtures, with the bias added and the gate multiplied. -/
theorem p21 (u w : FVec Ideal S256x512 .f32) (i : Fin 256) (k : Fin 512) : k0_pay21 u w k0_pay6
    (k0_pay12 v k0_pay6 (k0_pay7 v (View.ld x7 r0_3) (View.ld x7 r0_4)) (k0_pay8 v (View.ld x7 r0_5) (View.ld x7 r0_6))
      (k0_pay9 v) (k0_pay10 v) (k0_pay11 (F := Ideal)) (View.ld x7 r0_7) (View.ld x7 r0_8) (View.ld x7 r0_9) (View.ld x7 r0_10))
    (k0_pay16 (k0_pay14 v k0_pay6) (k0_pay15 v k0_pay6 (View.ld x7 r0_3)) (View.ld x7 r0_4))
    (k0_pay17 v k0_pay6 (View.ld x7 r0_5) (View.ld x7 r0_6)) (k0_pay18 v k0_pay6 (View.ld x7 r0_7) (View.ld x7 r0_8))
    (k0_pay19 v) (k0_pay20 v k0_pay6) (Scalar.ofBits .f32 0x00000000#32) (View.ld x7 r0_9) (View.ld x7 r0_10) (ix2 i k)
    = u (ix2 i k) * (mixw (wt x7) v i k + w (ix2 i k)) := by
  have h12 := p12 v x7
  have h16 := p16 v x7
  have h17 := p17 v x7
  have h18 := p18 v x7
  generalize k0_pay12 v k0_pay6 (k0_pay7 v (View.ld x7 r0_3) (View.ld x7 r0_4)) (k0_pay8 v (View.ld x7 r0_5) (View.ld x7 r0_6))
      (k0_pay9 v) (k0_pay10 v) (k0_pay11 (F := Ideal)) (View.ld x7 r0_7) (View.ld x7 r0_8) (View.ld x7 r0_9) (View.ld x7 r0_10) = y12 at *
  generalize k0_pay16 (k0_pay14 v k0_pay6) (k0_pay15 v k0_pay6 (View.ld x7 r0_3)) (View.ld x7 r0_4) = y16 at *
  generalize k0_pay17 v k0_pay6 (View.ld x7 r0_5) (View.ld x7 r0_6) = y17 at *
  generalize k0_pay18 v k0_pay6 (View.ld x7 r0_7) (View.ld x7 r0_8) = y18 at *
  have h20 := p20 v
  have hz : (Scalar.ofBits .f32 0x00000000#32 : Ideal .f32) = 0 := Ideal.ofBits_zero_f32
  generalize k0_pay20 v k0_pay6 = y20 at *
  generalize (Scalar.ofBits .f32 0x00000000#32 : Ideal .f32) = z at *
  generalize hc : View.ld x7 r0_9 = c
  generalize hd : View.ld x7 r0_10 = d
  pointwise [k0_pay21, k0_pay19, p6]
  congr 2
  have hk := k.isLt
  have hi := i.isLt
  by_cases n0 : i.val < 128
  · rw [dif_pos n0, h12]
  rw [dif_neg n0]
  have ei : (⟨128 + (i.val - 128), by omega⟩ : Fin 256) = i := Fin.ext (by dsimp only; omega)
  by_cases n1 : k.val < 128
  · rw [dif_pos n1, h16]; congr 1
  rw [dif_neg n1]
  by_cases n2 : k.val - 128 < 128
  · rw [dif_pos n2, h17]; congr 1; ext; show 128 + (k.val - 128) = k.val; omega
  rw [dif_neg n2]
  by_cases n3 : k.val - 128 - 128 < 128
  · rw [dif_pos n3, h18]; congr 1; ext; show 256 + (k.val - 128 - 128) = k.val; omega
  · rw [dif_neg n3]
    have eq : (⟨384 + (k.val - 128 - 128 - 128), by omega⟩ : Fin 512) = k := Fin.ext (by dsimp only; omega)
    simp only [h20, hz, mul_low, mul_high]
    exact (slab (wt x7) v ⟨i.val - 128, by omega⟩ ⟨k.val - 128 - 128 - 128, by omega⟩ (fun s => c (ix3 0 ⟨i.val - 128, by omega⟩ s)) (fun s => d (ix3 0 ⟨i.val - 128, by omega⟩ s)) 6 7 (fun s => ⟨128 + s.val, by omega⟩) ⟨384 + (k.val - 128 - 128 - 128), by omega⟩ i
      (by show 6 = _ / 128 * 2; omega) (by show 7 = _ / 128 * 2 + 1; omega) (by dsimp only; omega) (by dsimp only; omega) (fun s => by dsimp only; omega)
      (fun s => hc ▸ ld9 x7 _ s) (fun s => hd ▸ ld10 x7 _ s)).trans (congrArg (mixw (wt x7) v _) eq)
end

section
variable (v16 v42 : FVec Ideal S256x512 .f32) (v45 : IVec S128x128 1) (v102 : FVec Ideal S128x512 .f32) (v116 v130 v144 v145 : FVec Ideal S128x128 .f32)
  (v148 : FVec Ideal S128x128 .bf16) (z : Ideal .f32) (a b : Vec Ideal S1x128x128 .bf16)
theorem p22 (k : Fin 512) (i : Fin 256) : k0_pay22 v16 v42 v45 v102 v116 v130 v144 v145 v148 z a b (ix2 k i) = k0_pay21 v16 v42 v45 v102 v116 v130 v144 v145 v148 z a b (ix2 i k) := by
  pointwise [k0_pay22]
theorem p24 (w : Vec Ideal S512x1024 .bf16) (i : Fin 256) (k : Fin 1024) : k0_pay24 v16 v42 v45 v102 v116 v130 v144 v145 v148 z a b w (ix2 i k)
    = ∑ j : Fin 512, k0_pay21 v16 v42 v45 v102 v116 v130 v144 v145 v148 z a b (ix2 i j) * w (ix2 j k) := by
  pointwise [k0_pay24]
theorem p26 (w : Vec Ideal S512x1024 .bf16) (i : Fin 256) (k : Fin 1024) : k0_pay26 v16 v42 v45 v102 v116 v130 v144 v145 v148 z a b w (ix2 i k)
    = k0_pay24 v16 v42 v45 v102 v116 v130 v144 v145 v148 z a b w (ix2 i k) := by
  pointwise [k0_pay26]
end
theorem p23 (x : Vec Ideal S256x512 .bf16) (w : Vec Ideal S512x1024 .bf16) (i : Fin 256) (k : Fin 1024) :
    k0_pay23 x w (ix2 i k) = ∑ j : Fin 512, x (ix2 i j) * w (ix2 j k) := by
  pointwise [k0_pay23]
theorem p25 (x : Vec Ideal S256x512 .bf16) (w : Vec Ideal S512x1024 .bf16) (i : Fin 256) (k : Fin 1024) :
    k0_pay25 x w (ix2 i k) = k0_pay23 x w (ix2 i k) := by
  pointwise [k0_pay25]
section
variable (a b : FVec Ideal S256x1024 .f32) (g : Vec Ideal S256x2048 .bf16)
theorem p28 (i : Fin 256) (k : Fin 1024) : k0_pay28 a b (k0_pay27 g) (ix2 i k)
    = logistic (g (ix2 i ⟨k.val, by omega⟩)) * a (ix2 i k) + logistic (g (ix2 i ⟨1024 + k.val, by omega⟩)) * b (ix2 i k) := by
  pointwise [k0_pay28, k0_pay27]
  rw [logistic_tanh, logistic_tanh]
theorem p29 (g : FVec Ideal S256x2048 .f32) (k : Fin 1024) (i : Fin 256) : k0_pay29 a b g (ix2 k i) = k0_pay28 a b g (ix2 i k) := by
  pointwise [k0_pay29]
theorem p30 (g : FVec Ideal S256x2048 .f32) (w : Vec Ideal S1024x1024 .bf16) (i : Fin 256) (k : Fin 1024) :
    k0_pay30 a b g w (ix2 i k) = ∑ j : Fin 1024, k0_pay28 a b g (ix2 i j) * w (ix2 j k) := by
  pointwise [k0_pay30]
theorem p31 (g : FVec Ideal S256x2048 .f32) (w : Vec Ideal S1024x1024 .bf16) (x : Vec Ideal S256x1024 .f32) (s : Vec Ideal S1x1024 .f32) (i : Fin 256) (k : Fin 1024) :
    k0_pay31 a b g w x s (ix2 i k) = x (ix2 i k) + k0_pay30 a b g w (ix2 i k) * Ideal.rsqrt (Ideal.div (∑ j, k0_pay30 a b g w (ix2 i j) * k0_pay30 a b g w (ix2 i j))
      (Ideal.ofBits .f32 1149239296#32) + Ideal.ofBits .f32 897988541#32) * s (ix2 0 k) := by
  pointwise [k0_pay31]
end
end Cert.MixKernelIdeal.Value
end
end
-- ==== Proof.Mix.Kernel.lean ====
/- The gating kernel's result arrays: the blocks of its grid together hold the model. -/
module
public import proofs.«01_k».proof.Proof.Mix.Pay
public import proofs.«01_k».proof.Defs
@[expose] public section
set_option maxRecDepth 16384
noncomputable section
open Idealize.ShloMosaic Idealize.ShloMosaic.TcCoe Idealize.SL.Sem Cert.Mix
namespace Cert.MixKernelIdeal.Value
open Cert.MixKernelIdeal Cert.MixKernelIdeal.Gen
variable (m : (ℓ : Loc nD τ sig) → Buf (Elt Ideal) ℓ)

/-- The index maps of the windows. -/
theorem idx : ∀ t : Fin cfg0.N, win0_0.index t = ![t.val, 0] ∧ win0_1.index t = ![t.val, 0] ∧ win0_2.index t = ![t.val, 0] ∧ win0_3.index t = ![t.val, 0]
   ∧ win0_4.index t = ![0, 0] ∧ win0_5.index t = ![0, 0] ∧ win0_6.index t = ![0, 0] ∧ win0_7.index t = ![0, 0, 0] ∧ win0_8.index t = ![0, 0] ∧ win0_9.index t = ![0, 0] ∧ win0_10.index t = ![0, 0] ∧ win0_11.index t = ![0, 0]
   ∧ win0_12.index t = ![0, t.val] ∧ win0_13.index t = ![t.val, 0] ∧ win0_14.index t = ![t.val, 0] ∧ win0_15.index t = ![0, t.val] ∧ win0_16.index t = ![t.val, 0] ∧ win0_17.index t = ![t.val, 0] ∧ t.val < 16 :=
  (by decide +kernel : ∀ t : Fin grid0.N, _)
theorem lt16 (t : Fin cfg0.N) : t.val < 16 := by have h := idx t; omega

/-- Row `i` of point `t`'s tile. -/
def row (t : Fin cfg0.N) (i : Fin 256) : Fin 4096 := ⟨t.val * 256 + i.val, by have := lt16 t; omega⟩

/-- The arguments' entries. -/
def args (c : Dev nD) : Args where
  attn i k := m ((c : Thread nD τ).loc main_arg0) (ix2 i k)
  uv i k := m ((c : Thread nD τ).loc main_arg1) (ix2 i k)
  gate i k := m ((c : Thread nD τ).loc main_arg2) (ix2 i k)
  x i k := m ((c : Thread nD τ).loc main_arg3) (ix2 i k)
  wa i k := m ((c : Thread nD τ).loc main_arg4) (ix2 i k)
  wb i k := m ((c : Thread nD τ).loc main_arg5) (ix2 i k)
  wo i k := m ((c : Thread nD τ).loc main_arg6) (ix2 i k)
  ws g i k := m ((c : Thread nD τ).loc main_arg7) (ix3 g i k)
  bs g i := m ((c : Thread nD τ).loc main_arg8) (ix2 g i)
  gs k := m ((c : Thread nD τ).loc main_arg9) (ix2 0 k)
  bg k := m ((c : Thread nD τ).loc main_arg10) (ix2 0 k)
  gp k := m ((c : Thread nD τ).loc main_arg11) (ix2 0 k)

/-- The host's operations, step by step. -/
theorem split (c : Dev nD) (b : Ref sig .tc) : V m c b = StableHlo.after hostOps0_6 (StableHlo.after hostOps0_5 (StableHlo.after hostOps0_4 (StableHlo.after hostOps0_3 (StableHlo.after hostOps0_2 (StableHlo.after hostOps0_1 (StableHlo.after hostOps0 fun b => m (c, b))))))) (Proc.tc.devRef b) := by
  show StableHlo.after (hostOps0 ++ (hostOps0_1 ++ (hostOps0_2 ++ (hostOps0_3 ++ (hostOps0_4 ++ (hostOps0_5 ++ hostOps0_6)))))) _ _ = _
  simp only [StableHlo.after_append]

theorem b0 (c : Dev nD) (t : Fin cfg0.N) (i : Fin 256) (k : Fin 512) : iblk m c 0 t (ix2 i k) = (args m c).attn (row t i) k := by
  show _ = m ((c : Thread nD τ).loc main_arg0) (ix2 (row t i) k)
  unfold row
  blk_simp [iblk]
  rw [split]
  entry_read
  pointwise
  blk_ext [idx t]
theorem b1 (c : Dev nD) (t : Fin cfg0.N) (i : Fin 256) (k : Fin 1024) : iblk m c 1 t (ix2 i k) = (args m c).uv (row t i) k := by
  show _ = m ((c : Thread nD τ).loc main_arg1) (ix2 (row t i) k)
  unfold row
  blk_simp [iblk]
  rw [split]
  entry_read
  pointwise
  blk_ext [idx t]
theorem b2 (c : Dev nD) (t : Fin cfg0.N) (i : Fin 256) (k : Fin 2048) : iblk m c 2 t (ix2 i k) = (args m c).gate (row t i) k := by
  show _ = m ((c : Thread nD τ).loc main_arg2) (ix2 (row t i) k)
  unfold row
  blk_simp [iblk]
  rw [split]
  entry_read
  pointwise
  blk_ext [idx t]
theorem b4 (c : Dev nD) (t : Fin cfg0.N) (i : Fin 512) (k : Fin 1024) : iblk m c 4 t (ix2 i k) = (args m c).wa i k := by
  show _ = m ((c : Thread nD τ).loc main_arg4) (ix2 i k)
  blk_simp [iblk]
  rw [split]
  entry_read
  pointwise
  blk_ext [idx t]
theorem b5 (c : Dev nD) (t : Fin cfg0.N) (i : Fin 512) (k : Fin 1024) : iblk m c 5 t (ix2 i k) = (args m c).wb i k := by
  show _ = m ((c : Thread nD τ).loc main_arg5) (ix2 i k)
  blk_simp [iblk]
  rw [split]
  entry_read
  pointwise
  blk_ext [idx t]
theorem b6 (c : Dev nD) (t : Fin cfg0.N) (i : Fin 1024) (k : Fin 1024) : iblk m c 6 t (ix2 i k) = (args m c).wo i k := by
  show _ = m ((c : Thread nD τ).loc main_arg6) (ix2 i k)
  blk_simp [iblk]
  rw [split]
  entry_read
  pointwise
  blk_ext [idx t]
theorem b3 (c : Dev nD) (t : Fin cfg0.N) (i : Fin 256) (k : Fin 1024) : iblk m c 3 t (ix2 i k) = (args m c).x (row t i) k := by
  show _ = m ((c : Thread nD τ).loc main_arg3) (ix2 (row t i) k)
  unfold row
  blk_ext [iblk, V_main_arg3, idx t]
theorem b9 (c : Dev nD) (t : Fin cfg0.N) (k : Fin 512) : iblk m c 9 t (ix2 (0 : Fin 1) k) = (args m c).gs k := by
  show _ = m ((c : Thread nD τ).loc main_arg9) (ix2 (0 : Fin 1) k)
  blk_ext [iblk, V_main_arg9, idx t]
theorem b10 (c : Dev nD) (t : Fin cfg0.N) (k : Fin 512) : iblk m c 10 t (ix2 (0 : Fin 1) k) = (args m c).bg k := by
  show _ = m ((c : Thread nD τ).loc main_arg10) (ix2 (0 : Fin 1) k)
  blk_ext [iblk, V_main_arg10, idx t]
theorem b11 (c : Dev nD) (t : Fin cfg0.N) (k : Fin 1024) : iblk m c 11 t (ix2 (0 : Fin 1) k) = (args m c).gp k := by
  show _ = m ((c : Thread nD τ).loc main_arg11) (ix2 (0 : Fin 1) k)
  blk_ext [iblk, V_main_arg11, idx t]
theorem b8 (c : Dev nD) (t : Fin cfg0.N) (i : Fin 128) (k : Fin 512) : iblk m c 8 t (ix2 i k) = (args m c).bs ⟨k.val / 64, by omega⟩ i := by
  show _ = m ((c : Thread nD τ).loc main_arg8) (ix2 ⟨k.val / 64, by omega⟩ i)
  blk_simp [iblk]
  rw [split]
  entry_read
  pointwise
  blk_ext [idx t]
/-- The host's division rounded down by 64, of a row of positions. -/
def floorRow (x : IVec S1x128 32) : IVec S1x128 32 :=
  select (andi (cmpi .ne (signi x) (broadcastInDim S1x128 ![] bcast_S_S1x128 (signi (constantI S_ 32 64#32))))
      (cmpi .ne (Host.remsi x (broadcastInDim S1x128 ![] bcast_S_S1x128 (constantI S_ 32 64#32))) (broadcastInDim S1x128 ![] bcast_S_S1x128 (constantI S_ 32 0#32))))
    (subi (Host.divsi x (broadcastInDim S1x128 ![] bcast_S_S1x128 (constantI S_ 32 64#32))) (broadcastInDim S1x128 ![] bcast_S_S1x128 (constantI S_ 32 1#32)))
    (Host.divsi x (broadcastInDim S1x128 ![] bcast_S_S1x128 (constantI S_ 32 64#32)))
/-- The same of a column of positions. -/
def floorCol (x : IVec S128x1 32) : IVec S128x1 32 :=
  select (andi (cmpi .ne (signi x) (broadcastInDim S128x1 ![] bcast_S_S128x1 (signi (constantI S_ 32 64#32))))
      (cmpi .ne (Host.remsi x (broadcastInDim S128x1 ![] bcast_S_S128x1 (constantI S_ 32 64#32))) (broadcastInDim S128x1 ![] bcast_S_S128x1 (constantI S_ 32 0#32))))
    (subi (Host.divsi x (broadcastInDim S128x1 ![] bcast_S_S128x1 (constantI S_ 32 64#32))) (broadcastInDim S128x1 ![] bcast_S_S128x1 (constantI S_ 32 1#32)))
    (Host.divsi x (broadcastInDim S128x1 ![] bcast_S_S128x1 (constantI S_ 32 64#32)))
theorem floorRow_iota (z : Fin 1) (k : Fin 128) : floorRow (broadcastInDim S1x128 ![1] bcast_S128_S1x128_1 (iotaInDim S128 32 0)) (ix2 z k)
    = IntOp.divsi ArithUnit.host (BitVec.ofNat 32 k.val) 64#32 := by
  pointwise [floorRow]
  revert k
  decide +kernel
theorem floorCol_iota (k : Fin 128) (z : Fin 1) : floorCol (broadcastInDim S128x1 ![0] bcast_S128_S128x1_0 (iotaInDim S128 32 0)) (ix2 k z)
    = IntOp.divsi ArithUnit.host (BitVec.ofNat 32 k.val) 64#32 := by
  pointwise [floorCol]
  revert k
  decide +kernel

set_option maxHeartbeats 1000000 in
theorem b7 (c : Dev nD) (t : Fin cfg0.N) (g : Fin 8) (i k : Fin 128) : iblk m c 7 t (ix3 g i k) = wm (args m c) g i k := by
  blk_simp [iblk]
  rw [split]
  entry_read
  have e : ((View.whole main_v10).slice (win0_7.rect t)).emb (ix3 g i k) = ix3 g i k := by blk_ext [idx t]
  rw [e]
  simp only [StableHlo.TRef.ofBuf_toBuf]
  refine (show truncf .bf16 (select (broadcastInDim S8x128x128 ![0, 1, 2] bcast_S1x128x128_S8x128x128_0_1_2
                  (broadcastInDim S1x128x128 ![1, 2] bcast_S128x128_S1x128x128_1_2
                    (cmpi CmpIPredicate.sle
                      (broadcastInDim S128x128 ![0, 1] bcast_S1x128_S128x128_0_1
                        (floorRow (broadcastInDim S1x128 ![1] bcast_S128_S1x128_1 (iotaInDim S128 32 0))))
                      (broadcastInDim S128x128 ![0, 1] bcast_S128x1_S128x128_0_1
                        (floorCol (broadcastInDim S128x1 ![0] bcast_S128_S128x1_0 (iotaInDim S128 32 0)))))))
      (m ((c : Thread nD τ).loc main_arg7) : FVec Ideal S8x128x128 .f32) (broadcastInDim S8x128x128 ![] bcast_S_S8x128x128 (constant (F := Ideal) S_ FTy.f32 0#32)))
      bitsLt_bf16_f32 (ix3 g i k) = wm (args m c) g i k from ?_)
  pointwise
  refine (congrArg₂ (fun a b => Scalar.select (IntOp.cmpi CmpIPredicate.sle a b) _ _) (floorRow_iota 0 k) (floorCol_iota i 0)).trans ?_
  rfl
end Cert.MixKernelIdeal.Value
end
end
-- ==== Proof.Mix.Kernel2.lean ====
/- The gating kernel's result arrays hold the model. -/
module
public import proofs.«01_k».proof.Proof.Mix.Kernel
@[expose] public section
set_option maxRecDepth 16384
noncomputable section
open Idealize.ShloMosaic Idealize.ShloMosaic.TcCoe Idealize.SL.Sem Cert.Mix
namespace Cert.MixKernelIdeal.Value
open Cert.MixKernelIdeal Cert.MixKernelIdeal.Gen
variable (m : (ℓ : Loc nD τ sig) → Buf (Elt Ideal) ℓ) (c : Dev nD) (t : Fin cfg0.N)

theorem q3 (i : Fin 256) (k : Fin 512) : (k0_pay3 (iblk m c 1 t) (iblk m c 9 t) (iblk m c 10 t)) (ix2 i k) = vn (args m c) (row t i) k := by
  rw [p3]
  simp only [b1, b9, b10]
  rfl
theorem q2 (i : Fin 256) (k : Fin 512) : k0_pay2 (iblk m c 1 t) (ix2 i k) = uu (args m c) (row t i) k := by
  rw [p2, b1]
  rfl
theorem q5 (i : Fin 256) (k : Fin 512) : k0_pay5 (k0_pay4 (iblk m c 8 t)) (ix2 i k) = (args m c).bs ⟨k.val / 64, by omega⟩ ⟨(row t i).val % 128, by omega⟩ := by
  rw [p5, b8]
  congr 1
  ext
  show i.val % 128 = (t.val * 256 + i.val) % 128
  omega
theorem qw (i : Fin 256) (k : Fin 512) : mixw (wt (iblk m c 7 t)) (k0_pay3 (iblk m c 1 t) (iblk m c 9 t) (iblk m c 10 t)) i k
    = ∑ s : Fin 128, vn (args m c) ⟨(row t i).val / 128 * 128 + s.val, by omega⟩ k * wm (args m c) ⟨k.val / 64, by omega⟩ ⟨(row t i).val % 128, by omega⟩ s := by
  unfold mixw wt
  refine Finset.sum_congr rfl fun s _ => ?_
  rw [q3, b7, mul_comm]
  have e1 : row t ⟨i.val / 128 * 128 + s.val, by omega⟩ = ⟨(row t i).val / 128 * 128 + s.val, by omega⟩ := by
    ext
    show t.val * 256 + (i.val / 128 * 128 + s.val) = (t.val * 256 + i.val) / 128 * 128 + s.val
    omega
  have e2 : (⟨i.val % 128, by omega⟩ : Fin 128) = ⟨(row t i).val % 128, by omega⟩ := by
    ext
    show i.val % 128 = (t.val * 256 + i.val) % 128
    omega
  rw [e1, e2]
theorem q21 (i : Fin 256) (k : Fin 512) : k0_pay21 (k0_pay2 (iblk m c 1 t)) (k0_pay5 (k0_pay4 (iblk m c 8 t))) k0_pay6
    (k0_pay12 (k0_pay3 (iblk m c 1 t) (iblk m c 9 t) (iblk m c 10 t)) k0_pay6 (k0_pay7 (k0_pay3 (iblk m c 1 t) (iblk m c 9 t) (iblk m c 10 t)) (View.ld (iblk m c 7 t) r0_3) (View.ld (iblk m c 7 t) r0_4)) (k0_pay8 (k0_pay3 (iblk m c 1 t) (iblk m c 9 t) (iblk m c 10 t)) (View.ld (iblk m c 7 t) r0_5) (View.ld (iblk m c 7 t) r0_6))
      (k0_pay9 (k0_pay3 (iblk m c 1 t) (iblk m c 9 t) (iblk m c 10 t))) (k0_pay10 (k0_pay3 (iblk m c 1 t) (iblk m c 9 t) (iblk m c 10 t))) (k0_pay11 (F := Ideal)) (View.ld (iblk m c 7 t) r0_7) (View.ld (iblk m c 7 t) r0_8) (View.ld (iblk m c 7 t) r0_9) (View.ld (iblk m c 7 t) r0_10))
    (k0_pay16 (k0_pay14 (k0_pay3 (iblk m c 1 t) (iblk m c 9 t) (iblk m c 10 t)) k0_pay6) (k0_pay15 (k0_pay3 (iblk m c 1 t) (iblk m c 9 t) (iblk m c 10 t)) k0_pay6 (View.ld (iblk m c 7 t) r0_3)) (View.ld (iblk m c 7 t) r0_4))
    (k0_pay17 (k0_pay3 (iblk m c 1 t) (iblk m c 9 t) (iblk m c 10 t)) k0_pay6 (View.ld (iblk m c 7 t) r0_5) (View.ld (iblk m c 7 t) r0_6)) (k0_pay18 (k0_pay3 (iblk m c 1 t) (iblk m c 9 t) (iblk m c 10 t)) k0_pay6 (View.ld (iblk m c 7 t) r0_7) (View.ld (iblk m c 7 t) r0_8))
    (k0_pay19 (k0_pay3 (iblk m c 1 t) (iblk m c 9 t) (iblk m c 10 t))) (k0_pay20 (k0_pay3 (iblk m c 1 t) (iblk m c 9 t) (iblk m c 10 t)) k0_pay6) (Scalar.ofBits .f32 0x00000000#32) (View.ld (iblk m c 7 t) r0_9) (View.ld (iblk m c 7 t) r0_10) (ix2 i k) = sgu (args m c) (row t i) k := by
  refine (p21 _ _ _ _ i k).trans ?_
  rw [q2, q5, qw]
  rfl
theorem q22 (k : Fin 512) (i : Fin 256) : k0_pay22 (k0_pay2 (iblk m c 1 t)) (k0_pay5 (k0_pay4 (iblk m c 8 t))) k0_pay6
    (k0_pay12 (k0_pay3 (iblk m c 1 t) (iblk m c 9 t) (iblk m c 10 t)) k0_pay6 (k0_pay7 (k0_pay3 (iblk m c 1 t) (iblk m c 9 t) (iblk m c 10 t)) (View.ld (iblk m c 7 t) r0_3) (View.ld (iblk m c 7 t) r0_4)) (k0_pay8 (k0_pay3 (iblk m c 1 t) (iblk m c 9 t) (iblk m c 10 t)) (View.ld (iblk m c 7 t) r0_5) (View.ld (iblk m c 7 t) r0_6))
      (k0_pay9 (k0_pay3 (iblk m c 1 t) (iblk m c 9 t) (iblk m c 10 t))) (k0_pay10 (k0_pay3 (iblk m c 1 t) (iblk m c 9 t) (iblk m c 10 t))) (k0_pay11 (F := Ideal)) (View.ld (iblk m c 7 t) r0_7) (View.ld (iblk m c 7 t) r0_8) (View.ld (iblk m c 7 t) r0_9) (View.ld (iblk m c 7 t) r0_10))
    (k0_pay16 (k0_pay14 (k0_pay3 (iblk m c 1 t) (iblk m c 9 t) (iblk m c 10 t)) k0_pay6) (k0_pay15 (k0_pay3 (iblk m c 1 t) (iblk m c 9 t) (iblk m c 10 t)) k0_pay6 (View.ld (iblk m c 7 t) r0_3)) (View.ld (iblk m c 7 t) r0_4))
    (k0_pay17 (k0_pay3 (iblk m c 1 t) (iblk m c 9 t) (iblk m c 10 t)) k0_pay6 (View.ld (iblk m c 7 t) r0_5) (View.ld (iblk m c 7 t) r0_6)) (k0_pay18 (k0_pay3 (iblk m c 1 t) (iblk m c 9 t) (iblk m c 10 t)) k0_pay6 (View.ld (iblk m c 7 t) r0_7) (View.ld (iblk m c 7 t) r0_8))
    (k0_pay19 (k0_pay3 (iblk m c 1 t) (iblk m c 9 t) (iblk m c 10 t))) (k0_pay20 (k0_pay3 (iblk m c 1 t) (iblk m c 9 t) (iblk m c 10 t)) k0_pay6) (Scalar.ofBits .f32 0x00000000#32) (View.ld (iblk m c 7 t) r0_9) (View.ld (iblk m c 7 t) r0_10) (ix2 k i) = sgu (args m c) (row t i) k :=
  (p22 _ _ _ _ _ _ _ _ _ _ _ _ k i).trans (q21 m c t i k)
theorem q23 (i : Fin 256) (k : Fin 1024) : k0_pay23 (iblk m c 0 t) (iblk m c 4 t) (ix2 i k) = ya (args m c) (row t i) k := by
  rw [p23]
  exact Finset.sum_congr rfl fun j _ => by rw [b0, b4]
theorem q25 (i : Fin 256) (k : Fin 1024) : k0_pay25 (iblk m c 0 t) (iblk m c 4 t) (ix2 i k) = ya (args m c) (row t i) k :=
  (p25 _ _ i k).trans (q23 m c t i k)
theorem q24 (i : Fin 256) (k : Fin 1024) : k0_pay24 (k0_pay2 (iblk m c 1 t)) (k0_pay5 (k0_pay4 (iblk m c 8 t))) k0_pay6
    (k0_pay12 (k0_pay3 (iblk m c 1 t) (iblk m c 9 t) (iblk m c 10 t)) k0_pay6 (k0_pay7 (k0_pay3 (iblk m c 1 t) (iblk m c 9 t) (iblk m c 10 t)) (View.ld (iblk m c 7 t) r0_3) (View.ld (iblk m c 7 t) r0_4)) (k0_pay8 (k0_pay3 (iblk m c 1 t) (iblk m c 9 t) (iblk m c 10 t)) (View.ld (iblk m c 7 t) r0_5) (View.ld (iblk m c 7 t) r0_6))
      (k0_pay9 (k0_pay3 (iblk m c 1 t) (iblk m c 9 t) (iblk m c 10 t))) (k0_pay10 (k0_pay3 (iblk m c 1 t) (iblk m c 9 t) (iblk m c 10 t))) (k0_pay11 (F := Ideal)) (View.ld (iblk m c 7 t) r0_7) (View.ld (iblk m c 7 t) r0_8) (View.ld (iblk m c 7 t) r0_9) (View.ld (iblk m c 7 t) r0_10))
    (k0_pay16 (k0_pay14 (k0_pay3 (iblk m c 1 t) (iblk m c 9 t) (iblk m c 10 t)) k0_pay6) (k0_pay15 (k0_pay3 (iblk m c 1 t) (iblk m c 9 t) (iblk m c 10 t)) k0_pay6 (View.ld (iblk m c 7 t) r0_3)) (View.ld (iblk m c 7 t) r0_4))
    (k0_pay17 (k0_pay3 (iblk m c 1 t) (iblk m c 9 t) (iblk m c 10 t)) k0_pay6 (View.ld (iblk m c 7 t) r0_5) (View.ld (iblk m c 7 t) r0_6)) (k0_pay18 (k0_pay3 (iblk m c 1 t) (iblk m c 9 t) (iblk m c 10 t)) k0_pay6 (View.ld (iblk m c 7 t) r0_7) (View.ld (iblk m c 7 t) r0_8))
    (k0_pay19 (k0_pay3 (iblk m c 1 t) (iblk m c 9 t) (iblk m c 10 t))) (k0_pay20 (k0_pay3 (iblk m c 1 t) (iblk m c 9 t) (iblk m c 10 t)) k0_pay6) (Scalar.ofBits .f32 0x00000000#32) (View.ld (iblk m c 7 t) r0_9) (View.ld (iblk m c 7 t) r0_10) (iblk m c 5 t) (ix2 i k) = yb (args m c) (row t i) k :=
  (p24 _ _ _ _ _ _ _ _ _ _ _ _ _ i k).trans (Finset.sum_congr rfl fun j _ => by rw [b5]; exact congrArg (· * _) (q21 m c t i j))
theorem q26 (i : Fin 256) (k : Fin 1024) : k0_pay26 (k0_pay2 (iblk m c 1 t)) (k0_pay5 (k0_pay4 (iblk m c 8 t))) k0_pay6
    (k0_pay12 (k0_pay3 (iblk m c 1 t) (iblk m c 9 t) (iblk m c 10 t)) k0_pay6 (k0_pay7 (k0_pay3 (iblk m c 1 t) (iblk m c 9 t) (iblk m c 10 t)) (View.ld (iblk m c 7 t) r0_3) (View.ld (iblk m c 7 t) r0_4)) (k0_pay8 (k0_pay3 (iblk m c 1 t) (iblk m c 9 t) (iblk m c 10 t)) (View.ld (iblk m c 7 t) r0_5) (View.ld (iblk m c 7 t) r0_6))
      (k0_pay9 (k0_pay3 (iblk m c 1 t) (iblk m c 9 t) (iblk m c 10 t))) (k0_pay10 (k0_pay3 (iblk m c 1 t) (iblk m c 9 t) (iblk m c 10 t))) (k0_pay11 (F := Ideal)) (View.ld (iblk m c 7 t) r0_7) (View.ld (iblk m c 7 t) r0_8) (View.ld (iblk m c 7 t) r0_9) (View.ld (iblk m c 7 t) r0_10))
    (k0_pay16 (k0_pay14 (k0_pay3 (iblk m c 1 t) (iblk m c 9 t) (iblk m c 10 t)) k0_pay6) (k0_pay15 (k0_pay3 (iblk m c 1 t) (iblk m c 9 t) (iblk m c 10 t)) k0_pay6 (View.ld (iblk m c 7 t) r0_3)) (View.ld (iblk m c 7 t) r0_4))
    (k0_pay17 (k0_pay3 (iblk m c 1 t) (iblk m c 9 t) (iblk m c 10 t)) k0_pay6 (View.ld (iblk m c 7 t) r0_5) (View.ld (iblk m c 7 t) r0_6)) (k0_pay18 (k0_pay3 (iblk m c 1 t) (iblk m c 9 t) (iblk m c 10 t)) k0_pay6 (View.ld (iblk m c 7 t) r0_7) (View.ld (iblk m c 7 t) r0_8))
    (k0_pay19 (k0_pay3 (iblk m c 1 t) (iblk m c 9 t) (iblk m c 10 t))) (k0_pay20 (k0_pay3 (iblk m c 1 t) (iblk m c 9 t) (iblk m c 10 t)) k0_pay6) (Scalar.ofBits .f32 0x00000000#32) (View.ld (iblk m c 7 t) r0_9) (View.ld (iblk m c 7 t) r0_10) (iblk m c 5 t) (ix2 i k) = yb (args m c) (row t i) k :=
  (p26 _ _ _ _ _ _ _ _ _ _ _ _ _ i k).trans (q24 m c t i k)
theorem q28 (i : Fin 256) (k : Fin 1024) : k0_pay28 (k0_pay23 (iblk m c 0 t) (iblk m c 4 t)) (k0_pay24 (k0_pay2 (iblk m c 1 t)) (k0_pay5 (k0_pay4 (iblk m c 8 t))) k0_pay6
    (k0_pay12 (k0_pay3 (iblk m c 1 t) (iblk m c 9 t) (iblk m c 10 t)) k0_pay6 (k0_pay7 (k0_pay3 (iblk m c 1 t) (iblk m c 9 t) (iblk m c 10 t)) (View.ld (iblk m c 7 t) r0_3) (View.ld (iblk m c 7 t) r0_4)) (k0_pay8 (k0_pay3 (iblk m c 1 t) (iblk m c 9 t) (iblk m c 10 t)) (View.ld (iblk m c 7 t) r0_5) (View.ld (iblk m c 7 t) r0_6))
      (k0_pay9 (k0_pay3 (iblk m c 1 t) (iblk m c 9 t) (iblk m c 10 t))) (k0_pay10 (k0_pay3 (iblk m c 1 t) (iblk m c 9 t) (iblk m c 10 t))) (k0_pay11 (F := Ideal)) (View.ld (iblk m c 7 t) r0_7) (View.ld (iblk m c 7 t) r0_8) (View.ld (iblk m c 7 t) r0_9) (View.ld (iblk m c 7 t) r0_10))
    (k0_pay16 (k0_pay14 (k0_pay3 (iblk m c 1 t) (iblk m c 9 t) (iblk m c 10 t)) k0_pay6) (k0_pay15 (k0_pay3 (iblk m c 1 t) (iblk m c 9 t) (iblk m c 10 t)) k0_pay6 (View.ld (iblk m c 7 t) r0_3)) (View.ld (iblk m c 7 t) r0_4))
    (k0_pay17 (k0_pay3 (iblk m c 1 t) (iblk m c 9 t) (iblk m c 10 t)) k0_pay6 (View.ld (iblk m c 7 t) r0_5) (View.ld (iblk m c 7 t) r0_6)) (k0_pay18 (k0_pay3 (iblk m c 1 t) (iblk m c 9 t) (iblk m c 10 t)) k0_pay6 (View.ld (iblk m c 7 t) r0_7) (View.ld (iblk m c 7 t) r0_8))
    (k0_pay19 (k0_pay3 (iblk m c 1 t) (iblk m c 9 t) (iblk m c 10 t))) (k0_pay20 (k0_pay3 (iblk m c 1 t) (iblk m c 9 t) (iblk m c 10 t)) k0_pay6) (Scalar.ofBits .f32 0x00000000#32) (View.ld (iblk m c 7 t) r0_9) (View.ld (iblk m c 7 t) r0_10) (iblk m c 5 t)) (k0_pay27 (iblk m c 2 t)) (ix2 i k) = merged (args m c) (row t i) k := by
  refine (p28 _ _ _ i k).trans ?_
  rw [q23, b2, b2]
  exact congrArg (fun y => _ + _ * y) (q24 m c t i k)
theorem q29 (k : Fin 1024) (i : Fin 256) : k0_pay29 (k0_pay23 (iblk m c 0 t) (iblk m c 4 t)) (k0_pay24 (k0_pay2 (iblk m c 1 t)) (k0_pay5 (k0_pay4 (iblk m c 8 t))) k0_pay6
    (k0_pay12 (k0_pay3 (iblk m c 1 t) (iblk m c 9 t) (iblk m c 10 t)) k0_pay6 (k0_pay7 (k0_pay3 (iblk m c 1 t) (iblk m c 9 t) (iblk m c 10 t)) (View.ld (iblk m c 7 t) r0_3) (View.ld (iblk m c 7 t) r0_4)) (k0_pay8 (k0_pay3 (iblk m c 1 t) (iblk m c 9 t) (iblk m c 10 t)) (View.ld (iblk m c 7 t) r0_5) (View.ld (iblk m c 7 t) r0_6))
      (k0_pay9 (k0_pay3 (iblk m c 1 t) (iblk m c 9 t) (iblk m c 10 t))) (k0_pay10 (k0_pay3 (iblk m c 1 t) (iblk m c 9 t) (iblk m c 10 t))) (k0_pay11 (F := Ideal)) (View.ld (iblk m c 7 t) r0_7) (View.ld (iblk m c 7 t) r0_8) (View.ld (iblk m c 7 t) r0_9) (View.ld (iblk m c 7 t) r0_10))
    (k0_pay16 (k0_pay14 (k0_pay3 (iblk m c 1 t) (iblk m c 9 t) (iblk m c 10 t)) k0_pay6) (k0_pay15 (k0_pay3 (iblk m c 1 t) (iblk m c 9 t) (iblk m c 10 t)) k0_pay6 (View.ld (iblk m c 7 t) r0_3)) (View.ld (iblk m c 7 t) r0_4))
    (k0_pay17 (k0_pay3 (iblk m c 1 t) (iblk m c 9 t) (iblk m c 10 t)) k0_pay6 (View.ld (iblk m c 7 t) r0_5) (View.ld (iblk m c 7 t) r0_6)) (k0_pay18 (k0_pay3 (iblk m c 1 t) (iblk m c 9 t) (iblk m c 10 t)) k0_pay6 (View.ld (iblk m c 7 t) r0_7) (View.ld (iblk m c 7 t) r0_8))
    (k0_pay19 (k0_pay3 (iblk m c 1 t) (iblk m c 9 t) (iblk m c 10 t))) (k0_pay20 (k0_pay3 (iblk m c 1 t) (iblk m c 9 t) (iblk m c 10 t)) k0_pay6) (Scalar.ofBits .f32 0x00000000#32) (View.ld (iblk m c 7 t) r0_9) (View.ld (iblk m c 7 t) r0_10) (iblk m c 5 t)) (k0_pay27 (iblk m c 2 t)) (ix2 k i) = merged (args m c) (row t i) k :=
  (p29 _ _ _ k i).trans (q28 m c t i k)
theorem q30 (i : Fin 256) (k : Fin 1024) : k0_pay30 (k0_pay23 (iblk m c 0 t) (iblk m c 4 t)) (k0_pay24 (k0_pay2 (iblk m c 1 t)) (k0_pay5 (k0_pay4 (iblk m c 8 t))) k0_pay6
    (k0_pay12 (k0_pay3 (iblk m c 1 t) (iblk m c 9 t) (iblk m c 10 t)) k0_pay6 (k0_pay7 (k0_pay3 (iblk m c 1 t) (iblk m c 9 t) (iblk m c 10 t)) (View.ld (iblk m c 7 t) r0_3) (View.ld (iblk m c 7 t) r0_4)) (k0_pay8 (k0_pay3 (iblk m c 1 t) (iblk m c 9 t) (iblk m c 10 t)) (View.ld (iblk m c 7 t) r0_5) (View.ld (iblk m c 7 t) r0_6))
      (k0_pay9 (k0_pay3 (iblk m c 1 t) (iblk m c 9 t) (iblk m c 10 t))) (k0_pay10 (k0_pay3 (iblk m c 1 t) (iblk m c 9 t) (iblk m c 10 t))) (k0_pay11 (F := Ideal)) (View.ld (iblk m c 7 t) r0_7) (View.ld (iblk m c 7 t) r0_8) (View.ld (iblk m c 7 t) r0_9) (View.ld (iblk m c 7 t) r0_10))
    (k0_pay16 (k0_pay14 (k0_pay3 (iblk m c 1 t) (iblk m c 9 t) (iblk m c 10 t)) k0_pay6) (k0_pay15 (k0_pay3 (iblk m c 1 t) (iblk m c 9 t) (iblk m c 10 t)) k0_pay6 (View.ld (iblk m c 7 t) r0_3)) (View.ld (iblk m c 7 t) r0_4))
    (k0_pay17 (k0_pay3 (iblk m c 1 t) (iblk m c 9 t) (iblk m c 10 t)) k0_pay6 (View.ld (iblk m c 7 t) r0_5) (View.ld (iblk m c 7 t) r0_6)) (k0_pay18 (k0_pay3 (iblk m c 1 t) (iblk m c 9 t) (iblk m c 10 t)) k0_pay6 (View.ld (iblk m c 7 t) r0_7) (View.ld (iblk m c 7 t) r0_8))
    (k0_pay19 (k0_pay3 (iblk m c 1 t) (iblk m c 9 t) (iblk m c 10 t))) (k0_pay20 (k0_pay3 (iblk m c 1 t) (iblk m c 9 t) (iblk m c 10 t)) k0_pay6) (Scalar.ofBits .f32 0x00000000#32) (View.ld (iblk m c 7 t) r0_9) (View.ld (iblk m c 7 t) r0_10) (iblk m c 5 t)) (k0_pay27 (iblk m c 2 t)) (iblk m c 6 t) (ix2 i k) = om (args m c) (row t i) k :=
  (p30 _ _ _ _ i k).trans (Finset.sum_congr rfl fun j _ => by rw [b6]; exact congrArg (· * _) (q28 m c t i j))
theorem q31 (i : Fin 256) (k : Fin 1024) : k0_pay31 (k0_pay23 (iblk m c 0 t) (iblk m c 4 t)) (k0_pay24 (k0_pay2 (iblk m c 1 t)) (k0_pay5 (k0_pay4 (iblk m c 8 t))) k0_pay6
    (k0_pay12 (k0_pay3 (iblk m c 1 t) (iblk m c 9 t) (iblk m c 10 t)) k0_pay6 (k0_pay7 (k0_pay3 (iblk m c 1 t) (iblk m c 9 t) (iblk m c 10 t)) (View.ld (iblk m c 7 t) r0_3) (View.ld (iblk m c 7 t) r0_4)) (k0_pay8 (k0_pay3 (iblk m c 1 t) (iblk m c 9 t) (iblk m c 10 t)) (View.ld (iblk m c 7 t) r0_5) (View.ld (iblk m c 7 t) r0_6))
      (k0_pay9 (k0_pay3 (iblk m c 1 t) (iblk m c 9 t) (iblk m c 10 t))) (k0_pay10 (k0_pay3 (iblk m c 1 t) (iblk m c 9 t) (iblk m c 10 t))) (k0_pay11 (F := Ideal)) (View.ld (iblk m c 7 t) r0_7) (View.ld (iblk m c 7 t) r0_8) (View.ld (iblk m c 7 t) r0_9) (View.ld (iblk m c 7 t) r0_10))
    (k0_pay16 (k0_pay14 (k0_pay3 (iblk m c 1 t) (iblk m c 9 t) (iblk m c 10 t)) k0_pay6) (k0_pay15 (k0_pay3 (iblk m c 1 t) (iblk m c 9 t) (iblk m c 10 t)) k0_pay6 (View.ld (iblk m c 7 t) r0_3)) (View.ld (iblk m c 7 t) r0_4))
    (k0_pay17 (k0_pay3 (iblk m c 1 t) (iblk m c 9 t) (iblk m c 10 t)) k0_pay6 (View.ld (iblk m c 7 t) r0_5) (View.ld (iblk m c 7 t) r0_6)) (k0_pay18 (k0_pay3 (iblk m c 1 t) (iblk m c 9 t) (iblk m c 10 t)) k0_pay6 (View.ld (iblk m c 7 t) r0_7) (View.ld (iblk m c 7 t) r0_8))
    (k0_pay19 (k0_pay3 (iblk m c 1 t) (iblk m c 9 t) (iblk m c 10 t))) (k0_pay20 (k0_pay3 (iblk m c 1 t) (iblk m c 9 t) (iblk m c 10 t)) k0_pay6) (Scalar.ofBits .f32 0x00000000#32) (View.ld (iblk m c 7 t) r0_9) (View.ld (iblk m c 7 t) r0_10) (iblk m c 5 t)) (k0_pay27 (iblk m c 2 t)) (iblk m c 6 t) (iblk m c 3 t) (iblk m c 11 t) (ix2 i k) = out (args m c) (row t i) k := by
  refine (p31 _ _ _ _ _ _ i k).trans ?_
  have h := fun k => q30 m c t i k
  revert h
  generalize k0_pay30 (k0_pay23 (iblk m c 0 t) (iblk m c 4 t)) (k0_pay24 (k0_pay2 (iblk m c 1 t)) (k0_pay5 (k0_pay4 (iblk m c 8 t))) k0_pay6
    (k0_pay12 (k0_pay3 (iblk m c 1 t) (iblk m c 9 t) (iblk m c 10 t)) k0_pay6 (k0_pay7 (k0_pay3 (iblk m c 1 t) (iblk m c 9 t) (iblk m c 10 t)) (View.ld (iblk m c 7 t) r0_3) (View.ld (iblk m c 7 t) r0_4)) (k0_pay8 (k0_pay3 (iblk m c 1 t) (iblk m c 9 t) (iblk m c 10 t)) (View.ld (iblk m c 7 t) r0_5) (View.ld (iblk m c 7 t) r0_6))
      (k0_pay9 (k0_pay3 (iblk m c 1 t) (iblk m c 9 t) (iblk m c 10 t))) (k0_pay10 (k0_pay3 (iblk m c 1 t) (iblk m c 9 t) (iblk m c 10 t))) (k0_pay11 (F := Ideal)) (View.ld (iblk m c 7 t) r0_7) (View.ld (iblk m c 7 t) r0_8) (View.ld (iblk m c 7 t) r0_9) (View.ld (iblk m c 7 t) r0_10))
    (k0_pay16 (k0_pay14 (k0_pay3 (iblk m c 1 t) (iblk m c 9 t) (iblk m c 10 t)) k0_pay6) (k0_pay15 (k0_pay3 (iblk m c 1 t) (iblk m c 9 t) (iblk m c 10 t)) k0_pay6 (View.ld (iblk m c 7 t) r0_3)) (View.ld (iblk m c 7 t) r0_4))
    (k0_pay17 (k0_pay3 (iblk m c 1 t) (iblk m c 9 t) (iblk m c 10 t)) k0_pay6 (View.ld (iblk m c 7 t) r0_5) (View.ld (iblk m c 7 t) r0_6)) (k0_pay18 (k0_pay3 (iblk m c 1 t) (iblk m c 9 t) (iblk m c 10 t)) k0_pay6 (View.ld (iblk m c 7 t) r0_7) (View.ld (iblk m c 7 t) r0_8))
    (k0_pay19 (k0_pay3 (iblk m c 1 t) (iblk m c 9 t) (iblk m c 10 t))) (k0_pay20 (k0_pay3 (iblk m c 1 t) (iblk m c 9 t) (iblk m c 10 t)) k0_pay6) (Scalar.ofBits .f32 0x00000000#32) (View.ld (iblk m c 7 t) r0_9) (View.ld (iblk m c 7 t) r0_10) (iblk m c 5 t)) (k0_pay27 (iblk m c 2 t)) (iblk m c 6 t) = om'
  intro h
  rw [b3, b11]
  simp only [h]
  rfl

/-- The result array of the gated mixtures, a column for a token. -/
theorem final12 : (dats m 0 c).arrAt 12 cfg0.N
    = (fun z => sgu (args m c) (z 1) (z 0) : FVec Ideal S512x4096 .bf16) := by
  refine (dats m 0 c).arrAt_eq_of_covers 12 _ (by decide +kernel) fun t hf z => ?_
  blk_simp
  rw [after0_12]
  have e : ∀ z : S512x256.Idx, (((View.whole main_v20_0).slice (win0_12.rect t)).emb z) = ix2 (z 0) (row t (z 1)) := by
    intro z; unfold row; blk_ext [idx t]
  rw [e]
  have pt : ∀ z : S512x256.Idx, k0_pay22 (k0_pay2 (iblk m c 1 t)) (k0_pay5 (k0_pay4 (iblk m c 8 t))) k0_pay6
    (k0_pay12 (k0_pay3 (iblk m c 1 t) (iblk m c 9 t) (iblk m c 10 t)) k0_pay6 (k0_pay7 (k0_pay3 (iblk m c 1 t) (iblk m c 9 t) (iblk m c 10 t)) (View.ld (iblk m c 7 t) r0_3) (View.ld (iblk m c 7 t) r0_4)) (k0_pay8 (k0_pay3 (iblk m c 1 t) (iblk m c 9 t) (iblk m c 10 t)) (View.ld (iblk m c 7 t) r0_5) (View.ld (iblk m c 7 t) r0_6))
      (k0_pay9 (k0_pay3 (iblk m c 1 t) (iblk m c 9 t) (iblk m c 10 t))) (k0_pay10 (k0_pay3 (iblk m c 1 t) (iblk m c 9 t) (iblk m c 10 t))) (k0_pay11 (F := Ideal)) (View.ld (iblk m c 7 t) r0_7) (View.ld (iblk m c 7 t) r0_8) (View.ld (iblk m c 7 t) r0_9) (View.ld (iblk m c 7 t) r0_10))
    (k0_pay16 (k0_pay14 (k0_pay3 (iblk m c 1 t) (iblk m c 9 t) (iblk m c 10 t)) k0_pay6) (k0_pay15 (k0_pay3 (iblk m c 1 t) (iblk m c 9 t) (iblk m c 10 t)) k0_pay6 (View.ld (iblk m c 7 t) r0_3)) (View.ld (iblk m c 7 t) r0_4))
    (k0_pay17 (k0_pay3 (iblk m c 1 t) (iblk m c 9 t) (iblk m c 10 t)) k0_pay6 (View.ld (iblk m c 7 t) r0_5) (View.ld (iblk m c 7 t) r0_6)) (k0_pay18 (k0_pay3 (iblk m c 1 t) (iblk m c 9 t) (iblk m c 10 t)) k0_pay6 (View.ld (iblk m c 7 t) r0_7) (View.ld (iblk m c 7 t) r0_8))
    (k0_pay19 (k0_pay3 (iblk m c 1 t) (iblk m c 9 t) (iblk m c 10 t))) (k0_pay20 (k0_pay3 (iblk m c 1 t) (iblk m c 9 t) (iblk m c 10 t)) k0_pay6) (Scalar.ofBits .f32 0x00000000#32) (View.ld (iblk m c 7 t) r0_9) (View.ld (iblk m c 7 t) r0_10) z = _ := fun z => (congrArg _ (eq_ix2 z)).trans (q22 m c t (z 0) (z 1))
  unfold_out out0_12
  frame_out
  exact pt z
/-- The result array of the attention branch. -/
theorem final13 : (dats m 0 c).arrAt 13 cfg0.N
    = (fun z => ya (args m c) (z 0) (z 1) : FVec Ideal S4096x1024 .bf16) := by
  refine (dats m 0 c).arrAt_eq_of_covers 13 _ (by decide +kernel) fun t hf z => ?_
  blk_simp
  rw [after0_13]
  have e : ∀ z : S256x1024.Idx, (((View.whole main_v20_1).slice (win0_13.rect t)).emb z) = ix2 (row t (z 0)) (z 1) := by
    intro z; unfold row; blk_ext [idx t]
  rw [e]
  have pt : ∀ z : S256x1024.Idx, k0_pay25 (iblk m c 0 t) (iblk m c 4 t) z = _ := fun z => (congrArg _ (eq_ix2 z)).trans (q25 m c t (z 0) (z 1))
  unfold_out out0_13
  frame_out
  exact pt z
/-- The result array of the spatial branch. -/
theorem final14 : (dats m 0 c).arrAt 14 cfg0.N
    = (fun z => yb (args m c) (z 0) (z 1) : FVec Ideal S4096x1024 .bf16) := by
  refine (dats m 0 c).arrAt_eq_of_covers 14 _ (by decide +kernel) fun t hf z => ?_
  blk_simp
  rw [after0_14]
  have e : ∀ z : S256x1024.Idx, (((View.whole main_v20_2).slice (win0_14.rect t)).emb z) = ix2 (row t (z 0)) (z 1) := by
    intro z; unfold row; blk_ext [idx t]
  rw [e]
  have pt : ∀ z : S256x1024.Idx, k0_pay26 (k0_pay2 (iblk m c 1 t)) (k0_pay5 (k0_pay4 (iblk m c 8 t))) k0_pay6
    (k0_pay12 (k0_pay3 (iblk m c 1 t) (iblk m c 9 t) (iblk m c 10 t)) k0_pay6 (k0_pay7 (k0_pay3 (iblk m c 1 t) (iblk m c 9 t) (iblk m c 10 t)) (View.ld (iblk m c 7 t) r0_3) (View.ld (iblk m c 7 t) r0_4)) (k0_pay8 (k0_pay3 (iblk m c 1 t) (iblk m c 9 t) (iblk m c 10 t)) (View.ld (iblk m c 7 t) r0_5) (View.ld (iblk m c 7 t) r0_6))
      (k0_pay9 (k0_pay3 (iblk m c 1 t) (iblk m c 9 t) (iblk m c 10 t))) (k0_pay10 (k0_pay3 (iblk m c 1 t) (iblk m c 9 t) (iblk m c 10 t))) (k0_pay11 (F := Ideal)) (View.ld (iblk m c 7 t) r0_7) (View.ld (iblk m c 7 t) r0_8) (View.ld (iblk m c 7 t) r0_9) (View.ld (iblk m c 7 t) r0_10))
    (k0_pay16 (k0_pay14 (k0_pay3 (iblk m c 1 t) (iblk m c 9 t) (iblk m c 10 t)) k0_pay6) (k0_pay15 (k0_pay3 (iblk m c 1 t) (iblk m c 9 t) (iblk m c 10 t)) k0_pay6 (View.ld (iblk m c 7 t) r0_3)) (View.ld (iblk m c 7 t) r0_4))
    (k0_pay17 (k0_pay3 (iblk m c 1 t) (iblk m c 9 t) (iblk m c 10 t)) k0_pay6 (View.ld (iblk m c 7 t) r0_5) (View.ld (iblk m c 7 t) r0_6)) (k0_pay18 (k0_pay3 (iblk m c 1 t) (iblk m c 9 t) (iblk m c 10 t)) k0_pay6 (View.ld (iblk m c 7 t) r0_7) (View.ld (iblk m c 7 t) r0_8))
    (k0_pay19 (k0_pay3 (iblk m c 1 t) (iblk m c 9 t) (iblk m c 10 t))) (k0_pay20 (k0_pay3 (iblk m c 1 t) (iblk m c 9 t) (iblk m c 10 t)) k0_pay6) (Scalar.ofBits .f32 0x00000000#32) (View.ld (iblk m c 7 t) r0_9) (View.ld (iblk m c 7 t) r0_10) (iblk m c 5 t) z = _ := fun z => (congrArg _ (eq_ix2 z)).trans (q26 m c t (z 0) (z 1))
  unfold_out out0_14
  frame_out
  exact pt z
/-- The result array of the merged branches, a column for a token. -/
theorem final15 : (dats m 0 c).arrAt 15 cfg0.N
    = (fun z => merged (args m c) (z 1) (z 0) : FVec Ideal S1024x4096 .bf16) := by
  refine (dats m 0 c).arrAt_eq_of_covers 15 _ (by decide +kernel) fun t hf z => ?_
  blk_simp
  rw [after0_15]
  have e : ∀ z : S1024x256.Idx, (((View.whole main_v20_3).slice (win0_15.rect t)).emb z) = ix2 (z 0) (row t (z 1)) := by
    intro z; unfold row; blk_ext [idx t]
  rw [e]
  have pt : ∀ z : S1024x256.Idx, k0_pay29 (k0_pay23 (iblk m c 0 t) (iblk m c 4 t)) (k0_pay24 (k0_pay2 (iblk m c 1 t)) (k0_pay5 (k0_pay4 (iblk m c 8 t))) k0_pay6
    (k0_pay12 (k0_pay3 (iblk m c 1 t) (iblk m c 9 t) (iblk m c 10 t)) k0_pay6 (k0_pay7 (k0_pay3 (iblk m c 1 t) (iblk m c 9 t) (iblk m c 10 t)) (View.ld (iblk m c 7 t) r0_3) (View.ld (iblk m c 7 t) r0_4)) (k0_pay8 (k0_pay3 (iblk m c 1 t) (iblk m c 9 t) (iblk m c 10 t)) (View.ld (iblk m c 7 t) r0_5) (View.ld (iblk m c 7 t) r0_6))
      (k0_pay9 (k0_pay3 (iblk m c 1 t) (iblk m c 9 t) (iblk m c 10 t))) (k0_pay10 (k0_pay3 (iblk m c 1 t) (iblk m c 9 t) (iblk m c 10 t))) (k0_pay11 (F := Ideal)) (View.ld (iblk m c 7 t) r0_7) (View.ld (iblk m c 7 t) r0_8) (View.ld (iblk m c 7 t) r0_9) (View.ld (iblk m c 7 t) r0_10))
    (k0_pay16 (k0_pay14 (k0_pay3 (iblk m c 1 t) (iblk m c 9 t) (iblk m c 10 t)) k0_pay6) (k0_pay15 (k0_pay3 (iblk m c 1 t) (iblk m c 9 t) (iblk m c 10 t)) k0_pay6 (View.ld (iblk m c 7 t) r0_3)) (View.ld (iblk m c 7 t) r0_4))
    (k0_pay17 (k0_pay3 (iblk m c 1 t) (iblk m c 9 t) (iblk m c 10 t)) k0_pay6 (View.ld (iblk m c 7 t) r0_5) (View.ld (iblk m c 7 t) r0_6)) (k0_pay18 (k0_pay3 (iblk m c 1 t) (iblk m c 9 t) (iblk m c 10 t)) k0_pay6 (View.ld (iblk m c 7 t) r0_7) (View.ld (iblk m c 7 t) r0_8))
    (k0_pay19 (k0_pay3 (iblk m c 1 t) (iblk m c 9 t) (iblk m c 10 t))) (k0_pay20 (k0_pay3 (iblk m c 1 t) (iblk m c 9 t) (iblk m c 10 t)) k0_pay6) (Scalar.ofBits .f32 0x00000000#32) (View.ld (iblk m c 7 t) r0_9) (View.ld (iblk m c 7 t) r0_10) (iblk m c 5 t)) (k0_pay27 (iblk m c 2 t)) z = _ := fun z => (congrArg _ (eq_ix2 z)).trans (q29 m c t (z 0) (z 1))
  unfold_out out0_15
  frame_out
  exact pt z
/-- The result array of the merged branches, projected. -/
theorem final16 : (dats m 0 c).arrAt 16 cfg0.N
    = (fun z => om (args m c) (z 0) (z 1) : FVec Ideal S4096x1024 .f32) := by
  refine (dats m 0 c).arrAt_eq_of_covers 16 _ (by decide +kernel) fun t hf z => ?_
  blk_simp
  rw [after0_16]
  have e : ∀ z : S256x1024.Idx, (((View.whole main_v20_4).slice (win0_16.rect t)).emb z) = ix2 (row t (z 0)) (z 1) := by
    intro z; unfold row; blk_ext [idx t]
  rw [e]
  have pt : ∀ z : S256x1024.Idx, k0_pay30 (k0_pay23 (iblk m c 0 t) (iblk m c 4 t)) (k0_pay24 (k0_pay2 (iblk m c 1 t)) (k0_pay5 (k0_pay4 (iblk m c 8 t))) k0_pay6
    (k0_pay12 (k0_pay3 (iblk m c 1 t) (iblk m c 9 t) (iblk m c 10 t)) k0_pay6 (k0_pay7 (k0_pay3 (iblk m c 1 t) (iblk m c 9 t) (iblk m c 10 t)) (View.ld (iblk m c 7 t) r0_3) (View.ld (iblk m c 7 t) r0_4)) (k0_pay8 (k0_pay3 (iblk m c 1 t) (iblk m c 9 t) (iblk m c 10 t)) (View.ld (iblk m c 7 t) r0_5) (View.ld (iblk m c 7 t) r0_6))
      (k0_pay9 (k0_pay3 (iblk m c 1 t) (iblk m c 9 t) (iblk m c 10 t))) (k0_pay10 (k0_pay3 (iblk m c 1 t) (iblk m c 9 t) (iblk m c 10 t))) (k0_pay11 (F := Ideal)) (View.ld (iblk m c 7 t) r0_7) (View.ld (iblk m c 7 t) r0_8) (View.ld (iblk m c 7 t) r0_9) (View.ld (iblk m c 7 t) r0_10))
    (k0_pay16 (k0_pay14 (k0_pay3 (iblk m c 1 t) (iblk m c 9 t) (iblk m c 10 t)) k0_pay6) (k0_pay15 (k0_pay3 (iblk m c 1 t) (iblk m c 9 t) (iblk m c 10 t)) k0_pay6 (View.ld (iblk m c 7 t) r0_3)) (View.ld (iblk m c 7 t) r0_4))
    (k0_pay17 (k0_pay3 (iblk m c 1 t) (iblk m c 9 t) (iblk m c 10 t)) k0_pay6 (View.ld (iblk m c 7 t) r0_5) (View.ld (iblk m c 7 t) r0_6)) (k0_pay18 (k0_pay3 (iblk m c 1 t) (iblk m c 9 t) (iblk m c 10 t)) k0_pay6 (View.ld (iblk m c 7 t) r0_7) (View.ld (iblk m c 7 t) r0_8))
    (k0_pay19 (k0_pay3 (iblk m c 1 t) (iblk m c 9 t) (iblk m c 10 t))) (k0_pay20 (k0_pay3 (iblk m c 1 t) (iblk m c 9 t) (iblk m c 10 t)) k0_pay6) (Scalar.ofBits .f32 0x00000000#32) (View.ld (iblk m c 7 t) r0_9) (View.ld (iblk m c 7 t) r0_10) (iblk m c 5 t)) (k0_pay27 (iblk m c 2 t)) (iblk m c 6 t) z = _ := fun z => (congrArg _ (eq_ix2 z)).trans (q30 m c t (z 0) (z 1))
  unfold_out out0_16
  frame_out
  exact pt z
/-- The result array of the token rows with the branches added. -/
theorem final17 : (dats m 0 c).arrAt 17 cfg0.N
    = (fun z => out (args m c) (z 0) (z 1) : FVec Ideal S4096x1024 .f32) := by
  refine (dats m 0 c).arrAt_eq_of_covers 17 _ (by decide +kernel) fun t hf z => ?_
  blk_simp
  rw [after0_17]
  have e : ∀ z : S256x1024.Idx, (((View.whole main_v20_5).slice (win0_17.rect t)).emb z) = ix2 (row t (z 0)) (z 1) := by
    intro z; unfold row; blk_ext [idx t]
  rw [e]
  have pt : ∀ z : S256x1024.Idx, k0_pay31 (k0_pay23 (iblk m c 0 t) (iblk m c 4 t)) (k0_pay24 (k0_pay2 (iblk m c 1 t)) (k0_pay5 (k0_pay4 (iblk m c 8 t))) k0_pay6
    (k0_pay12 (k0_pay3 (iblk m c 1 t) (iblk m c 9 t) (iblk m c 10 t)) k0_pay6 (k0_pay7 (k0_pay3 (iblk m c 1 t) (iblk m c 9 t) (iblk m c 10 t)) (View.ld (iblk m c 7 t) r0_3) (View.ld (iblk m c 7 t) r0_4)) (k0_pay8 (k0_pay3 (iblk m c 1 t) (iblk m c 9 t) (iblk m c 10 t)) (View.ld (iblk m c 7 t) r0_5) (View.ld (iblk m c 7 t) r0_6))
      (k0_pay9 (k0_pay3 (iblk m c 1 t) (iblk m c 9 t) (iblk m c 10 t))) (k0_pay10 (k0_pay3 (iblk m c 1 t) (iblk m c 9 t) (iblk m c 10 t))) (k0_pay11 (F := Ideal)) (View.ld (iblk m c 7 t) r0_7) (View.ld (iblk m c 7 t) r0_8) (View.ld (iblk m c 7 t) r0_9) (View.ld (iblk m c 7 t) r0_10))
    (k0_pay16 (k0_pay14 (k0_pay3 (iblk m c 1 t) (iblk m c 9 t) (iblk m c 10 t)) k0_pay6) (k0_pay15 (k0_pay3 (iblk m c 1 t) (iblk m c 9 t) (iblk m c 10 t)) k0_pay6 (View.ld (iblk m c 7 t) r0_3)) (View.ld (iblk m c 7 t) r0_4))
    (k0_pay17 (k0_pay3 (iblk m c 1 t) (iblk m c 9 t) (iblk m c 10 t)) k0_pay6 (View.ld (iblk m c 7 t) r0_5) (View.ld (iblk m c 7 t) r0_6)) (k0_pay18 (k0_pay3 (iblk m c 1 t) (iblk m c 9 t) (iblk m c 10 t)) k0_pay6 (View.ld (iblk m c 7 t) r0_7) (View.ld (iblk m c 7 t) r0_8))
    (k0_pay19 (k0_pay3 (iblk m c 1 t) (iblk m c 9 t) (iblk m c 10 t))) (k0_pay20 (k0_pay3 (iblk m c 1 t) (iblk m c 9 t) (iblk m c 10 t)) k0_pay6) (Scalar.ofBits .f32 0x00000000#32) (View.ld (iblk m c 7 t) r0_9) (View.ld (iblk m c 7 t) r0_10) (iblk m c 5 t)) (k0_pay27 (iblk m c 2 t)) (iblk m c 6 t) (iblk m c 3 t) (iblk m c 11 t) z = _ := fun z => (congrArg _ (eq_ix2 z)).trans (q31 m c t (z 0) (z 1))
  unfold_out out0_17
  frame_out
  exact pt z
end Cert.MixKernelIdeal.Value
end
end
-- ==== Proof.Mix.Reference.lean ====
/- The reference of the gating and the merge computes the model, entry by entry. -/
module
public import proofs.«01_k».proof.Proof.Mix.Model
public import proofs.«01_k».proof.Proof.Gen.MixReferenceIdeal.Read
public import proofs.«01_k».proof.Proof.Gen.MixReferenceIdeal.Run
public import proofs.«01_k».proof.Defs
@[expose] public section
set_option maxRecDepth 16384
noncomputable section
open Idealize.ShloMosaic Idealize.ShloMosaic.TcCoe Idealize.SL.Sem Cert.Mix
namespace Cert.MixReferenceIdeal.Value
open Cert.MixReferenceIdeal Cert.MixReferenceIdeal.Gen Cert.MixReferenceIdeal.Read

variable (x0 : FVec Ideal S4096x512 .f32) (x1 : FVec Ideal S4096x1024 .f32) (x2 : FVec Ideal S4096x2048 .f32) (x3 : FVec Ideal S4096x1024 .f32)
  (x4 x5 : FVec Ideal S512x1024 .f32) (x6 : FVec Ideal S1024x1024 .f32) (x7 : FVec Ideal S8x128x128 .f32) (x8 : FVec Ideal S8x128 .f32)
  (x9 x10 : FVec Ideal S1x512 .f32) (x11 : FVec Ideal S1x1024 .f32)

/-- The arguments' entries. -/
def args : Args where
  attn i k := x0 (ix2 i k)
  uv i k := x1 (ix2 i k)
  gate i k := x2 (ix2 i k)
  x i k := x3 (ix2 i k)
  wa i k := x4 (ix2 i k)
  wb i k := x5 (ix2 i k)
  wo i k := x6 (ix2 i k)
  ws g i k := x7 (ix3 g i k)
  bs g i := x8 (ix2 g i)
  gs k := x9 (ix2 0 k)
  bg k := x10 (ix2 0 k)
  gp k := x11 (ix2 0 k)

theorem v13 (i : Fin 4096) (k : Fin 1024) : val_main_v13 (F := Ideal) x1 (ix2 i k) = gelu (x1 (ix2 i k)) := by
  pointwise [val_main_v13, val_main_v12, val_main_v11, val_main_cst_2, val_main_v10, val_main_v9, val_main_cst_1, val_main_v8, val_main_v7, val_main_v6, val_main_cst_0, val_main_v5, val_main_v4, val_main_v3, val_main_cst, val_main_v2, val_main_v1]
  rfl
theorem v14 (i : Fin 4096) (k : Fin 512) : val_main_v14 (F := Ideal) x1 (ix2 i k) = gelu (x1 (ix2 i ⟨k.val, by omega⟩)) := by
  pointwise [val_main_v14, v13]
theorem v15 (i : Fin 4096) (k : Fin 512) : val_main_v15 (F := Ideal) x1 (ix2 i k) = gelu (x1 (ix2 i ⟨512 + k.val, by omega⟩)) := by
  pointwise [val_main_v15, v13]
theorem v35 (i : Fin 4096) (k : Fin 512) :
    val_main_v35 (F := Ideal) x1 x9 x10 (ix2 i k) = vn (args x0 x1 x2 x3 x4 x5 x6 x7 x8 x9 x10 x11) i k := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_cst_3, val_main_cst_4, val_main_cst_5, val_main_cst_6, val_main_cst_7, v15]
  rfl
theorem v41 (z : Fin 1) (k : Fin 128) : val_main_v41 (F := Ideal) (ix2 z k) = IntOp.divsi ArithUnit.host (BitVec.ofNat 32 k.val) 64#32 := by
  pointwise [val_main_v41, val_main_call0_v13, val_main_call0_c_0, val_main_call0_v12, val_main_call0_v11, val_main_call0_v10, val_main_call0_v9, val_main_call0_c, val_main_call0_v8, val_main_call0_v7, val_main_call0_v6, val_main_call0_v5, val_main_call0_v4, val_main_call0_v3, val_main_call0_v2, val_main_call0_v1, val_main_call0_v0, val_main_c, val_main_v40, val_main_v39]
  revert k
  decide +kernel
theorem v42 (k : Fin 128) (z : Fin 1) : val_main_v42 (F := Ideal) (ix2 k z) = IntOp.divsi ArithUnit.host (BitVec.ofNat 32 k.val) 64#32 := by
  pointwise [val_main_v42, val_main_call1_v13, val_main_call1_c_0, val_main_call1_v12, val_main_call1_v11, val_main_call1_v10, val_main_call1_v9, val_main_call1_c, val_main_call1_v8, val_main_call1_v7, val_main_call1_v6, val_main_call1_v5, val_main_call1_v4, val_main_call1_v3, val_main_call1_v2, val_main_call1_v1, val_main_call1_v0, val_main_c_8, val_main_v38, val_main_v37]
  revert k
  decide +kernel
theorem v47 (g : Fin 8) (i k : Fin 128) :
    val_main_v47 (F := Ideal) x7 (ix3 g i k) = wm (args x0 x1 x2 x3 x4 x5 x6 x7 x8 x9 x10 x11) g i k := by
  pointwise [val_main_v47, val_main_call2_v1, val_main_call2_v0, val_main_cst_9, val_main_v46, val_main_v45, val_main_v44, val_main_v43, v42, v41]
  rfl
theorem v57 (i : Fin 4096) (k : Fin 512) :
    val_main_v55 (F := Ideal) x1 x7 x8 x9 x10 (ix2 i k) = sgu (args x0 x1 x2 x3 x4 x5 x6 x7 x8 x9 x10 x11) i k := by
  pointwise [val_main_v55, val_main_v54, val_main_v53, val_main_v52, val_main_v51, val_main_v50, val_main_v49, val_main_v48, val_main_v36, v14, v35 x0 x1 x2 x3 x4 x5 x6 x7 x8 x9 x10 x11, v47 x0 x1 x2 x3 x4 x5 x6 x7 x8 x9 x10 x11]
  rfl
theorem v0 (i : Fin 4096) (k : Fin 1024) : val_main_v0 (F := Ideal) x0 x4 (ix2 i k) = ya (args x0 x1 x2 x3 x4 x5 x6 x7 x8 x9 x10 x11) i k := by
  pointwise [val_main_v0]
  rfl
theorem v58 (i : Fin 4096) (k : Fin 1024) :
    val_main_v56 (F := Ideal) x1 x5 x7 x8 x9 x10 (ix2 i k) = yb (args x0 x1 x2 x3 x4 x5 x6 x7 x8 x9 x10 x11) i k := by
  pointwise [val_main_v56, v57 x0 x1 x2 x3 x4 x5 x6 x7 x8 x9 x10 x11]
  rfl
theorem v64 (i : Fin 4096) (k : Fin 2048) : val_main_v62 (F := Ideal) x2 (ix2 i k) = logistic (x2 (ix2 i k)) := by
  pointwise [val_main_v62, val_main_v61, val_main_v60, val_main_v59, val_main_v58, val_main_v57, val_main_cst_10, val_main_cst_11]
  rfl
theorem v69 (i : Fin 4096) (k : Fin 1024) :
    val_main_v67 (F := Ideal) x0 x1 x2 x4 x5 x7 x8 x9 x10 (ix2 i k) = merged (args x0 x1 x2 x3 x4 x5 x6 x7 x8 x9 x10 x11) i k := by
  pointwise [val_main_v67, val_main_v66, val_main_v65, val_main_v64, val_main_v63, v64, v0 x0 x1 x2 x3 x4 x5 x6 x7 x8 x9 x10 x11, v58 x0 x1 x2 x3 x4 x5 x6 x7 x8 x9 x10 x11]
  rfl
theorem v70 (i : Fin 4096) (k : Fin 1024) :
    val_main_v68 (F := Ideal) x0 x1 x2 x4 x5 x6 x7 x8 x9 x10 (ix2 i k) = om (args x0 x1 x2 x3 x4 x5 x6 x7 x8 x9 x10 x11) i k := by
  pointwise [val_main_v68, v69 x0 x1 x2 x3 x4 x5 x6 x7 x8 x9 x10 x11]
  rfl
theorem r0 (k : Fin 512) (i : Fin 4096) :
    val_main_v83 (F := Ideal) x1 x7 x8 x9 x10 (ix2 k i) = sgu (args x0 x1 x2 x3 x4 x5 x6 x7 x8 x9 x10 x11) i k := by
  pointwise [val_main_v83, val_main_v82, v57 x0 x1 x2 x3 x4 x5 x6 x7 x8 x9 x10 x11]
theorem r1 (i : Fin 4096) (k : Fin 1024) : val_main_v84 (F := Ideal) x0 x4 (ix2 i k) = ya (args x0 x1 x2 x3 x4 x5 x6 x7 x8 x9 x10 x11) i k := by
  pointwise [val_main_v84, v0 x0 x1 x2 x3 x4 x5 x6 x7 x8 x9 x10 x11]
theorem r2 (i : Fin 4096) (k : Fin 1024) :
    val_main_v85 (F := Ideal) x1 x5 x7 x8 x9 x10 (ix2 i k) = yb (args x0 x1 x2 x3 x4 x5 x6 x7 x8 x9 x10 x11) i k := by
  pointwise [val_main_v85, v58 x0 x1 x2 x3 x4 x5 x6 x7 x8 x9 x10 x11]
theorem r3 (k : Fin 1024) (i : Fin 4096) :
    val_main_v87 (F := Ideal) x0 x1 x2 x4 x5 x7 x8 x9 x10 (ix2 k i) = merged (args x0 x1 x2 x3 x4 x5 x6 x7 x8 x9 x10 x11) i k := by
  pointwise [val_main_v87, val_main_v86, v69 x0 x1 x2 x3 x4 x5 x6 x7 x8 x9 x10 x11]
theorem r5 (i : Fin 4096) (k : Fin 1024) :
    val_main_v81 (F := Ideal) x0 x1 x2 x3 x4 x5 x6 x7 x8 x9 x10 x11 (ix2 i k) = out (args x0 x1 x2 x3 x4 x5 x6 x7 x8 x9 x10 x11) i k := by
  pointwise [val_main_v81, val_main_v80, val_main_v79, val_main_v78, val_main_v77, val_main_v76, val_main_v75, val_main_v74, val_main_v73, val_main_v72, val_main_v71, val_main_v70, val_main_v69, val_main_cst_12, val_main_cst_13, val_main_cst_14, v70 x0 x1 x2 x3 x4 x5 x6 x7 x8 x9 x10 x11]
  rfl
end Cert.MixReferenceIdeal.Value
end
end
-- ==== Proof.Mix.Main.lean ====
/- The two programs of the gating unit and the gated merge return equal results on all arguments. -/
module
public import proofs.«01_k».proof.Proof.Mix.Kernel2
public import proofs.«01_k».proof.Proof.Mix.Reference
public import proofs.«01_k».proof.Proof.Gen.MixKernelIdeal.Value
public import proofs.«01_k».proof.Proof.Gen.MixReferenceIdeal.Run
public import proofs.«01_k».proof.Defs
@[expose] public section
set_option maxRecDepth 16384
noncomputable section
open Idealize.ShloMosaic Idealize.ShloMosaic.TcCoe Idealize.SL.Sem
namespace Cert.Mix

/-- The reference keeps its arguments and ends with every counter at zero. -/
theorem frame : Cert.quiescent_MixReferenceIdeal := fun m ρ _ => (θ_run Cert.MixReferenceIdeal.defs _ _).mono
    (fun r h => ⟨fun c => (h c).2.2.2.2.2.2, sem_eq_zero_of_no_sems (by decide) r.2⟩) (Cert.MixReferenceIdeal.Value.run (F := Ideal) m ρ)

end Cert.Mix
namespace Cert.MixReferenceIdeal.Value
open Cert.MixReferenceIdeal Cert.MixReferenceIdeal.Gen Cert.MixReferenceIdeal.Read Cert.Mix
variable (x0 : FVec Ideal S4096x512 .f32) (x1 : FVec Ideal S4096x1024 .f32) (x2 : FVec Ideal S4096x2048 .f32) (x3 : FVec Ideal S4096x1024 .f32)
  (x4 x5 : FVec Ideal S512x1024 .f32) (x6 : FVec Ideal S1024x1024 .f32) (x7 : FVec Ideal S8x128x128 .f32) (x8 : FVec Ideal S8x128 .f32)
  (x9 x10 : FVec Ideal S1x512 .f32) (x11 : FVec Ideal S1x1024 .f32)

theorem w85 : val_main_v83 (F := Ideal) x1 x7 x8 x9 x10 = (fun z => sgu (args x0 x1 x2 x3 x4 x5 x6 x7 x8 x9 x10 x11) (z 1) (z 0) : FVec Ideal S512x4096 .bf16) :=
  funext fun z => (congrArg _ (eq_ix2 z)).trans (r0 x0 x1 x2 x3 x4 x5 x6 x7 x8 x9 x10 x11 (z 0) (z 1))
theorem w86 : val_main_v84 (F := Ideal) x0 x4 = (fun z => ya (args x0 x1 x2 x3 x4 x5 x6 x7 x8 x9 x10 x11) (z 0) (z 1) : FVec Ideal S4096x1024 .bf16) :=
  funext fun z => (congrArg _ (eq_ix2 z)).trans (r1 x0 x1 x2 x3 x4 x5 x6 x7 x8 x9 x10 x11 (z 0) (z 1))
theorem w87 : val_main_v85 (F := Ideal) x1 x5 x7 x8 x9 x10 = (fun z => yb (args x0 x1 x2 x3 x4 x5 x6 x7 x8 x9 x10 x11) (z 0) (z 1) : FVec Ideal S4096x1024 .bf16) :=
  funext fun z => (congrArg _ (eq_ix2 z)).trans (r2 x0 x1 x2 x3 x4 x5 x6 x7 x8 x9 x10 x11 (z 0) (z 1))
theorem w89 : val_main_v87 (F := Ideal) x0 x1 x2 x4 x5 x7 x8 x9 x10 = (fun z => merged (args x0 x1 x2 x3 x4 x5 x6 x7 x8 x9 x10 x11) (z 1) (z 0) : FVec Ideal S1024x4096 .bf16) :=
  funext fun z => (congrArg _ (eq_ix2 z)).trans (r3 x0 x1 x2 x3 x4 x5 x6 x7 x8 x9 x10 x11 (z 0) (z 1))
theorem w70 : val_main_v68 (F := Ideal) x0 x1 x2 x4 x5 x6 x7 x8 x9 x10 = (fun z => om (args x0 x1 x2 x3 x4 x5 x6 x7 x8 x9 x10 x11) (z 0) (z 1) : FVec Ideal S4096x1024 .f32) :=
  funext fun z => (congrArg _ (eq_ix2 z)).trans (v70 x0 x1 x2 x3 x4 x5 x6 x7 x8 x9 x10 x11 (z 0) (z 1))
theorem w83 : val_main_v81 (F := Ideal) x0 x1 x2 x3 x4 x5 x6 x7 x8 x9 x10 x11 = (fun z => out (args x0 x1 x2 x3 x4 x5 x6 x7 x8 x9 x10 x11) (z 0) (z 1) : FVec Ideal S4096x1024 .f32) :=
  funext fun z => (congrArg _ (eq_ix2 z)).trans (r5 x0 x1 x2 x3 x4 x5 x6 x7 x8 x9 x10 x11 (z 0) (z 1))
end Cert.MixReferenceIdeal.Value
namespace Cert.Mix

set_option maxHeartbeats 1000000 in
/-- Both programs run to the end, return equal results and leave their arguments unchanged. -/
theorem algebraic : Cert.algebraic_MixKernelIdeal_MixReferenceIdeal := by
  intro m g m' g' _ hag
  refine ⟨_, _, _, _, _, _, Cert.MixKernelIdeal.Value.run_blocks m g, ?_⟩
  refine (θ_run _ _ _).mono (fun r h c => ?_) (Cert.MixReferenceIdeal.Value.run m' g')
  have h := h c
  obtain ⟨e0, e1, e2, e3, e4, e5, e6, e7, e8, e9, e10, e11⟩ := hag c
  refine ⟨h.1.trans (Eq.trans ?_ (Cert.MixKernelIdeal.Value.final12 m c).symm), h.2.1.trans (Eq.trans ?_ (Cert.MixKernelIdeal.Value.final13 m c).symm),
    h.2.2.1.trans (Eq.trans ?_ (Cert.MixKernelIdeal.Value.final14 m c).symm), h.2.2.2.1.trans (Eq.trans ?_ (Cert.MixKernelIdeal.Value.final15 m c).symm),
    h.2.2.2.2.1.trans (Eq.trans ?_ (Cert.MixKernelIdeal.Value.final16 m c).symm), h.2.2.2.2.2.1.trans (Eq.trans ?_ (Cert.MixKernelIdeal.Value.final17 m c).symm), h.2.2.2.2.2.2⟩
  · refine (Cert.MixReferenceIdeal.Read.val_main_v83_eq _ _).trans ?_
    rw [e1, e7, e8, e9, e10]
    exact Cert.MixReferenceIdeal.Value.w85 (m ((c : Thread Cert.MixKernelIdeal.nD Cert.MixKernelIdeal.τ).loc Cert.MixKernelIdeal.main_arg0)) (m ((c : Thread Cert.MixKernelIdeal.nD Cert.MixKernelIdeal.τ).loc Cert.MixKernelIdeal.main_arg1)) (m ((c : Thread Cert.MixKernelIdeal.nD Cert.MixKernelIdeal.τ).loc Cert.MixKernelIdeal.main_arg2)) (m ((c : Thread Cert.MixKernelIdeal.nD Cert.MixKernelIdeal.τ).loc Cert.MixKernelIdeal.main_arg3)) (m ((c : Thread Cert.MixKernelIdeal.nD Cert.MixKernelIdeal.τ).loc Cert.MixKernelIdeal.main_arg4)) (m ((c : Thread Cert.MixKernelIdeal.nD Cert.MixKernelIdeal.τ).loc Cert.MixKernelIdeal.main_arg5)) (m ((c : Thread Cert.MixKernelIdeal.nD Cert.MixKernelIdeal.τ).loc Cert.MixKernelIdeal.main_arg6)) (m ((c : Thread Cert.MixKernelIdeal.nD Cert.MixKernelIdeal.τ).loc Cert.MixKernelIdeal.main_arg7)) (m ((c : Thread Cert.MixKernelIdeal.nD Cert.MixKernelIdeal.τ).loc Cert.MixKernelIdeal.main_arg8)) (m ((c : Thread Cert.MixKernelIdeal.nD Cert.MixKernelIdeal.τ).loc Cert.MixKernelIdeal.main_arg9)) (m ((c : Thread Cert.MixKernelIdeal.nD Cert.MixKernelIdeal.τ).loc Cert.MixKernelIdeal.main_arg10)) (m ((c : Thread Cert.MixKernelIdeal.nD Cert.MixKernelIdeal.τ).loc Cert.MixKernelIdeal.main_arg11))
  · refine (Cert.MixReferenceIdeal.Read.val_main_v84_eq _ _).trans ?_
    rw [e0, e4]
    exact Cert.MixReferenceIdeal.Value.w86 (m ((c : Thread Cert.MixKernelIdeal.nD Cert.MixKernelIdeal.τ).loc Cert.MixKernelIdeal.main_arg0)) (m ((c : Thread Cert.MixKernelIdeal.nD Cert.MixKernelIdeal.τ).loc Cert.MixKernelIdeal.main_arg1)) (m ((c : Thread Cert.MixKernelIdeal.nD Cert.MixKernelIdeal.τ).loc Cert.MixKernelIdeal.main_arg2)) (m ((c : Thread Cert.MixKernelIdeal.nD Cert.MixKernelIdeal.τ).loc Cert.MixKernelIdeal.main_arg3)) (m ((c : Thread Cert.MixKernelIdeal.nD Cert.MixKernelIdeal.τ).loc Cert.MixKernelIdeal.main_arg4)) (m ((c : Thread Cert.MixKernelIdeal.nD Cert.MixKernelIdeal.τ).loc Cert.MixKernelIdeal.main_arg5)) (m ((c : Thread Cert.MixKernelIdeal.nD Cert.MixKernelIdeal.τ).loc Cert.MixKernelIdeal.main_arg6)) (m ((c : Thread Cert.MixKernelIdeal.nD Cert.MixKernelIdeal.τ).loc Cert.MixKernelIdeal.main_arg7)) (m ((c : Thread Cert.MixKernelIdeal.nD Cert.MixKernelIdeal.τ).loc Cert.MixKernelIdeal.main_arg8)) (m ((c : Thread Cert.MixKernelIdeal.nD Cert.MixKernelIdeal.τ).loc Cert.MixKernelIdeal.main_arg9)) (m ((c : Thread Cert.MixKernelIdeal.nD Cert.MixKernelIdeal.τ).loc Cert.MixKernelIdeal.main_arg10)) (m ((c : Thread Cert.MixKernelIdeal.nD Cert.MixKernelIdeal.τ).loc Cert.MixKernelIdeal.main_arg11))
  · refine (Cert.MixReferenceIdeal.Read.val_main_v85_eq _ _).trans ?_
    rw [e1, e5, e7, e8, e9, e10]
    exact Cert.MixReferenceIdeal.Value.w87 (m ((c : Thread Cert.MixKernelIdeal.nD Cert.MixKernelIdeal.τ).loc Cert.MixKernelIdeal.main_arg0)) (m ((c : Thread Cert.MixKernelIdeal.nD Cert.MixKernelIdeal.τ).loc Cert.MixKernelIdeal.main_arg1)) (m ((c : Thread Cert.MixKernelIdeal.nD Cert.MixKernelIdeal.τ).loc Cert.MixKernelIdeal.main_arg2)) (m ((c : Thread Cert.MixKernelIdeal.nD Cert.MixKernelIdeal.τ).loc Cert.MixKernelIdeal.main_arg3)) (m ((c : Thread Cert.MixKernelIdeal.nD Cert.MixKernelIdeal.τ).loc Cert.MixKernelIdeal.main_arg4)) (m ((c : Thread Cert.MixKernelIdeal.nD Cert.MixKernelIdeal.τ).loc Cert.MixKernelIdeal.main_arg5)) (m ((c : Thread Cert.MixKernelIdeal.nD Cert.MixKernelIdeal.τ).loc Cert.MixKernelIdeal.main_arg6)) (m ((c : Thread Cert.MixKernelIdeal.nD Cert.MixKernelIdeal.τ).loc Cert.MixKernelIdeal.main_arg7)) (m ((c : Thread Cert.MixKernelIdeal.nD Cert.MixKernelIdeal.τ).loc Cert.MixKernelIdeal.main_arg8)) (m ((c : Thread Cert.MixKernelIdeal.nD Cert.MixKernelIdeal.τ).loc Cert.MixKernelIdeal.main_arg9)) (m ((c : Thread Cert.MixKernelIdeal.nD Cert.MixKernelIdeal.τ).loc Cert.MixKernelIdeal.main_arg10)) (m ((c : Thread Cert.MixKernelIdeal.nD Cert.MixKernelIdeal.τ).loc Cert.MixKernelIdeal.main_arg11))
  · refine (Cert.MixReferenceIdeal.Read.val_main_v87_eq _ _).trans ?_
    rw [e0, e1, e2, e4, e5, e7, e8, e9, e10]
    exact Cert.MixReferenceIdeal.Value.w89 (m ((c : Thread Cert.MixKernelIdeal.nD Cert.MixKernelIdeal.τ).loc Cert.MixKernelIdeal.main_arg0)) (m ((c : Thread Cert.MixKernelIdeal.nD Cert.MixKernelIdeal.τ).loc Cert.MixKernelIdeal.main_arg1)) (m ((c : Thread Cert.MixKernelIdeal.nD Cert.MixKernelIdeal.τ).loc Cert.MixKernelIdeal.main_arg2)) (m ((c : Thread Cert.MixKernelIdeal.nD Cert.MixKernelIdeal.τ).loc Cert.MixKernelIdeal.main_arg3)) (m ((c : Thread Cert.MixKernelIdeal.nD Cert.MixKernelIdeal.τ).loc Cert.MixKernelIdeal.main_arg4)) (m ((c : Thread Cert.MixKernelIdeal.nD Cert.MixKernelIdeal.τ).loc Cert.MixKernelIdeal.main_arg5)) (m ((c : Thread Cert.MixKernelIdeal.nD Cert.MixKernelIdeal.τ).loc Cert.MixKernelIdeal.main_arg6)) (m ((c : Thread Cert.MixKernelIdeal.nD Cert.MixKernelIdeal.τ).loc Cert.MixKernelIdeal.main_arg7)) (m ((c : Thread Cert.MixKernelIdeal.nD Cert.MixKernelIdeal.τ).loc Cert.MixKernelIdeal.main_arg8)) (m ((c : Thread Cert.MixKernelIdeal.nD Cert.MixKernelIdeal.τ).loc Cert.MixKernelIdeal.main_arg9)) (m ((c : Thread Cert.MixKernelIdeal.nD Cert.MixKernelIdeal.τ).loc Cert.MixKernelIdeal.main_arg10)) (m ((c : Thread Cert.MixKernelIdeal.nD Cert.MixKernelIdeal.τ).loc Cert.MixKernelIdeal.main_arg11))
  · refine (Cert.MixReferenceIdeal.Read.val_main_v68_eq _ _).trans ?_
    rw [e0, e1, e2, e4, e5, e6, e7, e8, e9, e10]
    exact Cert.MixReferenceIdeal.Value.w70 (m ((c : Thread Cert.MixKernelIdeal.nD Cert.MixKernelIdeal.τ).loc Cert.MixKernelIdeal.main_arg0)) (m ((c : Thread Cert.MixKernelIdeal.nD Cert.MixKernelIdeal.τ).loc Cert.MixKernelIdeal.main_arg1)) (m ((c : Thread Cert.MixKernelIdeal.nD Cert.MixKernelIdeal.τ).loc Cert.MixKernelIdeal.main_arg2)) (m ((c : Thread Cert.MixKernelIdeal.nD Cert.MixKernelIdeal.τ).loc Cert.MixKernelIdeal.main_arg3)) (m ((c : Thread Cert.MixKernelIdeal.nD Cert.MixKernelIdeal.τ).loc Cert.MixKernelIdeal.main_arg4)) (m ((c : Thread Cert.MixKernelIdeal.nD Cert.MixKernelIdeal.τ).loc Cert.MixKernelIdeal.main_arg5)) (m ((c : Thread Cert.MixKernelIdeal.nD Cert.MixKernelIdeal.τ).loc Cert.MixKernelIdeal.main_arg6)) (m ((c : Thread Cert.MixKernelIdeal.nD Cert.MixKernelIdeal.τ).loc Cert.MixKernelIdeal.main_arg7)) (m ((c : Thread Cert.MixKernelIdeal.nD Cert.MixKernelIdeal.τ).loc Cert.MixKernelIdeal.main_arg8)) (m ((c : Thread Cert.MixKernelIdeal.nD Cert.MixKernelIdeal.τ).loc Cert.MixKernelIdeal.main_arg9)) (m ((c : Thread Cert.MixKernelIdeal.nD Cert.MixKernelIdeal.τ).loc Cert.MixKernelIdeal.main_arg10)) (m ((c : Thread Cert.MixKernelIdeal.nD Cert.MixKernelIdeal.τ).loc Cert.MixKernelIdeal.main_arg11))
  · refine (Cert.MixReferenceIdeal.Read.val_main_v81_eq _ _).trans ?_
    rw [e0, e1, e2, e3, e4, e5, e6, e7, e8, e9, e10, e11]
    exact Cert.MixReferenceIdeal.Value.w83 (m ((c : Thread Cert.MixKernelIdeal.nD Cert.MixKernelIdeal.τ).loc Cert.MixKernelIdeal.main_arg0)) (m ((c : Thread Cert.MixKernelIdeal.nD Cert.MixKernelIdeal.τ).loc Cert.MixKernelIdeal.main_arg1)) (m ((c : Thread Cert.MixKernelIdeal.nD Cert.MixKernelIdeal.τ).loc Cert.MixKernelIdeal.main_arg2)) (m ((c : Thread Cert.MixKernelIdeal.nD Cert.MixKernelIdeal.τ).loc Cert.MixKernelIdeal.main_arg3)) (m ((c : Thread Cert.MixKernelIdeal.nD Cert.MixKernelIdeal.τ).loc Cert.MixKernelIdeal.main_arg4)) (m ((c : Thread Cert.MixKernelIdeal.nD Cert.MixKernelIdeal.τ).loc Cert.MixKernelIdeal.main_arg5)) (m ((c : Thread Cert.MixKernelIdeal.nD Cert.MixKernelIdeal.τ).loc Cert.MixKernelIdeal.main_arg6)) (m ((c : Thread Cert.MixKernelIdeal.nD Cert.MixKernelIdeal.τ).loc Cert.MixKernelIdeal.main_arg7)) (m ((c : Thread Cert.MixKernelIdeal.nD Cert.MixKernelIdeal.τ).loc Cert.MixKernelIdeal.main_arg8)) (m ((c : Thread Cert.MixKernelIdeal.nD Cert.MixKernelIdeal.τ).loc Cert.MixKernelIdeal.main_arg9)) (m ((c : Thread Cert.MixKernelIdeal.nD Cert.MixKernelIdeal.τ).loc Cert.MixKernelIdeal.main_arg10)) (m ((c : Thread Cert.MixKernelIdeal.nD Cert.MixKernelIdeal.τ).loc Cert.MixKernelIdeal.main_arg11))

end Cert.Mix
end
end
-- ==== Proof.Tok.Model.lean ====
/- The input projection of a block, with its head norms and its cumulative forget gate, entry by entry over the
   extended reals. -/
module
public import proofs.«01_k».proof.Proof.Ffn.Lift
public import Mathlib.Algebra.BigOperators.Intervals
@[expose] public section
noncomputable section
open Idealize.ShloMosaic
namespace Cert.Tok

/-- The root-mean-square norm of a row of `n` numbers, `c` being `n` as a literal. -/
def rms {n : ℕ} (c : EReal) (g f : Fin n → EReal) (k : Fin n) : EReal :=
  f k * Ideal.rsqrt (Ideal.div (∑ j, f j * f j) c + Ideal.ofBits .f32 897988541#32) * g k

/-- The logarithm of the logistic function. -/
def lsig (t : EReal) : EReal := min t 0 - Ideal.log (1 + Ideal.exp (0 - max t (-t)))

/-- A number that is neither infinity. -/
def IsReal (t : EReal) : Prop := ∃ r : ℝ, t = (r : EReal)

theorem IsReal.add {s t : EReal} : IsReal s → IsReal t → IsReal (s + t)
  | ⟨a, ha⟩, ⟨b, hb⟩ => ⟨a + b, by rw [ha, hb, EReal.coe_add]⟩
theorem IsReal.mul {s t : EReal} : IsReal s → IsReal t → IsReal (s * t)
  | ⟨a, ha⟩, ⟨b, hb⟩ => ⟨a * b, by rw [ha, hb, EReal.coe_mul]⟩
theorem IsReal.sum {ι : Type*} (s : Finset ι) {f : ι → EReal} (h : ∀ i, IsReal (f i)) : IsReal (∑ i ∈ s, f i) := by
  choose r hr using h
  exact ⟨∑ i ∈ s, r i, by rw [← Lift.coe_sum]; exact Finset.sum_congr rfl fun i _ => hr i⟩
theorem IsReal.sub_self {t : EReal} : IsReal t → t - t = 0
  | ⟨a, ha⟩ => by rw [ha, ← EReal.coe_sub, _root_.sub_self]; rfl
theorem IsReal.zero : IsReal 0 := ⟨0, rfl⟩
/-- A norm is finite where its gains are: a row with an infinity has an infinite mean square, and the norm is zero. -/
theorem IsReal.rms {n : ℕ} {c : ℝ} (hc : 0 < c) {g f : Fin n → EReal} (hg : ∀ j, IsReal (g j)) (k : Fin n) :
    IsReal (rms (c : EReal) g f k) := by
  unfold Tok.rms
  refine IsReal.mul ?_ (hg k)
  by_cases hf : ∀ j, IsReal (f j)
  · refine (hf k).mul ?_
    choose r hr using hf
    simp only [hr, ← EReal.coe_mul, Lift.coe_sum, Lift.div_fin _ hc.ne', Lift.lit_eps, ← EReal.coe_add]
    have hp : 0 < (∑ j, r j * r j) / c + Lift.eps :=
      add_pos_of_nonneg_of_pos (div_nonneg (Finset.sum_nonneg fun j _ => mul_self_nonneg _) hc.le) Lift.eps_pos
    exact ⟨_, Lift.rsqrt_fin hp⟩
  · obtain ⟨j, hj⟩ := not_forall.mp hf
    have sq : ∀ a : EReal, 0 ≤ a * a := fun a => by
      induction a using EReal.rec with
      | bot => simp
      | coe r => rw [← EReal.coe_mul]; exact EReal.coe_nonneg.mpr (mul_self_nonneg r)
      | top => simp
    have ht : f j * f j = ⊤ := by
      generalize f j = a at hj
      induction a using EReal.rec with
      | bot => simp
      | coe r => exact absurd ⟨r, rfl⟩ hj
      | top => simp
    have hs : ∑ j, f j * f j = ⊤ :=
      top_le_iff.mp (ht ▸ Finset.single_le_sum (f := fun j => f j * f j) (fun i _ => sq (f i)) (Finset.mem_univ j))
    have hd : Ideal.rsqrt (Ideal.div ⊤ (c : EReal) + Ideal.ofBits .f32 897988541#32) = 0 := by
      rw [Lift.lit_eps, Ideal.div_coe hc.ne' ⊤]
      rw [EReal.top_mul_coe_of_pos (by positivity), EReal.top_add_coe, Ideal.rsqrt_top]
    rw [hs, hd, mul_zero]
    exact IsReal.zero

theorem lsig_real (r : ℝ) : lsig (r : EReal) = ((min r 0 - Real.log (1 + Real.exp (0 - max r (-r))) : ℝ) : EReal) := by
  unfold lsig
  have hp : ¬ (1 + Real.exp (0 - max r (-r)) ≤ 0) := not_le.mpr (by positivity)
  have e1 : max (r : EReal) (-(r : EReal)) = ((max r (-r) : ℝ) : EReal) := by rw [← EReal.coe_neg]; exact (EReal.coe_strictMono.monotone.map_max).symm
  have e2 : min (r : EReal) 0 = ((min r 0 : ℝ) : EReal) := (EReal.coe_strictMono.monotone.map_min).symm
  rw [e1, e2, Lift.zero_fin, ← EReal.coe_sub, Ideal.exp_coe, Lift.one_fin, ← EReal.coe_add, Ideal.log_coe, if_neg hp, ← EReal.coe_sub]
theorem IsReal.lsig {t : EReal} : IsReal t → IsReal (lsig t)
  | ⟨a, ha⟩ => ⟨_, by rw [ha, lsig_real]⟩

/-- The same function as the reference writes it, at a finite number. -/
theorem lsig_ref {t : EReal} (h : IsReal t) : -(max (-t) 0 + Ideal.log1p (Ideal.exp (-max (-t) (-(-t))))) = lsig t := by
  obtain ⟨r, rfl⟩ := h
  rw [lsig_real]
  unfold Ideal.log1p
  have hp : ¬ (1 + Real.exp (-max (-r) (-(-r))) ≤ 0) := not_le.mpr (by positivity)
  have e1 : max (-(r : EReal)) (-(-(r : EReal))) = ((max (-r) (-(-r)) : ℝ) : EReal) := by
    rw [← EReal.coe_neg, ← EReal.coe_neg]; exact (EReal.coe_strictMono.monotone.map_max).symm
  have e2 : max (-(r : EReal)) 0 = ((max (-r) 0 : ℝ) : EReal) := by rw [← EReal.coe_neg]; exact (EReal.coe_strictMono.monotone.map_max).symm
  rw [e1, e2, ← EReal.coe_neg, Ideal.exp_coe, Lift.one_fin, ← EReal.coe_add, Ideal.log_coe, if_neg hp, ← EReal.coe_add, ← EReal.coe_neg]
  congr 1
  rw [neg_neg, max_comm (-r) r, zero_sub, neg_add, ← sub_eq_add_neg]
  congr 1
  rcases le_total r 0 with h | h
  · rw [max_eq_left (by linarith), min_eq_left h]; ring
  · rw [max_eq_right (by linarith), min_eq_right h]; ring

/-- A comparison of two small positions, as a number. -/
theorem mask (φ : FTy) {a b : ℕ} (ha : a < 4096) (hb : b < 4096) :
    FloatOps.uitofp (F := Ideal) φ (IntOp.cmpi CmpIPredicate.sle (BitVec.ofNat 32 a) (BitVec.ofNat 32 b)) = if a ≤ b then 1 else 0 := by
  have e : ∀ n : ℕ, n < 4096 → (BitVec.ofNat 32 n).toInt = n := fun n hn => by
    rw [BitVec.toInt_ofNat']
    norm_num
    rw [Int.bmod_def]
    split <;> omega
  have es : BitVec.sle (BitVec.ofNat 32 a) (BitVec.ofNat 32 b) = decide (a ≤ b) := by
    unfold BitVec.sle
    rw [e a ha, e b hb]
    simp
  show (((BitVec.ofBool (BitVec.sle (BitVec.ofNat 32 a) (BitVec.ofNat 32 b))).toNat : ℝ) : EReal) = _
  rw [es]
  by_cases h : a ≤ b <;> simp [h]

/-- The arguments of the two programs, by their entries. -/
structure Args where
  x : Fin 4096 → Fin 1024 → EReal
  g : Fin 1024 → EReal
  w : Fin 1024 → Fin 4616 → EReal
  bf : Fin 8 → EReal
  gq : Fin 64 → EReal
  gk : Fin 64 → EReal

/-- What the forget gate is computed from, beside the tokens, is finite. -/
structure Args.Finite (P : Args) : Prop where
  g : ∀ k, IsReal (P.g k)
  w : ∀ (i : Fin 1024) (p : Fin 8), IsReal (P.w i ⟨1536 + p.val, by omega⟩)
  bf : ∀ k, IsReal (P.bf k)

variable (P : Args)

/-- The normed row of a token. -/
def h (n : Fin 4096) (k : Fin 1024) : EReal := rms (Ideal.ofBits .f32 1149239296#32) P.g (P.x n) k
/-- The projection of the normed row. -/
def pr (n : Fin 4096) (c : Fin 4616) : EReal := ∑ j : Fin 1024, h P n j * P.w j c
/-- A head's normed query. -/
def qn (n : Fin 4096) (p : Fin 8) (l : Fin 64) : EReal :=
  rms (Ideal.ofBits .f32 1115684864#32) P.gq (fun j => pr P n ⟨p.val * 64 + j.val, by omega⟩) l
/-- A head's normed key. -/
def kn (n : Fin 4096) (p : Fin 8) (l : Fin 64) : EReal :=
  rms (Ideal.ofBits .f32 1115684864#32) P.gk (fun j => pr P n ⟨512 + (p.val * 64 + j.val), by omega⟩) l
/-- The forget gate before its logistic function. -/
def fl (n : Fin 4096) (p : Fin 8) : EReal := pr P n ⟨1536 + p.val, by omega⟩ + P.bf p
/-- The logarithm of the forget gate, of a token counted from zero. -/
def lf (p : Fin 8) (n : ℕ) : EReal := if hn : n < 4096 then lsig (fl P ⟨n, hn⟩ p) else 0
/-- The logarithms of the forget gates of the first `n` tokens, added up. -/
def cum (p : Fin 8) (n : ℕ) : EReal := ∑ s ∈ Finset.range n, lf P p s
/-- The cumulative forget gate in the base of the kernel's exponentials. -/
def d2 (n : Fin 4096) (p : Fin 8) : EReal := cum P p (n.val + 1) * Ideal.ofBits .f32 1069066811#32
/-- The queries' slabs: the scaled query, the cumulative gate, and the lanes that meet the keys' gates. -/
def qa (n : Fin 4096) (p : Fin 8) (l : Fin 128) : EReal :=
  if hl : l.val < 64 then qn P n p ⟨l.val, hl⟩ * Ideal.ofBits .f32 1040187392#32 * Ideal.ofBits .f32 1069066811#32
  else if l.val = 64 then d2 P n p else if 67 ≤ l.val ∧ l.val < 70 then 1 else 0
/-- The keys' slabs: the key, the lanes that meet the queries' gates, and the cumulative gate, negated. -/
def ka (n : Fin 4096) (p : Fin 8) (l : Fin 128) : EReal :=
  if hl : l.val < 64 then kn P n p ⟨l.val, hl⟩
  else if l.val < 67 then 1 else if l.val = 67 then -d2 P n p else 0
/-- The values' slabs. -/
def vs (n : Fin 4096) (p : Fin 8) (l : Fin 128) : EReal :=
  if hl : l.val < 64 then pr P n ⟨1024 + (p.val * 64 + l.val), by omega⟩ else 0

variable {P}

theorem h_real (F : P.Finite) (n : Fin 4096) (k : Fin 1024) : IsReal (h P n k) := by
  unfold h
  rw [Lift.lit_1024]
  exact IsReal.rms (by norm_num) F.g k
theorem fl_real (F : P.Finite) (n : Fin 4096) (p : Fin 8) : IsReal (fl P n p) :=
  (IsReal.sum _ fun j => (h_real F n j).mul (F.w j p)).add (F.bf p)
theorem lf_real (F : P.Finite) (p : Fin 8) (n : ℕ) : IsReal (lf P p n) := by
  unfold lf
  split
  · exact (fl_real F _ p).lsig
  · exact IsReal.zero
theorem cum_real (F : P.Finite) (p : Fin 8) (n : ℕ) : IsReal (cum P p n) := IsReal.sum _ fun s => lf_real F p s
theorem lit_log2e : ∃ r : ℝ, Ideal.ofBits FTy.f32 1069066811#32 = (r : EReal) := ⟨12102203 / 2 ^ 23, by
  simp [Ideal.ofBits, Ideal.ieee, -EReal.coe_mul]; norm_num⟩
theorem d2_real (F : P.Finite) (n : Fin 4096) (p : Fin 8) : IsReal (d2 P n p) := (cum_real F p _).mul lit_log2e

/-- The masked sum over all tokens is the sum over the tokens up to one. -/
theorem cum_mask (p : Fin 8) (n : Fin 4096) :
    ∑ s : Fin 4096, (if s.val ≤ n.val then (1 : EReal) else 0) * lsig (fl P s p) = cum P p (n.val + 1) := by
  have e : ∀ s : Fin 4096, (if s.val ≤ n.val then (1 : EReal) else 0) * lsig (fl P s p)
      = (fun s : ℕ => if s < n.val + 1 then lf P p s else 0) s.val := fun s => by
    dsimp only [lf]
    by_cases hs : s.val ≤ n.val
    · rw [if_pos hs, if_pos (by omega), dif_pos s.isLt, one_mul]
    · rw [if_neg hs, if_neg (by omega), zero_mul]
  rw [Finset.sum_congr rfl fun s _ => e s, Fin.sum_univ_eq_sum_range (fun s : ℕ => if s < n.val + 1 then lf P p s else 0) 4096,
    ← Finset.sum_filter]
  refine Finset.sum_congr (Finset.ext fun s => ?_) fun _ _ => rfl
  simp only [Finset.mem_filter, Finset.mem_range]
  have := n.isLt
  omega

/-- A tile's masked sum continues the sum over the tokens before it. -/
theorem cum_tile (p : Fin 8) (t : ℕ) (ht : t < 16) (i : Fin 256) :
    ∑ s : Fin 256, (if s.val ≤ i.val then (1 : EReal) else 0) * lsig (fl P ⟨t * 256 + s.val, by omega⟩ p) + cum P p (t * 256)
      = cum P p (t * 256 + i.val + 1) := by
  have e : ∀ s : Fin 256, (if s.val ≤ i.val then (1 : EReal) else 0) * lsig (fl P ⟨t * 256 + s.val, by omega⟩ p)
      = (fun s : ℕ => if s < i.val + 1 then lf P p (t * 256 + s) else 0) s.val := fun s => by
    dsimp only [lf]
    by_cases hs : s.val ≤ i.val
    · rw [if_pos hs, if_pos (by omega), dif_pos (by omega), one_mul]
    · rw [if_neg hs, if_neg (by omega), zero_mul]
  rw [Finset.sum_congr rfl fun s _ => e s,
    Fin.sum_univ_eq_sum_range (fun s : ℕ => if s < i.val + 1 then lf P p (t * 256 + s) else 0) 256, ← Finset.sum_filter]
  unfold cum
  rw [show t * 256 + i.val + 1 = t * 256 + (i.val + 1) by omega, Finset.sum_range_add, add_comm]
  congr 1
  refine Finset.sum_congr (Finset.ext fun s => ?_) fun _ _ => rfl
  simp only [Finset.mem_filter, Finset.mem_range]
  have := i.isLt
  omega
end Cert.Tok
end
end
-- ==== Proof.Tok.Pay.lean ====
/- The values that the projection kernel computes on a tile of 256 rows, entry by entry. -/
module
public import proofs.«01_k».proof.Proof.Tok.Model
public import proofs.«01_k».proof.Proof.Gen.TokKernelIdeal.Skeleton
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem Cert.Tok
namespace Cert.TokKernelIdeal.Value
open Cert.TokKernelIdeal Cert.TokKernelIdeal.Gen

theorem p3 (v : Vec Ideal S256x1024 .f32) (g : Vec Ideal S1x1024 .f32) (i : Fin 256) (k : Fin 1024) :
    k0_pay3 v g (ix2 i k) = rms (Ideal.ofBits .f32 1149239296#32) (fun j => g (ix2 0 j)) (fun j => v (ix2 i j)) k := by
  pointwise [k0_pay3]
  rfl
theorem p4 (v : Vec Ideal S256x1024 .f32) (g : Vec Ideal S1x1024 .f32) (w : Vec Ideal S128x1024 .bf16) (b : Vec Ideal S1x128 .f32) (i : Fin 256) (r : Fin 128) :
    k0_pay4 v g w b (ix2 i r) = ∑ j, k0_pay3 v g (ix2 i j) * w (ix2 r j) + b (ix2 0 r) := by
  pointwise [k0_pay4]
theorem p15 (v : FVec Ideal S256x1024 .bf16) (w : Vec Ideal S512x1024 .bf16) (i : Fin 256) (r : Fin 512) :
    k0_pay15 v w (ix2 i r) = ∑ j, v (ix2 i j) * w (ix2 r j) := by
  pointwise [k0_pay15]
/-- The lanes below 8, and below 64. -/
theorem lt8 (r : Fin 128) (a b : EReal) : Scalar.select (IntOp.cmpi .slt (BitVec.ofNat 32 r.val) 8#32) a b = if r.val < 8 then a else b := by
  have h : ∀ r : Fin 128, IntOp.cmpi .slt (BitVec.ofNat 32 r.val) 8#32 = if r.val < 8 then 1#1 else 0#1 := by decide +kernel
  rw [h]; split <;> rfl
theorem lt64 (n : ℕ) (hn : n < 128) (a b : EReal) : Scalar.select (IntOp.cmpi .slt (BitVec.ofNat 32 n) 64#32) a b = if n < 64 then a else b := by
  have h : ∀ r : Fin 128, IntOp.cmpi .slt (BitVec.ofNat 32 r.val) 64#32 = if r.val < 64 then 1#1 else 0#1 := by decide +kernel
  rw [h ⟨n, hn⟩]; dsimp only; split <;> rfl

theorem real_if {q : Prop} [Decidable q] {t : EReal} (h : q → IsReal t) : IsReal (if q then lsig t else 0) := by
  split
  · next hq => exact (h hq).lsig
  · exact IsReal.zero

/-- The running sums: the two remainders of the splitting vanish where the entries are finite. -/
theorem p8 (v27 : IVec S256x128 32) (hv : ∀ (i : Fin 256) (r : Fin 128), v27 (ix2 i r) = BitVec.ofNat 32 r.val)
    (v : Vec Ideal S256x1024 .f32) (g : Vec Ideal S1x1024 .f32) (w : Vec Ideal S128x1024 .bf16) (b : Vec Ideal S1x128 .f32)
    (hq : ∀ (s : Fin 256) (r : Fin 128), r.val < 8 → IsReal (k0_pay4 v g w b (ix2 s r)))
    (tri : Vec Ideal S256x256 .bf16) (c : Vec Ideal S1x128 .f32) (i : Fin 256) (r : Fin 128) :
    k0_pay8 v27 (k0_pay5 v g w b) (k0_pay6 v g w b) (k0_pay7 (F := Ideal)) tri c (ix2 i r)
      = ∑ s : Fin 256, tri (ix2 i s) * (if r.val < 8 then lsig (k0_pay4 v g w b (ix2 s r)) else 0) + c (ix2 0 r) := by
  generalize hq' : k0_pay4 v g w b = q at hq ⊢
  have L : ∀ (x : Fin 256) (r : Fin 128), Scalar.select (IntOp.cmpi .slt (BitVec.ofNat 32 r.val) 8#32)
      (min (q (ix2 x r)) 0 - Ideal.log (1 + Ideal.exp (0 - FloatOps.absf (q (ix2 x r))))) 0 = if r.val < 8 then lsig (q (ix2 x r)) else 0 :=
    fun x r => lt8 r _ _
  pointwise [k0_pay8, k0_pay5, k0_pay6, k0_pay7, hq', hv]
  simp only [L, fun x => (real_if (hq x r)).sub_self, mul_zero, Finset.sum_const_zero, add_zero, sub_zero]
  simp only [lt8, mul_ite, mul_zero]
  rfl

theorem p9 (v27 : IVec S256x128 32) (a b c : FVec Ideal S256x128 .f32) (tri : Vec Ideal S256x256 .bf16) (s : Vec Ideal S1x128 .f32) (z : Fin 1) (r : Fin 128) :
    k0_pay9 v27 a b c tri s (ix2 z r) = k0_pay8 v27 a b c tri s (ix2 255 r) := by
  generalize hq' : k0_pay8 v27 a b c tri s = q
  pointwise [k0_pay9, hq']
  blk_ext
theorem p2 (z : Fin 1) (r : Fin 128) : k0_pay2 (F := Ideal) (ix2 z r) = (0 : EReal) := by pointwise [k0_pay2]

/-- The cumulative gates as the kernel splits them: the first part is all of it. -/
theorem p18 (v27 : IVec S256x128 32) (a b c : FVec Ideal S256x128 .f32) (tri : Vec Ideal S256x256 .bf16) (s : Vec Ideal S1x128 .f32)
    (hr : ∀ (i : Fin 256) (r : Fin 128), IsReal (k0_pay8 v27 a b c tri s (ix2 i r))) (i : Fin 256) (r : Fin 128) :
    k0_pay18 (k0_pay11 v27 a b c tri s) (k0_pay13 v27 a b c tri s) (k0_pay14 v27 a b c tri s) (ix2 i r)
      = k0_pay8 v27 a b c tri s (ix2 i r) * Ideal.ofBits .f32 1069066811#32 := by
  generalize hq' : k0_pay8 v27 a b c tri s = q at hr ⊢
  have e : ∀ (i : Fin 256) (r : Fin 128), q (ix2 i r) * Ideal.ofBits .f32 1069066811#32 - q (ix2 i r) * Ideal.ofBits .f32 1069066811#32 = 0 :=
    fun i r => ((hr i r).mul lit_log2e).sub_self
  pointwise [k0_pay18, k0_pay11, k0_pay13, k0_pay14, k0_pay12, k0_pay10, hq']
  simp only [e, sub_zero, add_zero]

/-- A sum over 128 lanes against the mask of the lanes' half is the sum over the half. -/
theorem segOne (f : Fin 128 → EReal) (b : Fin 128) :
    ∑ x : Fin 128, f x * (if x.val / 64 = b.val / 64 then (1 : EReal) else 0) = ∑ l : Fin 64, f ⟨b.val / 64 * 64 + l.val, by omega⟩ := by
  have hs := Fin.sum_univ_add (a := 64) (b := 64) (fun x : Fin 128 => f x * (if x.val / 64 = b.val / 64 then (1 : EReal) else 0))
  refine hs.trans ?_
  have hb : b.val / 64 = 0 ∨ b.val / 64 = 1 := by omega
  rcases hb with hb | hb
  · rw [Finset.sum_eq_zero (s := Finset.univ) (f := fun i : Fin 64 => f (Fin.natAdd 64 i) * (if (Fin.natAdd 64 i).val / 64 = b.val / 64 then (1 : EReal) else 0))
      (fun x _ => by rw [if_neg (by simp only [Fin.val_natAdd]; omega), mul_zero]), add_zero]
    exact Finset.sum_congr rfl fun x _ => by
      rw [if_pos (by simp only [Fin.val_castAdd]; omega), mul_one]
      exact congrArg f (Fin.ext (by simp only [Fin.val_castAdd]; omega))
  · rw [Finset.sum_eq_zero (s := Finset.univ) (f := fun i : Fin 64 => f (Fin.castAdd 64 i) * (if (Fin.castAdd 64 i).val / 64 = b.val / 64 then (1 : EReal) else 0))
      (fun x _ => by rw [if_neg (by simp only [Fin.val_castAdd]; omega), mul_zero]), zero_add]
    exact Finset.sum_congr rfl fun x _ => by
      rw [if_pos (by simp only [Fin.val_natAdd]; omega), mul_one]
      exact congrArg f (Fin.ext (by simp only [Fin.val_natAdd]; omega))

/-- The head's sum of squares, from the four slabs of 128 lanes. -/
theorem seg (f : Fin 512 → EReal) (bd : Vec Ideal S128x128 .bf16) (hb : ∀ a b : Fin 128, bd (ix2 a b) = if a.val / 64 = b.val / 64 then (1 : EReal) else 0)
    (k : Fin 512) (n : ℕ) (hn : n < 128) (o : ℕ) (hk : k.val = o + n) (ho : o = 0 ∨ o = 128 ∨ o = 256 ∨ o = 384) (e : ∀ x : Fin 128, o + x.val < 512) :
    ∑ x : Fin 128, f ⟨o + x.val, e x⟩ * bd (ix2 x ⟨n, hn⟩) = ∑ l : Fin 64, f ⟨k.val / 64 * 64 + l.val, by omega⟩ := by
  simp only [hb]
  refine (segOne (fun x => f ⟨o + x.val, e x⟩) ⟨n, hn⟩).trans (Finset.sum_congr rfl fun l _ => congrArg f (Fin.ext ?_))
  dsimp only
  omega

/-- The mean by a product is the mean by a division. -/
theorem mean64 (s : EReal) : s * Ideal.ofBits .f32 1015021568#32 = Ideal.div s (Ideal.ofBits .f32 1115684864#32) := by
  have h1 : Ideal.ofBits .f32 1015021568#32 = ((1 / 64 : ℝ) : EReal) := by
    simp [Ideal.ofBits, Ideal.ieee, -EReal.coe_mul]; norm_num
  have h2 : Ideal.ofBits .f32 1115684864#32 = ((64 : ℝ) : EReal) := by
    simp [Ideal.ofBits, Ideal.ieee, -EReal.coe_mul]; norm_num
  rw [h1, h2]
  exact (Ideal.div_coe (by norm_num) s).symm
/-- The scale of the kernel is the reference's scale and base. -/
theorem lit_scale : Ideal.ofBits .f32 1043900987#32 = Ideal.ofBits .f32 1040187392#32 * Ideal.ofBits .f32 1069066811#32 := by
  have h1 : Ideal.ofBits .f32 1043900987#32 = ((12102203 / 2 ^ 26 : ℝ) : EReal) := by
    simp [Ideal.ofBits, Ideal.ieee, -EReal.coe_mul]; norm_num
  have h2 : Ideal.ofBits .f32 1040187392#32 = ((1 / 8 : ℝ) : EReal) := by
    simp [Ideal.ofBits, Ideal.ieee, -EReal.coe_mul]; norm_num
  have h3 : Ideal.ofBits .f32 1069066811#32 = ((12102203 / 2 ^ 23 : ℝ) : EReal) := by
    simp [Ideal.ofBits, Ideal.ieee, -EReal.coe_mul]; norm_num
  rw [h1, h2, h3, ← EReal.coe_mul]
  norm_num

theorem p17 (q : FVec Ideal S256x512 .f32) (bd : Vec Ideal S128x128 .bf16) (hb : ∀ a b : Fin 128, bd (ix2 a b) = if a.val / 64 = b.val / 64 then (1 : EReal) else 0)
    (g : Vec Ideal S1x512 .f32) (i : Fin 256) (p : Fin 8) (l : Fin 64) :
    k0_pay17 q bd g (ix2 i ⟨p.val * 64 + l.val, by omega⟩)
      = rms (Ideal.ofBits .f32 1115684864#32) (fun l => g (ix2 0 ⟨p.val * 64 + l.val, by omega⟩)) (fun j => q (ix2 i ⟨p.val * 64 + j.val, by omega⟩)) l
        * Ideal.ofBits .f32 1040187392#32 * Ideal.ofBits .f32 1069066811#32 := by
  have key : ∀ k : Fin 512, k0_pay17 q bd g (ix2 i k) = q (ix2 i k)
      * Ideal.rsqrt ((∑ j : Fin 64, q (ix2 i ⟨k.val / 64 * 64 + j.val, by omega⟩) * q (ix2 i ⟨k.val / 64 * 64 + j.val, by omega⟩)) * Ideal.ofBits .f32 1015021568#32 + Ideal.ofBits .f32 897988541#32)
      * (g (ix2 0 k) * Ideal.ofBits .f32 1043900987#32) := by
    intro k
    pointwise [k0_pay17]
    refine congrArg (fun s => q (ix2 i k) * Ideal.rsqrt (s * _ + _) * _) ?_
    split
    · next h => have := seg (fun j => q (ix2 i j) * q (ix2 i j)) bd hb k k.val h 0 (by omega) (by omega) (by omega); simp only [zero_add] at this; exact this
    split
    · next h => exact seg (fun j => q (ix2 i j) * q (ix2 i j)) bd hb k _ h 128 (by omega) (by omega) (by omega)
    split
    · next h => exact seg (fun j => q (ix2 i j) * q (ix2 i j)) bd hb k _ h 256 (by omega) (by omega) (by omega)
    · exact seg (fun j => q (ix2 i j) * q (ix2 i j)) bd hb k _ (by omega : k.val - 128 - 128 - 128 < 128) 384 (by omega) (by omega) (by omega)
  rw [key, mean64, lit_scale, ← mul_assoc, ← mul_assoc]
  have e : ∀ j : Fin 64, (p.val * 64 + l.val) / 64 * 64 + j.val = p.val * 64 + j.val := fun j => by omega
  dsimp only
  simp only [e]
  rfl

theorem p28 (q : FVec Ideal S256x512 .f32) (sq : FVec Ideal S256x512 .bf16) (hs : ∀ (i : Fin 256) (k : Fin 512), sq (ix2 i k) = q (ix2 i k) * q (ix2 i k))
    (bd : Vec Ideal S128x128 .bf16) (hb : ∀ a b : Fin 128, bd (ix2 a b) = if a.val / 64 = b.val / 64 then (1 : EReal) else 0)
    (g : Vec Ideal S1x512 .f32) (i : Fin 256) (p : Fin 8) (l : Fin 64) :
    k0_pay28 q sq bd g (ix2 i ⟨p.val * 64 + l.val, by omega⟩)
      = rms (Ideal.ofBits .f32 1115684864#32) (fun l => g (ix2 0 ⟨p.val * 64 + l.val, by omega⟩)) (fun j => q (ix2 i ⟨p.val * 64 + j.val, by omega⟩)) l := by
  have key : ∀ k : Fin 512, k0_pay28 q sq bd g (ix2 i k) = q (ix2 i k)
      * Ideal.rsqrt ((∑ j : Fin 64, q (ix2 i ⟨k.val / 64 * 64 + j.val, by omega⟩) * q (ix2 i ⟨k.val / 64 * 64 + j.val, by omega⟩)) * Ideal.ofBits .f32 1015021568#32 + Ideal.ofBits .f32 897988541#32)
      * g (ix2 0 k) := by
    intro k
    pointwise [k0_pay28, hs]
    refine congrArg (fun s => q (ix2 i k) * Ideal.rsqrt (s * _ + _) * _) ?_
    split
    · next h => have := seg (fun j => q (ix2 i j) * q (ix2 i j)) bd hb k k.val h 0 (by omega) (by omega) (by omega); simp only [zero_add] at this; exact this
    split
    · next h => exact seg (fun j => q (ix2 i j) * q (ix2 i j)) bd hb k _ h 128 (by omega) (by omega) (by omega)
    split
    · next h => exact seg (fun j => q (ix2 i j) * q (ix2 i j)) bd hb k _ h 256 (by omega) (by omega) (by omega)
    · exact seg (fun j => q (ix2 i j) * q (ix2 i j)) bd hb k _ (by omega : k.val - 128 - 128 - 128 < 128) 384 (by omega) (by omega) (by omega)
  rw [key, mean64]
  have e : ∀ j : Fin 64, (p.val * 64 + l.val) / 64 * 64 + j.val = p.val * 64 + j.val := fun j => by omega
  dsimp only
  simp only [e]
  rfl

/-- A head's lanes, put into its slab of 128. -/
def slab (s : Fin 512 → EReal) (k : Fin 1024) : EReal :=
  if h : k.val % 128 < 64 then s ⟨k.val / 128 * 64 + k.val % 128, by omega⟩ else 0

theorem slabPiece (s : Fin 512 → EReal) (k : Fin 1024) (n : ℕ) (hn : n < 128) (hk : k.val % 128 = n) (j : Fin 512) (hj : n < 64 → j.val = k.val / 128 * 64 + n) :
    Scalar.select (IntOp.cmpi .slt (BitVec.ofNat 32 n) 64#32) (s j) 0 = slab s k := by
  rw [lt64 n hn]
  unfold slab
  subst hk
  split
  · next h => exact congrArg s (Fin.ext (hj h))
  · rfl

theorem p24 (q : FVec Ideal S256x512 .f32) (bd : Vec Ideal S128x128 .bf16) (g : Vec Ideal S1x512 .f32) (d : FVec Ideal S256x128 .bf16)
    (pd : Vec Ideal S128x1024 .bf16) (on : Vec Ideal S1x1024 .f32) (i : Fin 256) (k : Fin 1024) :
    k0_pay24 (k0_pay17 q bd g) d k0_pay19 (k0_pay21 q bd g) (k0_pay22 q bd g) (k0_pay23 q bd g) pd on (ix2 i k)
      = slab (fun j => k0_pay17 q bd g (ix2 i j)) k + ∑ r, d (ix2 i r) * pd (ix2 r k) + on (ix2 0 k) := by
  generalize hq : k0_pay17 q bd g = s
  pointwise [k0_pay24, k0_pay19, k0_pay20, k0_pay21, k0_pay22, k0_pay23, hq]
  congr 2
  repeat' split
  all_goals exact slabPiece (fun j => s (ix2 i j)) k _ (by omega) (by omega) _ (by intro _; dsimp only; omega)

theorem p40 (q : FVec Ideal S256x512 .f32) (sq : FVec Ideal S256x512 .bf16) (bd : Vec Ideal S128x128 .bf16) (g : Vec Ideal S1x512 .f32) (d : FVec Ideal S256x128 .bf16)
    (pd : Vec Ideal S128x1024 .bf16) (on : Vec Ideal S1x1024 .f32) (i : Fin 256) (k : Fin 1024) :
    k0_pay40 d k0_pay29 (k0_pay31 q sq bd g) (k0_pay32 q sq bd g) (k0_pay34 q sq bd g) (k0_pay35 q sq bd g) (k0_pay37 q sq bd g) (k0_pay38 q sq bd g) (k0_pay39 q sq bd g) pd on (ix2 i k)
      = slab (fun j => k0_pay28 q sq bd g (ix2 i j)) k + ∑ r, d (ix2 i r) * pd (ix2 r k) + on (ix2 0 k) := by
  generalize hq : k0_pay28 q sq bd g = s
  pointwise [k0_pay40, k0_pay29, k0_pay30, k0_pay31, k0_pay32, k0_pay33, k0_pay34, k0_pay35, k0_pay36, k0_pay37, k0_pay38, k0_pay39, hq]
  congr 2
  repeat' split
  all_goals exact slabPiece (fun j => s (ix2 i j)) k _ (by omega) (by omega) _ (by intro _; dsimp only; omega)
theorem p41 (a : FVec Ideal S256x128 .bf16) (m : IVec S256x128 1) (b c d e f g h : FVec Ideal S256x128 .f32) (pd : Vec Ideal S128x1024 .bf16) (on : Vec Ideal S1x1024 .f32)
    (i : Fin 256) (k : Fin 1024) : k0_pay41 a m b c d e f g h pd on (ix2 i k) = k0_pay40 a m b c d e f g h pd on (ix2 i k) := by
  generalize hq : k0_pay40 a m b c d e f g h pd on = s
  pointwise [k0_pay41, hq]
theorem p42 (a : FVec Ideal S256x128 .bf16) (m : IVec S256x128 1) (b c d e f g h : FVec Ideal S256x128 .f32) (pd : Vec Ideal S128x1024 .bf16) (on : Vec Ideal S1x1024 .f32)
    (z : Fin 1) (i : Fin 256) (k : Fin 1024) : k0_pay42 a m b c d e f g h pd on (ix3 z k i) = k0_pay40 a m b c d e f g h pd on (ix2 i k) := by
  generalize hq : k0_pay40 a m b c d e f g h pd on = s
  pointwise [k0_pay42, hq]

theorem p16 (v : FVec Ideal S256x1024 .bf16) (w : Vec Ideal S512x1024 .bf16) (i : Fin 256) (r : Fin 512) :
    k0_pay16 v w (ix2 i r) = k0_pay15 v w (ix2 i r) := by
  generalize hq : k0_pay15 v w = s
  pointwise [k0_pay16, hq]
theorem p25 (v : FVec Ideal S256x1024 .bf16) (w : Vec Ideal S512x1024 .bf16) (i : Fin 256) (r : Fin 512) :
    k0_pay25 v w (ix2 i r) = ∑ j, v (ix2 i j) * w (ix2 r j) := by
  pointwise [k0_pay25]
theorem p26 (v : FVec Ideal S256x1024 .bf16) (w : Vec Ideal S512x1024 .bf16) (i : Fin 256) (r : Fin 512) :
    k0_pay26 v w (ix2 i r) = k0_pay25 v w (ix2 i r) := by
  generalize hq : k0_pay25 v w = s
  pointwise [k0_pay26, hq]
theorem p27 (v : FVec Ideal S256x1024 .bf16) (w : Vec Ideal S512x1024 .bf16) (i : Fin 256) (r : Fin 512) :
    k0_pay27 v w (ix2 i r) = k0_pay25 v w (ix2 i r) * k0_pay25 v w (ix2 i r) := by
  generalize hq : k0_pay25 v w = s
  pointwise [k0_pay27, hq]
theorem p43 (v : FVec Ideal S256x1024 .bf16) (w : Vec Ideal S512x1024 .bf16) (i : Fin 256) (r : Fin 512) :
    k0_pay43 v w (ix2 i r) = ∑ j, v (ix2 i j) * w (ix2 r j) := by
  pointwise [k0_pay43]
theorem p50 (v : FVec Ideal S256x1024 .bf16) (w : Vec Ideal S512x1024 .bf16) (i : Fin 256) (k : Fin 1024) :
    k0_pay50 (k0_pay43 v w) k0_pay44 (k0_pay46 v w) (k0_pay47 v w) (k0_pay48 v w) (k0_pay49 v w) 64#32 (ix2 i k) = slab (fun j => k0_pay43 v w (ix2 i j)) k := by
  generalize hq : k0_pay43 v w = s
  pointwise [k0_pay50, k0_pay44, k0_pay45, k0_pay46, k0_pay47, k0_pay48, k0_pay49, hq]
  repeat' split
  all_goals exact slabPiece (fun j => s (ix2 i j)) k _ (by omega) (by omega) _ (by intro _; dsimp only; omega)
theorem p51 (v : FVec Ideal S256x512 .f32) (z : Fin 1) (k : Fin 512) (i : Fin 256) : k0_pay51 v (ix3 z k i) = v (ix2 i k) := by
  pointwise [k0_pay51]
theorem p52 (v : FVec Ideal S256x1024 .bf16) (w : Vec Ideal S1024x1024 .bf16) (i : Fin 256) (r : Fin 1024) :
    k0_pay52 v w (ix2 i r) = ∑ j, v (ix2 i j) * w (ix2 r j) := by
  pointwise [k0_pay52]
theorem p53 (v : FVec Ideal S256x1024 .bf16) (w : Vec Ideal S2048x1024 .bf16) (i : Fin 256) (r : Fin 2048) :
    k0_pay1 (k0_pay53 v w) (ix2 i r) = ∑ j, v (ix2 i j) * w (ix2 r j) := by
  pointwise [k0_pay1, k0_pay53]
end Cert.TokKernelIdeal.Value
end
end
-- ==== Proof.Tok.Kernel.lean ====
/- The projection kernel's blocks: what the host prepares, entry by entry. -/
module
public import proofs.«01_k».proof.Proof.Tok.Pay
public import proofs.«01_k».proof.Proof.Gen.TokKernelIdeal.Frame.Runs
public import proofs.«01_k».proof.Defs
@[expose] public section
set_option maxRecDepth 16384
noncomputable section
open Idealize.ShloMosaic Idealize.ShloMosaic.TcCoe Idealize.SL.Sem Cert.Tok
namespace Cert.TokKernelIdeal.Value
open Cert.TokKernelIdeal Cert.TokKernelIdeal.Gen
variable (m : (ℓ : Loc nD τ sig) → Buf (Elt Ideal) ℓ)

/-- The index maps of the windows. -/
theorem idx : ∀ t : Fin cfg0.N, win0_0.index t = ![t.val, 0] ∧ win0_1.index t = ![0, 0] ∧ win0_2.index t = ![0, 0] ∧ win0_3.index t = ![0, 0]
   ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0]
   ∧ win0_12.index t = ![t.val, 0] ∧ win0_13.index t = ![t.val, 0] ∧ win0_14.index t = ![t.val, 0] ∧ win0_15.index t = ![t.val, 0, 0] ∧ win0_16.index t = ![t.val, 0] ∧ win0_17.index t = ![t.val, 0, 0]
   ∧ win0_18.index t = ![t.val, 0] ∧ win0_19.index t = ![t.val, 0] ∧ win0_20.index t = ![t.val, 0] ∧ win0_21.index t = ![t.val, 0] ∧ win0_22.index t = ![t.val, 0] ∧ t.val < 16 :=
  (by decide +kernel : ∀ t : Fin grid0.N, _)
theorem lt16 (t : Fin cfg0.N) : t.val < 16 := by have h := idx t; omega

/-- Row `i` of point `t`'s tile. -/
def row (t : Fin cfg0.N) (i : Fin 256) : Fin 4096 := ⟨t.val * 256 + i.val, by have := lt16 t; omega⟩

/-- The arguments' entries. -/
def args (c : Dev nD) : Args where
  x i k := m ((c : Thread nD τ).loc main_arg0) (ix2 i k)
  g k := m ((c : Thread nD τ).loc main_arg1) (ix2 0 k)
  w i k := m ((c : Thread nD τ).loc main_arg2) (ix2 i k)
  bf k := m ((c : Thread nD τ).loc main_arg3) (ix2 0 k)
  gq k := m ((c : Thread nD τ).loc main_arg4) (ix2 0 k)
  gk k := m ((c : Thread nD τ).loc main_arg5) (ix2 0 k)

/-- The host's operations, step by step. -/
theorem split (c : Dev nD) (b : Ref sig .tc) : V m c b = StableHlo.after hostOps0_2 (StableHlo.after hostOps0_1 (StableHlo.after hostOps0 (fun b => m (c, b)))) (Proc.tc.devRef b) := by
  show StableHlo.after (hostOps0 ++ (hostOps0_1 ++ hostOps0_2)) _ _ = _
  simp only [StableHlo.after_append]

theorem b0 (c : Dev nD) (t : Fin cfg0.N) (i : Fin 256) (k : Fin 1024) : iblk m c 0 t (ix2 i k) = (args m c).x (row t i) k := by
  show _ = m ((c : Thread nD τ).loc main_arg0) (ix2 (row t i) k)
  unfold row
  blk_ext [iblk, V_main_arg0, idx t]
theorem b1 (c : Dev nD) (t : Fin cfg0.N) (k : Fin 1024) : iblk m c 1 t (ix2 (0 : Fin 1) k) = (args m c).g k := by
  show _ = m ((c : Thread nD τ).loc main_arg1) (ix2 (0 : Fin 1) k)
  blk_ext [iblk, V_main_arg1, idx t]
/-- A comparison's bit as a number. -/
theorem bit (φ : FTy) (b : BitVec 1) : FloatOps.uitofp (F := Ideal) φ b = if b = 1#1 then (1 : EReal) else 0 := by
  revert b
  intro b
  have h : b = 0#1 ∨ b = 1#1 := by revert b; decide
  rcases h with h | h <;> subst h
  · show (((0 : ℕ) : ℝ) : EReal) = _
    simp
  · show (((1 : ℕ) : ℝ) : EReal) = _
    simp
theorem bit_head (p : Fin 8) (r : Fin 8) : IntOp.cmpi .eq (BitVec.ofNat 32 p.val) (IntOp.subi (BitVec.ofNat 32 r.val) 0#32) = if p = r then 1#1 else 0#1 := by
  revert p r; decide +kernel
theorem bit_head8 (p : Fin 8) (r : Fin 8) : IntOp.cmpi .eq (BitVec.ofNat 32 p.val) (IntOp.subi (BitVec.ofNat 32 r.val) 8#32) = 0#1 := by
  revert p r; decide +kernel
theorem bit_head16 (p : Fin 8) (r : Fin 8) : IntOp.cmpi .eq (BitVec.ofNat 32 p.val) (IntOp.subi (BitVec.ofNat 32 r.val) 16#32) = 0#1 := by
  revert p r; decide +kernel
theorem bit_lane64 (l : Fin 128) : IntOp.cmpi .eq (BitVec.ofNat 32 l.val) 64#32 = if l.val = 64 then 1#1 else 0#1 := by revert l; decide +kernel
theorem bit_lane67 (l : Fin 128) : IntOp.cmpi .eq (BitVec.ofNat 32 l.val) 67#32 = if l.val = 67 then 1#1 else 0#1 := by revert l; decide +kernel
theorem and_zero (b : BitVec 1) : IntOp.andi 0#1 b = 0#1 := by revert b; decide
theorem bit_q (l : Fin 128) : IntOp.andi (IntOp.cmpi .sge (BitVec.ofNat 32 l.val) 67#32) (IntOp.cmpi .slt (BitVec.ofNat 32 l.val) 70#32) = if 67 ≤ l.val ∧ l.val < 70 then 1#1 else 0#1 := by
  revert l; decide +kernel
theorem bit_k (l : Fin 128) : IntOp.andi (IntOp.cmpi .sge (BitVec.ofNat 32 l.val) 64#32) (IntOp.cmpi .slt (BitVec.ofNat 32 l.val) 67#32) = if 64 ≤ l.val ∧ l.val < 67 then 1#1 else 0#1 := by
  revert l; decide +kernel
theorem bit_pair : ∀ a b : Fin 2, IntOp.cmpi .eq (BitVec.ofNat 32 a.val) (BitVec.ofNat 32 b.val) = if a.val = b.val then 1#1 else 0#1 := by decide +kernel
theorem if_bit (q : Prop) [Decidable q] : (if (if q then 1#1 else 0#1) = 1#1 then (1 : EReal) else 0) = if q then 1 else 0 := by
  split <;> simp_all
theorem and_if (q s : Prop) [Decidable q] [Decidable s] : IntOp.andi (if q then 1#1 else 0#1) (if s then 1#1 else 0#1) = if q ∧ s then 1#1 else 0#1 := by
  by_cases hq : q <;> by_cases hs : s <;> simp [hq, hs] <;> decide
theorem lit_m1 : Ideal.ofBits .f32 3212836864#32 = (-1 : EReal) := by
  have h : Ideal.ofBits .f32 3212836864#32 = ((-1 : ℝ) : EReal) := by
    simp [Ideal.ofBits, Ideal.ieee, -EReal.coe_mul]; norm_num
  rw [h]; rfl

/-- The forget gate's biases, padded with zeros to 128 lanes. -/
def padRow (x : FVec Ideal S1x8 .f32) : FVec Ideal S1x128 .f32 :=
  pad S1x128 ![0, 0] ![0, 120] ![0, 0] x (sitofp .f32 (constantI S_ 32 0#32)) pads_S1x8_S1x128_000_01200 h_S_
theorem padRow_apply (x : FVec Ideal S1x8 .f32) (z : Fin 1) (k : Fin 128) : padRow x (ix2 z k) = if h : k.val < 8 then x (ix2 z ⟨k.val, h⟩) else 0 := by
  have h0 : FloatOps.sitofp (F := Ideal) .f32 (0#32) = (0 : EReal) := by
    show (((0 : ℤ) : ℝ) : EReal) = 0
    simp
  obtain rfl : z = 0 := by omega
  pointwise [padRow]
  rw [h0]

/-- The host's last operations: the projection's weights, transposed and in the kernel's order. -/
abbrev wpre {F : FTy → Type} [FloatOps F] : List (HloOp τ sig (Elt F)) :=
  [ StableHlo.unary main_arg2 main_v128 ((transpose S4616x1024 [1, 0] · transposes_S1024x4616_S4616x1024_1_0) : (⟨S1024x4616, .f32⟩ : BufTy).Contents (Elt F) → (⟨S4616x1024, .f32⟩ : BufTy).Contents (Elt F)),
    StableHlo.unary main_v128 main_v129 ((extractStridedSlice S1536x1024 ![0, 0] · slices_S4616x1024_S1536x1024_0_0) : (⟨S4616x1024, .f32⟩ : BufTy).Contents (Elt F) → (⟨S1536x1024, .f32⟩ : BufTy).Contents (Elt F)),
    StableHlo.unary main_v128 main_v130 ((extractStridedSlice S3072x1024 ![1544, 0] · slices_S4616x1024_S3072x1024_1544_0) : (⟨S4616x1024, .f32⟩ : BufTy).Contents (Elt F) → (⟨S3072x1024, .f32⟩ : BufTy).Contents (Elt F)),
    StableHlo.unary main_v128 main_v131 ((extractStridedSlice S8x1024 ![1536, 0] · slices_S4616x1024_S8x1024_1536_0) : (⟨S4616x1024, .f32⟩ : BufTy).Contents (Elt F) → (⟨S8x1024, .f32⟩ : BufTy).Contents (Elt F)),
    StableHlo.nullary main_cst_19 (constant S_ .f32 0x00000000#32),
    StableHlo.unary main_cst_19 main_v132 (broadcastInDim S120x1024 ![] bcast_S_S120x1024 : (⟨S_, .f32⟩ : BufTy).Contents (Elt F) → (⟨S120x1024, .f32⟩ : BufTy).Contents (Elt F)) ]
/-- The concatenation and the conversion. -/
abbrev wpost {F : FTy → Type} [FloatOps F] : List (HloOp τ sig (Elt F)) :=
  [ StableHlo.nary ![main_v129, main_v130, main_v131, main_v132] main_v133 (fun u => (concatenate S4736x1024 0 [⟨S1536x1024, (u 0 : (⟨S1536x1024, .f32⟩ : BufTy).Contents (Elt F))⟩, ⟨S3072x1024, (u 1 : (⟨S3072x1024, .f32⟩ : BufTy).Contents (Elt F))⟩, ⟨S8x1024, (u 2 : (⟨S8x1024, .f32⟩ : BufTy).Contents (Elt F))⟩, ⟨S120x1024, (u 3 : (⟨S120x1024, .f32⟩ : BufTy).Contents (Elt F))⟩] concatenates_S1536x1024_S3072x1024_S8x1024_S120x1024_S4736x1024_d0 : (⟨S4736x1024, .f32⟩ : BufTy).Contents (Elt F))),
    StableHlo.unary main_v133 main_v134 ((truncf .bf16 · bitsLt_bf16_f32) : (⟨S4736x1024, .f32⟩ : BufTy).Contents (Elt F) → (⟨S4736x1024, .bf16⟩ : BufTy).Contents (Elt F)) ]
/-- Both. -/
abbrev wops {F : FTy → Type} [FloatOps F] : List (HloOp τ sig (Elt F)) :=
  wpre ++ wpost
theorem wops_eq : (hostOps0_2 : List (HloOp τ sig (Elt Ideal))) = hostOps0_2.take 124 ++ wops := rfl
theorem wsplit (c : Dev nD) : ∃ σ : Valuation τ sig (Elt Ideal), ∀ b : Ref sig .tc, V m c b = StableHlo.after wops σ (Proc.devRef .tc b) := by
  refine ⟨StableHlo.after (hostOps0_2.take 124) (StableHlo.after hostOps0_1 (StableHlo.after hostOps0 (fun b => m (c, b)))), fun b => ?_⟩
  rw [← StableHlo.after_append, ← wops_eq]
  exact split m c b
theorem w_arg (σ : Valuation τ sig (Elt Ideal)) : StableHlo.after wops σ (Proc.devRef .tc main_arg2) = σ (Proc.devRef .tc main_arg2) := by
  rw [StableHlo.after_append]
  have h : ∀ σ : Valuation τ sig (Elt Ideal), StableHlo.after wpost σ (Proc.devRef .tc main_arg2) = σ (Proc.devRef .tc main_arg2) := fun σ => by
    entry_read
    rfl
  rw [h]
  entry_read
  rfl
/-- Four groups of the weights' rows, put together. -/
def wjoin (a : FVec Ideal S1536x1024 .f32) (b : FVec Ideal S3072x1024 .f32) (d : FVec Ideal S8x1024 .f32) (e : FVec Ideal S120x1024 .f32) : FVec Ideal S4736x1024 .bf16 :=
  truncf .bf16 (concatenate S4736x1024 0 [⟨S1536x1024, a⟩, ⟨S3072x1024, b⟩, ⟨S8x1024, d⟩, ⟨S120x1024, e⟩] concatenates_S1536x1024_S3072x1024_S8x1024_S120x1024_S4736x1024_d0) bitsLt_bf16_f32
/-- The weights as the kernel takes them. -/
def wcat (w : FVec Ideal S1024x4616 .f32) : FVec Ideal S4736x1024 .bf16 :=
  wjoin (extractStridedSlice S1536x1024 ![0, 0] (transpose S4616x1024 [1, 0] w transposes_S1024x4616_S4616x1024_1_0) slices_S4616x1024_S1536x1024_0_0)
    (extractStridedSlice S3072x1024 ![1544, 0] (transpose S4616x1024 [1, 0] w transposes_S1024x4616_S4616x1024_1_0) slices_S4616x1024_S3072x1024_1544_0)
    (extractStridedSlice S8x1024 ![1536, 0] (transpose S4616x1024 [1, 0] w transposes_S1024x4616_S4616x1024_1_0) slices_S4616x1024_S8x1024_1536_0)
    (broadcastInDim S120x1024 ![] bcast_S_S120x1024 (constant S_ .f32 0x00000000#32))
theorem w_eq (σ : Valuation τ sig (Elt Ideal)) : StableHlo.after wops σ (Proc.devRef .tc main_v134) = wcat (σ (Proc.devRef .tc main_arg2)) := by
  rw [StableHlo.after_append]
  have h : ∀ ρ : Valuation τ sig (Elt Ideal), StableHlo.after wpost ρ (Proc.devRef .tc main_v134)
      = wjoin (ρ (Proc.devRef .tc main_v129)) (ρ (Proc.devRef .tc main_v130)) (ρ (Proc.devRef .tc main_v131)) (ρ (Proc.devRef .tc main_v132)) := fun ρ => by
    simp only [StableHlo.after_cons, StableHlo.after_nil]
    rw [StableHlo.unary_result, StableHlo.nary4_result]
    rfl
  rw [h]
  have h1 : StableHlo.after wpre σ (Proc.devRef .tc main_v129) = (extractStridedSlice S1536x1024 ![0, 0] (transpose S4616x1024 [1, 0] (σ (Proc.devRef .tc main_arg2) : FVec Ideal S1024x4616 .f32) transposes_S1024x4616_S4616x1024_1_0) slices_S4616x1024_S1536x1024_0_0 : FVec Ideal S1536x1024 .f32) := by
    entry_read
    rfl
  have h2 : StableHlo.after wpre σ (Proc.devRef .tc main_v130) = (extractStridedSlice S3072x1024 ![1544, 0] (transpose S4616x1024 [1, 0] (σ (Proc.devRef .tc main_arg2) : FVec Ideal S1024x4616 .f32) transposes_S1024x4616_S4616x1024_1_0) slices_S4616x1024_S3072x1024_1544_0 : FVec Ideal S3072x1024 .f32) := by
    entry_read
    rfl
  have h3 : StableHlo.after wpre σ (Proc.devRef .tc main_v131) = (extractStridedSlice S8x1024 ![1536, 0] (transpose S4616x1024 [1, 0] (σ (Proc.devRef .tc main_arg2) : FVec Ideal S1024x4616 .f32) transposes_S1024x4616_S4616x1024_1_0) slices_S4616x1024_S8x1024_1536_0 : FVec Ideal S8x1024 .f32) := by
    entry_read
    rfl
  have h4 : StableHlo.after wpre σ (Proc.devRef .tc main_v132) = (broadcastInDim S120x1024 ![] bcast_S_S120x1024 (constant S_ .f32 0x00000000#32) : FVec Ideal S120x1024 .f32) := by
    entry_read
    rfl
  rw [h1, h2, h3, h4]
  rfl
theorem V_w (c : Dev nD) : V m c main_v134 = wcat (m ((c : Thread nD τ).loc main_arg2)) := by
  obtain ⟨σ, h⟩ := wsplit m c
  have h2 := V_main_arg2 m c
  rw [h, w_arg] at h2
  rw [h, w_eq, h2]
theorem wcat_apply (w : FVec Ideal S1024x4616 .f32) (r : Fin 4736) (k : Fin 1024) : wcat w (ix2 r k)
    = if h : r.val < 1536 then w (ix2 k ⟨r.val, by omega⟩) else if h : r.val < 4608 then w (ix2 k ⟨r.val + 8, by omega⟩)
      else if h : r.val < 4616 then w (ix2 k ⟨1536 + (r.val - 4608), by omega⟩) else 0 := by
  pointwise [wcat, wjoin]
  split
  · rfl
  · have e1 : (r.val - 1536 < 3072) = (r.val < 4608) := propext (by omega)
    have e2 : (r.val - 1536 - 3072 < 8) = (r.val < 4616) := propext (by omega)
    have e3 : 1544 + (r.val - 1536) = r.val + 8 := by omega
    have e4 : r.val - 1536 - 3072 = r.val - 4608 := by omega
    have e5 : (r.val - 4608 < 8) = (r.val < 4616) := propext (by omega)
    simp only [e1, e2, e3, e4, e5]
theorem b2 (c : Dev nD) (t : Fin cfg0.N) (i : Fin 4736) (k : Fin 1024) : iblk m c 2 t (ix2 i k) = wcat (m ((c : Thread nD τ).loc main_arg2)) (ix2 i k) := by
  blk_ext [iblk, V_w, idx t]
theorem b3 (c : Dev nD) (t : Fin cfg0.N) (i k : Fin 128) : iblk m c 3 t (ix2 i k) = (if i.val / 64 = k.val / 64 then 1 else 0 : EReal) := by
  blk_simp [iblk]
  rw [split]
  entry_read
  have e : ((View.whole main_v8).slice (win0_3.rect t)).emb (ix2 i k) = ix2 i k := by blk_ext [idx t]
  rw [e]
  pointwise
  refine (bit _ _).trans ?_
  rw [bit_pair ⟨i.val / 64, by omega⟩ ⟨k.val / 64, by omega⟩, if_bit]
theorem b4 (c : Dev nD) (t : Fin cfg0.N) (k : Fin 512) : iblk m c 4 t (ix2 (0 : Fin 1) k) = (args m c).gq ⟨k.val % 64, by omega⟩ := by
  blk_simp [iblk]
  rw [split]
  entry_read
  have e : ((View.whole main_v19).slice (win0_4.rect t)).emb (ix2 (0 : Fin 1) k) = ix2 (0 : Fin 1) k := by blk_ext [idx t]
  rw [e]
  pointwise
  rfl
theorem b5 (c : Dev nD) (t : Fin cfg0.N) (k : Fin 512) : iblk m c 5 t (ix2 (0 : Fin 1) k) = (args m c).gk ⟨k.val % 64, by omega⟩ := by
  blk_simp [iblk]
  rw [split]
  entry_read
  have e : ((View.whole main_v22).slice (win0_5.rect t)).emb (ix2 (0 : Fin 1) k) = ix2 (0 : Fin 1) k := by blk_ext [idx t]
  rw [e]
  pointwise
  rfl
theorem b6 (c : Dev nD) (t : Fin cfg0.N) (k : Fin 128) : iblk m c 6 t (ix2 (0 : Fin 1) k) = (if h : k.val < 8 then (args m c).bf ⟨k.val, h⟩ else 0 : EReal) := by
  blk_simp [iblk]
  rw [split]
  entry_read
  have e : ((View.whole main_v23).slice (win0_6.rect t)).emb (ix2 (0 : Fin 1) k) = ix2 (0 : Fin 1) k := by blk_ext [idx t]
  rw [e]
  simp only [StableHlo.TRef.ofBuf_toBuf]
  refine (show padRow (m ((c : Thread nD τ).loc main_arg3)) (ix2 (0 : Fin 1) k) = (if h : k.val < 8 then (args m c).bf ⟨k.val, h⟩ else 0 : EReal) from ?_)
  rw [padRow_apply]
  rfl
theorem b7 (c : Dev nD) (t : Fin cfg0.N) (i k : Fin 256) : iblk m c 7 t (ix2 i k) = (if k ≤ i then 1 else 0 : EReal) := by
  blk_simp [iblk]
  rw [split]
  entry_read
  have e : ((View.whole main_v16).slice (win0_7.rect t)).emb (ix2 i k) = ix2 i k := by blk_ext [idx t]
  rw [e]
  pointwise
  exact mask _ (by omega) (by omega)
theorem b8 (c : Dev nD) (t : Fin cfg0.N) (p r : Fin 8) (l : Fin 128) : iblk m c 8 t (ix2 (⟨r.val, by omega⟩ : Fin 128) (⟨p.val * 128 + l.val, by omega⟩ : Fin 1024)) = (if p = r ∧ l.val = 64 then 1 else 0 : EReal) := by
  blk_simp [iblk]
  rw [split]
  entry_read
  have e : ((View.whole main_v70).slice (win0_8.rect t)).emb (ix2 (⟨r.val, by omega⟩ : Fin 128) (⟨p.val * 128 + l.val, by omega⟩ : Fin 1024)) = ix2 (⟨r.val, by omega⟩ : Fin 128) (⟨p.val * 128 + l.val, by omega⟩ : Fin 1024) := by blk_ext [idx t]
  rw [e]
  pointwise
  have e1 : (p.val * 128 + l.val) / 128 = p.val := by omega
  have e2 : (p.val * 128 + l.val) % 128 = l.val := by omega
  simp only [e1, e2, bit_head, bit_head8, bit_head16, bit_lane64, and_zero, and_if]
  simp only [bit, if_bit]
  simp
theorem b9 (c : Dev nD) (t : Fin cfg0.N) (p r : Fin 8) (l : Fin 128) : iblk m c 9 t (ix2 (⟨r.val, by omega⟩ : Fin 128) (⟨p.val * 128 + l.val, by omega⟩ : Fin 1024)) = (if p = r ∧ l.val = 67 then -1 else 0 : EReal) := by
  blk_simp [iblk]
  rw [split]
  entry_read
  have e : ((View.whole main_v111).slice (win0_9.rect t)).emb (ix2 (⟨r.val, by omega⟩ : Fin 128) (⟨p.val * 128 + l.val, by omega⟩ : Fin 1024)) = ix2 (⟨r.val, by omega⟩ : Fin 128) (⟨p.val * 128 + l.val, by omega⟩ : Fin 1024) := by blk_ext [idx t]
  rw [e]
  pointwise
  have e1 : (p.val * 128 + l.val) / 128 = p.val := by omega
  have e2 : (p.val * 128 + l.val) % 128 = l.val := by omega
  simp only [e1, e2, bit_head, bit_head8, bit_head16, bit_lane67, and_zero, and_if]
  simp only [bit, if_bit]
  rw [lit_m1]
  by_cases h : p = r ∧ l.val = 67 <;> simp [h]
theorem b10 (c : Dev nD) (t : Fin cfg0.N) (p : Fin 8) (l : Fin 128) : iblk m c 10 t (ix2 (0 : Fin 1) (⟨p.val * 128 + l.val, by omega⟩ : Fin 1024)) = (if 67 ≤ l.val ∧ l.val < 70 then 1 else 0 : EReal) := by
  blk_simp [iblk]
  rw [split]
  entry_read
  have e : ((View.whole main_v119).slice (win0_10.rect t)).emb (ix2 (0 : Fin 1) (⟨p.val * 128 + l.val, by omega⟩ : Fin 1024)) = ix2 (0 : Fin 1) (⟨p.val * 128 + l.val, by omega⟩ : Fin 1024) := by blk_ext [idx t]
  rw [e]
  pointwise
  have e2 : (p.val * 128 + l.val) % 128 = l.val := by omega
  simp only [e2, bit_q]
  exact (bit _ _).trans (if_bit _)
theorem b11 (c : Dev nD) (t : Fin cfg0.N) (p : Fin 8) (l : Fin 128) : iblk m c 11 t (ix2 (0 : Fin 1) (⟨p.val * 128 + l.val, by omega⟩ : Fin 1024)) = (if 64 ≤ l.val ∧ l.val < 67 then 1 else 0 : EReal) := by
  blk_simp [iblk]
  rw [split]
  entry_read
  have e : ((View.whole main_v127).slice (win0_11.rect t)).emb (ix2 (0 : Fin 1) (⟨p.val * 128 + l.val, by omega⟩ : Fin 1024)) = ix2 (0 : Fin 1) (⟨p.val * 128 + l.val, by omega⟩ : Fin 1024) := by blk_ext [idx t]
  rw [e]
  pointwise
  have e2 : (p.val * 128 + l.val) % 128 = l.val := by omega
  simp only [e2, bit_k]
  exact (bit _ _).trans (if_bit _)
end Cert.TokKernelIdeal.Value
end
end
-- ==== Proof.Tok.Tile.lean ====
/- One tile of the projection kernel: its values, entry by entry, from the sums that the tile before left. -/
module
public import proofs.«01_k».proof.Proof.Tok.Kernel
@[expose] public section
set_option maxRecDepth 16384
noncomputable section
open Idealize.ShloMosaic Idealize.ShloMosaic.TcCoe Idealize.SL.Sem Cert.Tok
namespace Cert.TokKernelIdeal.Value
open Cert.TokKernelIdeal Cert.TokKernelIdeal.Gen
variable (m : (ℓ : Loc nD τ sig) → Buf (Elt Ideal) ℓ) (c : Dev nD) (t : Fin cfg0.N)

/-- The normed rows, and the groups of the weights' rows. -/
abbrev hT := k0_pay3 (iblk m c 0 t) (iblk m c 1 t)
abbrev wQ := View.ld (iblk m c 2 t) (Rect.unit ![0, 0] ![512, 1024] inb_S4736x1024_S512x1024_0_0)
abbrev wK := View.ld (iblk m c 2 t) (Rect.unit ![512, 0] ![512, 1024] inb_S4736x1024_S512x1024_512_0)
abbrev wV := View.ld (iblk m c 2 t) (Rect.unit ![1024, 0] ![512, 1024] inb_S4736x1024_S512x1024_1024_0)
abbrev wU := View.ld (iblk m c 2 t) (Rect.unit ![1536, 0] ![1024, 1024] inb_S4736x1024_S1024x1024_1536_0)
abbrev wG := View.ld (iblk m c 2 t) (Rect.unit ![2560, 0] ![2048, 1024] inb_S4736x1024_S2048x1024_2560_0)
abbrev wF := View.ld (iblk m c 2 t) (Rect.unit ![4608, 0] ![128, 1024] inb_S4736x1024_S128x1024_4608_0)

theorem q3 (i : Fin 256) (k : Fin 1024) : hT m c t (ix2 i k) = Tok.h (args m c) (row t i) k := by
  rw [hT, p3]; simp only [b0, b1]; rfl
theorem lQ (r : Fin 512) (k : Fin 1024) : wQ m c t (ix2 r k) = (args m c).w k ⟨r.val, by omega⟩ := by
  unfold wQ
  pointwise [b2, wcat_apply]
  rw [dif_pos (by omega)]; rfl
theorem lK (r : Fin 512) (k : Fin 1024) : wK m c t (ix2 r k) = (args m c).w k ⟨512 + r.val, by omega⟩ := by
  unfold wK
  pointwise [b2, wcat_apply]
  rw [dif_pos (by omega)]; rfl
theorem lV (r : Fin 512) (k : Fin 1024) : wV m c t (ix2 r k) = (args m c).w k ⟨1024 + r.val, by omega⟩ := by
  unfold wV
  pointwise [b2, wcat_apply]
  rw [dif_pos (by omega)]; rfl
theorem lU (r : Fin 1024) (k : Fin 1024) : wU m c t (ix2 r k) = (args m c).w k ⟨1544 + r.val, by omega⟩ := by
  unfold wU
  pointwise [b2, wcat_apply]
  rw [dif_pos (by omega)]
  exact congrArg (fun n => (args m c).w k n) (Fin.ext (by dsimp only; omega))
theorem lG (r : Fin 2048) (k : Fin 1024) : wG m c t (ix2 r k) = (args m c).w k ⟨2568 + r.val, by omega⟩ := by
  unfold wG
  pointwise [b2, wcat_apply]
  rw [dif_neg (by omega), dif_pos (by omega)]
  exact congrArg (fun n => (args m c).w k n) (Fin.ext (by dsimp only; omega))
theorem lF (r : Fin 128) (k : Fin 1024) : wF m c t (ix2 r k) = (if hr : r.val < 8 then (args m c).w k ⟨1536 + r.val, by omega⟩ else 0 : EReal) := by
  unfold wF
  pointwise [b2, wcat_apply]
  by_cases hr : r.val < 8
  · rw [dif_pos hr, dif_neg (by omega), dif_pos (by omega)]
    rfl
  · rw [dif_neg hr, dif_neg (by omega), dif_neg (by omega)]

/-- The projections. -/
theorem q15 (i : Fin 256) (r : Fin 512) : k0_pay15 (hT m c t) (wQ m c t) (ix2 i r) = pr (args m c) (row t i) ⟨r.val, by omega⟩ := by
  rw [p15]; simp only [q3, lQ]; rfl
theorem q25 (i : Fin 256) (r : Fin 512) : k0_pay25 (hT m c t) (wK m c t) (ix2 i r) = pr (args m c) (row t i) ⟨512 + r.val, by omega⟩ := by
  rw [p25]; simp only [q3, lK]; rfl
theorem q43 (i : Fin 256) (r : Fin 512) : k0_pay43 (hT m c t) (wV m c t) (ix2 i r) = pr (args m c) (row t i) ⟨1024 + r.val, by omega⟩ := by
  rw [p43]; simp only [q3, lV]; rfl
theorem q52 (i : Fin 256) (r : Fin 1024) : k0_pay52 (hT m c t) (wU m c t) (ix2 i r) = pr (args m c) (row t i) ⟨1544 + r.val, by omega⟩ := by
  rw [p52]; simp only [q3, lU]; rfl
theorem q53 (i : Fin 256) (r : Fin 2048) : k0_pay1 (k0_pay53 (hT m c t) (wG m c t)) (ix2 i r) = pr (args m c) (row t i) ⟨2568 + r.val, by omega⟩ := by
  rw [p53]; simp only [q3, lG]; rfl
theorem q4 (i : Fin 256) (r : Fin 128) : k0_pay4 (iblk m c 0 t) (iblk m c 1 t) (wF m c t) (iblk m c 6 t) (ix2 i r)
    = (if hr : r.val < 8 then fl (args m c) (row t i) ⟨r.val, hr⟩ else 0 : EReal) := by
  rw [p4]
  simp only [q3, lF, b6]
  by_cases hr : r.val < 8
  · simp only [dif_pos hr]; rfl
  · simp only [dif_neg hr, mul_zero, Finset.sum_const_zero, add_zero]
theorem q16 (i : Fin 256) (r : Fin 512) : k0_pay16 (hT m c t) (wQ m c t) (ix2 i r) = pr (args m c) (row t i) ⟨r.val, by omega⟩ := by
  rw [p16, q15]
theorem q26 (i : Fin 256) (r : Fin 512) : k0_pay26 (hT m c t) (wK m c t) (ix2 i r) = pr (args m c) (row t i) ⟨512 + r.val, by omega⟩ := by
  rw [p26, q25]
theorem q51 (z : Fin 1) (k : Fin 512) (i : Fin 256) : k0_pay51 (k0_pay43 (hT m c t) (wV m c t)) (ix3 z k i) = pr (args m c) (row t i) ⟨1024 + k.val, by omega⟩ := by
  rw [p51, q43]
/-- The values' slabs. -/
theorem q50 (i : Fin 256) (k : Fin 1024) :
    k0_pay50 (k0_pay43 (hT m c t) (wV m c t)) k0_pay44 (k0_pay46 (hT m c t) (wV m c t)) (k0_pay47 (hT m c t) (wV m c t)) (k0_pay48 (hT m c t) (wV m c t)) (k0_pay49 (hT m c t) (wV m c t)) 64#32 (ix2 i k)
      = vs (args m c) (row t i) ⟨k.val / 128, by omega⟩ ⟨k.val % 128, by omega⟩ := by
  rw [p50]
  unfold slab vs
  dsimp only
  split
  · rw [q43]
  · rfl

/-- The lanes' numbers. -/
abbrev lanes := iota Kind.tc S256x128 32 [1] iota_S256x128_d1_w32
theorem lanes_apply (i : Fin 256) (r : Fin 128) : lanes (ix2 i r) = BitVec.ofNat 32 r.val := by
  unfold lanes
  pointwise

/-- The two operands of the running sums. -/
abbrev f5 := k0_pay5 (iblk m c 0 t) (iblk m c 1 t) (wF m c t) (iblk m c 6 t)
abbrev f6 := k0_pay6 (iblk m c 0 t) (iblk m c 1 t) (wF m c t) (iblk m c 6 t)

/-- What the tile before leaves: the sums over the tokens before this tile. -/
def Before (C : Vec Ideal S1x128 .f32) : Prop :=
  ∀ r : Fin 128, C (ix2 0 r) = (if hr : r.val < 8 then cum (args m c) ⟨r.val, hr⟩ (t.val * 256) else 0 : EReal)

variable {m c t}
variable (F : (args m c).Finite) {C : Vec Ideal S1x128 .f32} (hC : Before m c t C)
include F hC

theorem q8 (i : Fin 256) (r : Fin 128) : k0_pay8 lanes (f5 m c t) (f6 m c t) k0_pay7 (iblk m c 7 t) C (ix2 i r)
    = (if hr : r.val < 8 then cum (args m c) ⟨r.val, hr⟩ (t.val * 256 + i.val + 1) else 0 : EReal) := by
  have hq : ∀ (s : Fin 256) (r : Fin 128), r.val < 8 → IsReal (k0_pay4 (iblk m c 0 t) (iblk m c 1 t) (wF m c t) (iblk m c 6 t) (ix2 s r)) :=
    fun s r hr => by rw [q4, dif_pos hr]; exact fl_real F _ _
  rw [p8 _ lanes_apply _ _ _ _ hq, hC r]
  simp only [q4, b7]
  by_cases hr : r.val < 8
  · simp only [if_pos hr, dif_pos hr]
    exact cum_tile (P := args m c) ⟨r.val, hr⟩ t.val (lt16 t) i
  · simp only [if_neg hr, dif_neg hr, mul_zero, Finset.sum_const_zero, add_zero]
/-- What this tile leaves. -/
theorem q9 (r : Fin 128) : k0_pay9 lanes (f5 m c t) (f6 m c t) k0_pay7 (iblk m c 7 t) C (ix2 (0 : Fin 1) r)
    = (if hr : r.val < 8 then cum (args m c) ⟨r.val, hr⟩ ((t.val + 1) * 256) else 0 : EReal) := by
  rw [p9, q8 F hC]
  split
  · exact congrArg (cum (args m c) _) (by show t.val * 256 + 255 + 1 = _; omega)
  · rfl
/-- The cumulative gates. -/
theorem q18 (i : Fin 256) (r : Fin 128) :
    k0_pay18 (k0_pay11 lanes (f5 m c t) (f6 m c t) k0_pay7 (iblk m c 7 t) C) (k0_pay13 lanes (f5 m c t) (f6 m c t) k0_pay7 (iblk m c 7 t) C) (k0_pay14 lanes (f5 m c t) (f6 m c t) k0_pay7 (iblk m c 7 t) C) (ix2 i r)
      = (if hr : r.val < 8 then d2 (args m c) (row t i) ⟨r.val, hr⟩ else 0 : EReal) := by
  rw [p18 _ _ _ _ _ _ (fun i r => by
    rw [q8 F hC]
    split
    · exact cum_real F _ _
    · exact IsReal.zero), q8 F hC]
  by_cases hr : r.val < 8
  · simp only [dif_pos hr]; rfl
  · simp only [dif_neg hr, zero_mul]
omit F hC

/-- The sum over the lanes keeps one head's gate. -/
theorem pick (D G : Fin 128 → EReal) (hD : ∀ r : Fin 128, ¬ r.val < 8 → D r = 0) (p : Fin 8) (q : Prop) [Decidable q] (a : EReal)
    (hG : ∀ r : Fin 8, G ⟨r.val, by omega⟩ = if p = r ∧ q then a else 0) :
    ∑ r, D r * G r = if q then D ⟨p.val, by omega⟩ * a else 0 := by
  rw [Finset.sum_eq_single (⟨p.val, by omega⟩ : Fin 128) (fun r _ hr => ?_) (fun hn => absurd (Finset.mem_univ _) hn), hG p]
  · by_cases hq : q
    · rw [if_pos hq, if_pos ⟨rfl, hq⟩]
    · rw [if_neg hq, if_neg (fun h => hq h.2), mul_zero]
  · by_cases h8 : r.val < 8
    · rw [show G r = 0 from (hG ⟨r.val, h8⟩).trans (if_neg fun h => hr (Fin.ext (by rw [h.1])) ), mul_zero]
    · rw [hD r h8, zero_mul]

/-- A column of the slabs, by its head and its lane. -/
theorem col (k : Fin 1024) : k = ⟨(⟨k.val / 128, by omega⟩ : Fin 8).val * 128 + (⟨k.val % 128, by omega⟩ : Fin 128).val, by dsimp only; omega⟩ :=
  Fin.ext (by dsimp only; omega)

include F hC
/-- The queries' slabs. -/
theorem q24 (i : Fin 256) (k : Fin 1024) :
    k0_pay24 (k0_pay17 (k0_pay15 (hT m c t) (wQ m c t)) (iblk m c 3 t) (iblk m c 4 t))
      (k0_pay18 (k0_pay11 lanes (f5 m c t) (f6 m c t) k0_pay7 (iblk m c 7 t) C) (k0_pay13 lanes (f5 m c t) (f6 m c t) k0_pay7 (iblk m c 7 t) C) (k0_pay14 lanes (f5 m c t) (f6 m c t) k0_pay7 (iblk m c 7 t) C))
      k0_pay19 (k0_pay21 (k0_pay15 (hT m c t) (wQ m c t)) (iblk m c 3 t) (iblk m c 4 t)) (k0_pay22 (k0_pay15 (hT m c t) (wQ m c t)) (iblk m c 3 t) (iblk m c 4 t)) (k0_pay23 (k0_pay15 (hT m c t) (wQ m c t)) (iblk m c 3 t) (iblk m c 4 t))
      (iblk m c 8 t) (iblk m c 10 t) (ix2 i k)
      = qa (args m c) (row t i) ⟨k.val / 128, by omega⟩ ⟨k.val % 128, by omega⟩ := by
  rw [p24]
  simp only [q18 F hC]
  have kp : k.val / 128 < 8 := by omega
  have kl : k.val % 128 < 128 := by omega
  have hw : ∀ r : Fin 8, iblk m c 8 t (ix2 (⟨r.val, Nat.lt_trans r.isLt (by decide)⟩ : Fin 128) k) = (if (⟨k.val / 128, kp⟩ : Fin 8) = r ∧ k.val % 128 = 64 then 1 else 0 : EReal) := fun r =>
    (congrArg (fun k => iblk m c 8 t (ix2 (⟨r.val, Nat.lt_trans r.isLt (by decide)⟩ : Fin 128) k)) (col k)).trans (b8 m c t ⟨k.val / 128, kp⟩ r ⟨k.val % 128, kl⟩)
  have h10 : iblk m c 10 t (ix2 (0 : Fin 1) k) = (if 67 ≤ k.val % 128 ∧ k.val % 128 < 70 then 1 else 0 : EReal) :=
    (congrArg (fun k => iblk m c 10 t (ix2 (0 : Fin 1) k)) (col k)).trans (b10 m c t ⟨k.val / 128, kp⟩ ⟨k.val % 128, kl⟩)
  rw [h10, pick _ (fun r => iblk m c 8 t (ix2 r k)) (fun r hr => dif_neg hr) ⟨k.val / 128, kp⟩ (k.val % 128 = 64) 1 hw,
    dif_pos (show k.val / 128 < 8 by omega), mul_one]
  unfold slab qa
  dsimp only
  by_cases hl : k.val % 128 < 64
  · rw [dif_pos hl, dif_pos hl, if_neg (by omega), if_neg (by omega), add_zero, add_zero]
    refine (p17 _ _ (b3 m c t) _ i ⟨k.val / 128, by omega⟩ ⟨k.val % 128, hl⟩).trans ?_
    simp only [q15, b4]
    congr 2
    unfold qn
    congr 1
    funext j
    exact congrArg (args m c).gq (Fin.ext (by dsimp only; omega))
  · rw [dif_neg hl, dif_neg hl, zero_add]
    by_cases h4 : k.val % 128 = 64
    · rw [if_pos h4, if_pos h4, if_neg (by omega), add_zero]
    · rw [if_neg h4, if_neg h4, zero_add]
/-- The keys' slabs. -/
theorem q40 (i : Fin 256) (k : Fin 1024) :
    k0_pay40 (k0_pay18 (k0_pay11 lanes (f5 m c t) (f6 m c t) k0_pay7 (iblk m c 7 t) C) (k0_pay13 lanes (f5 m c t) (f6 m c t) k0_pay7 (iblk m c 7 t) C) (k0_pay14 lanes (f5 m c t) (f6 m c t) k0_pay7 (iblk m c 7 t) C))
      k0_pay29 (k0_pay31 (k0_pay25 (hT m c t) (wK m c t)) (k0_pay27 (hT m c t) (wK m c t)) (iblk m c 3 t) (iblk m c 5 t)) (k0_pay32 (k0_pay25 (hT m c t) (wK m c t)) (k0_pay27 (hT m c t) (wK m c t)) (iblk m c 3 t) (iblk m c 5 t))
      (k0_pay34 (k0_pay25 (hT m c t) (wK m c t)) (k0_pay27 (hT m c t) (wK m c t)) (iblk m c 3 t) (iblk m c 5 t)) (k0_pay35 (k0_pay25 (hT m c t) (wK m c t)) (k0_pay27 (hT m c t) (wK m c t)) (iblk m c 3 t) (iblk m c 5 t))
      (k0_pay37 (k0_pay25 (hT m c t) (wK m c t)) (k0_pay27 (hT m c t) (wK m c t)) (iblk m c 3 t) (iblk m c 5 t)) (k0_pay38 (k0_pay25 (hT m c t) (wK m c t)) (k0_pay27 (hT m c t) (wK m c t)) (iblk m c 3 t) (iblk m c 5 t))
      (k0_pay39 (k0_pay25 (hT m c t) (wK m c t)) (k0_pay27 (hT m c t) (wK m c t)) (iblk m c 3 t) (iblk m c 5 t)) (iblk m c 9 t) (iblk m c 11 t) (ix2 i k)
      = ka (args m c) (row t i) ⟨k.val / 128, by omega⟩ ⟨k.val % 128, by omega⟩ := by
  rw [p40]
  simp only [q18 F hC]
  have kp : k.val / 128 < 8 := by omega
  have kl : k.val % 128 < 128 := by omega
  have hw : ∀ r : Fin 8, iblk m c 9 t (ix2 (⟨r.val, Nat.lt_trans r.isLt (by decide)⟩ : Fin 128) k) = (if (⟨k.val / 128, kp⟩ : Fin 8) = r ∧ k.val % 128 = 67 then -1 else 0 : EReal) := fun r =>
    (congrArg (fun k => iblk m c 9 t (ix2 (⟨r.val, Nat.lt_trans r.isLt (by decide)⟩ : Fin 128) k)) (col k)).trans (b9 m c t ⟨k.val / 128, kp⟩ r ⟨k.val % 128, kl⟩)
  have h11 : iblk m c 11 t (ix2 (0 : Fin 1) k) = (if 64 ≤ k.val % 128 ∧ k.val % 128 < 67 then 1 else 0 : EReal) :=
    (congrArg (fun k => iblk m c 11 t (ix2 (0 : Fin 1) k)) (col k)).trans (b11 m c t ⟨k.val / 128, kp⟩ ⟨k.val % 128, kl⟩)
  rw [h11, pick _ (fun r => iblk m c 9 t (ix2 r k)) (fun r hr => dif_neg hr) ⟨k.val / 128, kp⟩ (k.val % 128 = 67) (-1) hw,
    dif_pos (show k.val / 128 < 8 by omega), mul_neg, mul_one]
  unfold slab ka
  dsimp only
  by_cases hl : k.val % 128 < 64
  · rw [dif_pos hl, dif_pos hl, if_neg (by omega), if_neg (by omega), add_zero, add_zero]
    refine (p28 _ _ (p27 _ _) _ (b3 m c t) _ i ⟨k.val / 128, by omega⟩ ⟨k.val % 128, hl⟩).trans ?_
    simp only [q25, b5]
    unfold kn
    congr 1
    funext j
    exact congrArg (args m c).gk (Fin.ext (by dsimp only; omega))
  · rw [dif_neg hl, dif_neg hl, zero_add]
    by_cases h4 : k.val % 128 < 67
    · rw [if_pos h4, if_neg (by omega), if_pos (by omega), zero_add]
    · rw [if_neg h4, if_neg (show ¬ (64 ≤ k.val % 128 ∧ k.val % 128 < 67) by omega), add_zero]
theorem q41 (i : Fin 256) (k : Fin 1024) :
    k0_pay41 (k0_pay18 (k0_pay11 lanes (f5 m c t) (f6 m c t) k0_pay7 (iblk m c 7 t) C) (k0_pay13 lanes (f5 m c t) (f6 m c t) k0_pay7 (iblk m c 7 t) C) (k0_pay14 lanes (f5 m c t) (f6 m c t) k0_pay7 (iblk m c 7 t) C))
      k0_pay29 (k0_pay31 (k0_pay25 (hT m c t) (wK m c t)) (k0_pay27 (hT m c t) (wK m c t)) (iblk m c 3 t) (iblk m c 5 t)) (k0_pay32 (k0_pay25 (hT m c t) (wK m c t)) (k0_pay27 (hT m c t) (wK m c t)) (iblk m c 3 t) (iblk m c 5 t))
      (k0_pay34 (k0_pay25 (hT m c t) (wK m c t)) (k0_pay27 (hT m c t) (wK m c t)) (iblk m c 3 t) (iblk m c 5 t)) (k0_pay35 (k0_pay25 (hT m c t) (wK m c t)) (k0_pay27 (hT m c t) (wK m c t)) (iblk m c 3 t) (iblk m c 5 t))
      (k0_pay37 (k0_pay25 (hT m c t) (wK m c t)) (k0_pay27 (hT m c t) (wK m c t)) (iblk m c 3 t) (iblk m c 5 t)) (k0_pay38 (k0_pay25 (hT m c t) (wK m c t)) (k0_pay27 (hT m c t) (wK m c t)) (iblk m c 3 t) (iblk m c 5 t))
      (k0_pay39 (k0_pay25 (hT m c t) (wK m c t)) (k0_pay27 (hT m c t) (wK m c t)) (iblk m c 3 t) (iblk m c 5 t)) (iblk m c 9 t) (iblk m c 11 t) (ix2 i k)
      = ka (args m c) (row t i) ⟨k.val / 128, by omega⟩ ⟨k.val % 128, by omega⟩ := by
  rw [p41, q40 F hC]
theorem q42 (z : Fin 1) (k : Fin 1024) (i : Fin 256) :
    k0_pay42 (k0_pay18 (k0_pay11 lanes (f5 m c t) (f6 m c t) k0_pay7 (iblk m c 7 t) C) (k0_pay13 lanes (f5 m c t) (f6 m c t) k0_pay7 (iblk m c 7 t) C) (k0_pay14 lanes (f5 m c t) (f6 m c t) k0_pay7 (iblk m c 7 t) C))
      k0_pay29 (k0_pay31 (k0_pay25 (hT m c t) (wK m c t)) (k0_pay27 (hT m c t) (wK m c t)) (iblk m c 3 t) (iblk m c 5 t)) (k0_pay32 (k0_pay25 (hT m c t) (wK m c t)) (k0_pay27 (hT m c t) (wK m c t)) (iblk m c 3 t) (iblk m c 5 t))
      (k0_pay34 (k0_pay25 (hT m c t) (wK m c t)) (k0_pay27 (hT m c t) (wK m c t)) (iblk m c 3 t) (iblk m c 5 t)) (k0_pay35 (k0_pay25 (hT m c t) (wK m c t)) (k0_pay27 (hT m c t) (wK m c t)) (iblk m c 3 t) (iblk m c 5 t))
      (k0_pay37 (k0_pay25 (hT m c t) (wK m c t)) (k0_pay27 (hT m c t) (wK m c t)) (iblk m c 3 t) (iblk m c 5 t)) (k0_pay38 (k0_pay25 (hT m c t) (wK m c t)) (k0_pay27 (hT m c t) (wK m c t)) (iblk m c 3 t) (iblk m c 5 t))
      (k0_pay39 (k0_pay25 (hT m c t) (wK m c t)) (k0_pay27 (hT m c t) (wK m c t)) (iblk m c 3 t) (iblk m c 5 t)) (iblk m c 9 t) (iblk m c 11 t) (ix3 z k i)
      = ka (args m c) (row t i) ⟨k.val / 128, by omega⟩ ⟨k.val % 128, by omega⟩ := by
  rw [p42, q40 F hC]
end Cert.TokKernelIdeal.Value
end
end
-- ==== Proof.Tok.Kernel2.lean ====
/- The projection kernel's result arrays. -/
module
public import proofs.«01_k».proof.Proof.Tok.Tile
public import proofs.«01_k».proof.Proof.Gen.TokKernelIdeal.Value
public import Idealize.ShloMosaic.Lib.Pipeline.ReadBack
@[expose] public section
set_option maxRecDepth 16384
noncomputable section
open Idealize.ShloMosaic Idealize.ShloMosaic.TcCoe Idealize.SL.Sem Cert.Tok
open Idealize.ShloMosaic.Pipeline (Dat)
namespace Cert.Tok
/-- The positions of a tile's rows, and of the groups of the projection's columns. -/
def cell (t : Fin 16) (i : Fin 256) : Fin 4096 := ⟨t.val * 256 + i.val, by omega⟩
def at0 (k : Fin 512) : Fin 4616 := ⟨k.val, by omega⟩
def at512 (k : Fin 512) : Fin 4616 := ⟨512 + k.val, by omega⟩
def at1024 (k : Fin 512) : Fin 4616 := ⟨1024 + k.val, by omega⟩
def at1544 (k : Fin 1024) : Fin 4616 := ⟨1544 + k.val, by omega⟩
def at2568 (k : Fin 2048) : Fin 4616 := ⟨2568 + k.val, by omega⟩
/-- The slabs by their columns, and the forget gate in its padded row. -/
def qaAt (P : Args) (n : Fin 4096) (k : Fin 1024) : EReal := qa P n ⟨k.val / 128, by omega⟩ ⟨k.val % 128, by omega⟩
def kaAt (P : Args) (n : Fin 4096) (k : Fin 1024) : EReal := ka P n ⟨k.val / 128, by omega⟩ ⟨k.val % 128, by omega⟩
def vsAt (P : Args) (n : Fin 4096) (k : Fin 1024) : EReal := vs P n ⟨k.val / 128, by omega⟩ ⟨k.val % 128, by omega⟩
def flAt (P : Args) (n : Fin 4096) (k : Fin 128) : EReal := if hk : k.val < 8 then fl P n ⟨k.val, hk⟩ else 0
end Cert.Tok
namespace Cert.TokKernelIdeal.Value
open Cert.TokKernelIdeal Cert.TokKernelIdeal.Gen
variable {m : (ℓ : Loc nD τ sig) → Buf (Elt Ideal) ℓ} {c : Dev nD}

/-- The first tile begins from zero. -/
theorem before_zero (t : Fin cfg0.N) (h0 : t.val % 16 = 0) : Before m c t (k0_pay2 (F := Ideal)) := fun r => by
  have := lt16 t
  rw [p2 0 r]
  split
  · rw [show t.val * 256 = 0 by omega]; rfl
  · rfl

/-- What a tile leaves of the running sums. -/
theorem carry (F : (args m c).Finite) : ∀ (n : ℕ) (hn : n < cfg0.N) (r : Fin 128),
    (outsAt0 m c n hn).2.2.2.2.2.2.2.2.2.2.2 (ix2 (0 : Fin 1) r)
      = (if hr : r.val < 8 then cum (args m c) ⟨r.val, hr⟩ ((n + 1) * 256) else 0 : EReal)
  | 0, hn, r => by
    rw [outsAt0_A m c ⟨0, hn⟩ rfl]
    frame_out
    exact q9 F (before_zero ⟨0, hn⟩ rfl) r
  | n + 1, hn, r => by
    have h16 := lt16 ⟨n + 1, hn⟩
    have h0 : ¬ (⟨n + 1, hn⟩ : Fin cfg0.N).val % 16 = 0 := by dsimp only at h16 ⊢; omega
    rw [outsAt0_B m c ⟨n + 1, hn⟩ h0]
    frame_out
    refine q9 (t := ⟨n + 1, hn⟩) F (fun r => ?_) r
    rw [read_unread_whole]
    exact carry F n _ r
theorem before_prev (F : (args m c).Finite) (t : Fin cfg0.N) (h0 : ¬ t.val % 16 = 0) (hn : t.val - 1 < cfg0.N) :
    Before m c t (outsAt0 m c (t.val - 1) hn).2.2.2.2.2.2.2.2.2.2.2 := fun r => by
  rw [carry F (t.val - 1) hn r, show t.val - 1 + 1 = t.val by omega]

/-- The normed rows. -/
theorem res12 : (dats m 0 c).arrAt 12 cfg0.N = (fun z => Tok.h (args m c) (z 0) (z 1) : FVec Ideal S4096x1024 .bf16) := by
  refine (dats m 0 c).arrAt_eq_of_covers 12 _ (by decide +kernel) fun t hf z => ?_
  blk_simp
  rw [after0_12]
  have e : ∀ z, (((View.whole main_v135_0).slice (win0_12.rect t)).emb z) = ix2 (row t (z 0)) (z 1) := by
    intro z; unfold row; blk_ext [idx t]
  rw [e]
  by_cases h0 : t.val % 16 = 0
  · rw [outsAt0_A m c t h0]
    frame_out
    exact (congrArg _ (eq_ix2 z)).trans (q3 m c t (z 0) (z 1))
  · rw [outsAt0_B m c t h0]
    frame_out
    exact (congrArg _ (eq_ix2 z)).trans (q3 m c t (z 0) (z 1))
/-- The queries' slabs. -/
theorem res13 (F : (args m c).Finite) : (dats m 0 c).arrAt 13 cfg0.N = (fun z => qaAt (args m c) (z 0) (z 1) : FVec Ideal S4096x1024 .bf16) := by
  refine (dats m 0 c).arrAt_eq_of_covers 13 _ (by decide +kernel) fun t hf z => ?_
  blk_simp
  rw [after0_13]
  have e : ∀ z, (((View.whole main_v135_1).slice (win0_13.rect t)).emb z) = ix2 (row t (z 0)) (z 1) := by
    intro z; unfold row; blk_ext [idx t]
  rw [e]
  by_cases h0 : t.val % 16 = 0
  · rw [outsAt0_A m c t h0]
    frame_out
    exact (congrArg _ (eq_ix2 z)).trans (q24 F (before_zero t h0) (z 0) (z 1))
  · rw [outsAt0_B m c t h0]
    frame_out
    rw [read_unread_whole]
    exact (congrArg _ (eq_ix2 z)).trans (q24 F (before_prev F t h0 _) (z 0) (z 1))
/-- The keys' slabs. -/
theorem res14 (F : (args m c).Finite) : (dats m 0 c).arrAt 14 cfg0.N = (fun z => kaAt (args m c) (z 0) (z 1) : FVec Ideal S4096x1024 .bf16) := by
  refine (dats m 0 c).arrAt_eq_of_covers 14 _ (by decide +kernel) fun t hf z => ?_
  blk_simp
  rw [after0_14]
  have e : ∀ z, (((View.whole main_v135_2).slice (win0_14.rect t)).emb z) = ix2 (row t (z 0)) (z 1) := by
    intro z; unfold row; blk_ext [idx t]
  rw [e]
  by_cases h0 : t.val % 16 = 0
  · rw [outsAt0_A m c t h0]
    frame_out
    exact (congrArg _ (eq_ix2 z)).trans (q41 F (before_zero t h0) (z 0) (z 1))
  · rw [outsAt0_B m c t h0]
    frame_out
    rw [read_unread_whole]
    exact (congrArg _ (eq_ix2 z)).trans (q41 F (before_prev F t h0 _) (z 0) (z 1))
/-- The keys' slabs, transposed tile by tile. -/
theorem res15 (F : (args m c).Finite) : (dats m 0 c).arrAt 15 cfg0.N = (fun z => kaAt (args m c) (cell (z 0) (z 2)) (z 1) : FVec Ideal S16x1024x256 .bf16) := by
  refine (dats m 0 c).arrAt_eq_of_covers 15 _ (by decide +kernel) fun t hf z => ?_
  blk_simp
  rw [after0_15]
  have e : ∀ z, (((View.whole main_v135_3).slice (win0_15.rect t)).emb z) = ix3 (⟨t.val, lt16 t⟩ : Fin 16) (z 1) (z 2) := by
    intro z; blk_ext [idx t]
  rw [e]
  by_cases h0 : t.val % 16 = 0
  · rw [outsAt0_A m c t h0]
    frame_out
    exact (congrArg _ (eq_ix3 z)).trans (q42 F (before_zero t h0) (z 0) (z 1) (z 2))
  · rw [outsAt0_B m c t h0]
    frame_out
    rw [read_unread_whole]
    exact (congrArg _ (eq_ix3 z)).trans (q42 F (before_prev F t h0 _) (z 0) (z 1) (z 2))
/-- The values' slabs. -/
theorem res16 : (dats m 0 c).arrAt 16 cfg0.N = (fun z => vsAt (args m c) (z 0) (z 1) : FVec Ideal S4096x1024 .bf16) := by
  refine (dats m 0 c).arrAt_eq_of_covers 16 _ (by decide +kernel) fun t hf z => ?_
  blk_simp
  rw [after0_16]
  have e : ∀ z, (((View.whole main_v135_4).slice (win0_16.rect t)).emb z) = ix2 (row t (z 0)) (z 1) := by
    intro z; unfold row; blk_ext [idx t]
  rw [e]
  by_cases h0 : t.val % 16 = 0
  · rw [outsAt0_A m c t h0]
    frame_out
    exact (congrArg _ (eq_ix2 z)).trans (q50 m c t (z 0) (z 1))
  · rw [outsAt0_B m c t h0]
    frame_out
    exact (congrArg _ (eq_ix2 z)).trans (q50 m c t (z 0) (z 1))
/-- The values, transposed tile by tile. -/
theorem res17 : (dats m 0 c).arrAt 17 cfg0.N = (fun z => pr (args m c) (cell (z 0) (z 2)) (at1024 (z 1)) : FVec Ideal S16x512x256 .bf16) := by
  refine (dats m 0 c).arrAt_eq_of_covers 17 _ (by decide +kernel) fun t hf z => ?_
  blk_simp
  rw [after0_17]
  have e : ∀ z, (((View.whole main_v135_5).slice (win0_17.rect t)).emb z) = ix3 (⟨t.val, lt16 t⟩ : Fin 16) (z 1) (z 2) := by
    intro z; blk_ext [idx t]
  rw [e]
  by_cases h0 : t.val % 16 = 0
  · rw [outsAt0_A m c t h0]
    frame_out
    exact (congrArg _ (eq_ix3 z)).trans (q51 m c t (z 0) (z 1) (z 2))
  · rw [outsAt0_B m c t h0]
    frame_out
    exact (congrArg _ (eq_ix3 z)).trans (q51 m c t (z 0) (z 1) (z 2))
/-- The queries before their norm. -/
theorem res18 : (dats m 0 c).arrAt 18 cfg0.N = (fun z => pr (args m c) (z 0) (at0 (z 1)) : FVec Ideal S4096x512 .bf16) := by
  refine (dats m 0 c).arrAt_eq_of_covers 18 _ (by decide +kernel) fun t hf z => ?_
  blk_simp
  rw [after0_18]
  have e : ∀ z, (((View.whole main_v135_6).slice (win0_18.rect t)).emb z) = ix2 (row t (z 0)) (z 1) := by
    intro z; unfold row; blk_ext [idx t]
  rw [e]
  by_cases h0 : t.val % 16 = 0
  · rw [outsAt0_A m c t h0]
    frame_out
    exact (congrArg _ (eq_ix2 z)).trans (q16 m c t (z 0) (z 1))
  · rw [outsAt0_B m c t h0]
    frame_out
    exact (congrArg _ (eq_ix2 z)).trans (q16 m c t (z 0) (z 1))
/-- The keys before their norm. -/
theorem res19 : (dats m 0 c).arrAt 19 cfg0.N = (fun z => pr (args m c) (z 0) (at512 (z 1)) : FVec Ideal S4096x512 .bf16) := by
  refine (dats m 0 c).arrAt_eq_of_covers 19 _ (by decide +kernel) fun t hf z => ?_
  blk_simp
  rw [after0_19]
  have e : ∀ z, (((View.whole main_v135_7).slice (win0_19.rect t)).emb z) = ix2 (row t (z 0)) (z 1) := by
    intro z; unfold row; blk_ext [idx t]
  rw [e]
  by_cases h0 : t.val % 16 = 0
  · rw [outsAt0_A m c t h0]
    frame_out
    exact (congrArg _ (eq_ix2 z)).trans (q26 m c t (z 0) (z 1))
  · rw [outsAt0_B m c t h0]
    frame_out
    exact (congrArg _ (eq_ix2 z)).trans (q26 m c t (z 0) (z 1))
/-- The forget gate before its logistic function. -/
theorem res20 : (dats m 0 c).arrAt 20 cfg0.N = (fun z => flAt (args m c) (z 0) (z 1) : FVec Ideal S4096x128 .f32) := by
  refine (dats m 0 c).arrAt_eq_of_covers 20 _ (by decide +kernel) fun t hf z => ?_
  blk_simp
  rw [after0_20]
  have e : ∀ z, (((View.whole main_v135_8).slice (win0_20.rect t)).emb z) = ix2 (row t (z 0)) (z 1) := by
    intro z; unfold row; blk_ext [idx t]
  rw [e]
  by_cases h0 : t.val % 16 = 0
  · rw [outsAt0_A m c t h0]
    frame_out
    exact (congrArg _ (eq_ix2 z)).trans (q4 m c t (z 0) (z 1))
  · rw [outsAt0_B m c t h0]
    frame_out
    exact (congrArg _ (eq_ix2 z)).trans (q4 m c t (z 0) (z 1))
/-- The gating unit's projection. -/
theorem res21 : (dats m 0 c).arrAt 21 cfg0.N = (fun z => pr (args m c) (z 0) (at1544 (z 1)) : FVec Ideal S4096x1024 .bf16) := by
  refine (dats m 0 c).arrAt_eq_of_covers 21 _ (by decide +kernel) fun t hf z => ?_
  blk_simp
  rw [after0_21]
  have e : ∀ z, (((View.whole main_v135_9).slice (win0_21.rect t)).emb z) = ix2 (row t (z 0)) (z 1) := by
    intro z; unfold row; blk_ext [idx t]
  rw [e]
  by_cases h0 : t.val % 16 = 0
  · rw [outsAt0_A m c t h0]
    frame_out
    exact (congrArg _ (eq_ix2 z)).trans (q52 m c t (z 0) (z 1))
  · rw [outsAt0_B m c t h0]
    frame_out
    exact (congrArg _ (eq_ix2 z)).trans (q52 m c t (z 0) (z 1))
/-- The merge gates' projection. -/
theorem res22 : (dats m 0 c).arrAt 22 cfg0.N = (fun z => pr (args m c) (z 0) (at2568 (z 1)) : FVec Ideal S4096x2048 .bf16) := by
  refine (dats m 0 c).arrAt_eq_of_covers 22 _ (by decide +kernel) fun t hf z => ?_
  blk_simp
  rw [after0_22]
  have e : ∀ z, (((View.whole main_v135_10).slice (win0_22.rect t)).emb z) = ix2 (row t (z 0)) (z 1) := by
    intro z; unfold row; blk_ext [idx t]
  rw [e]
  by_cases h0 : t.val % 16 = 0
  · rw [outsAt0_A m c t h0]
    frame_out
    exact (congrArg _ (eq_ix2 z)).trans (q53 m c t (z 0) (z 1))
  · rw [outsAt0_B m c t h0]
    frame_out
    exact (congrArg _ (eq_ix2 z)).trans (q53 m c t (z 0) (z 1))
end Cert.TokKernelIdeal.Value
end
end
-- ==== Proof.Tok.Reference.lean ====
/- The reference of the input projection computes the model, entry by entry. -/
module
public import proofs.«01_k».proof.Proof.Tok.Model
public import proofs.«01_k».proof.Proof.Gen.TokReferenceIdeal.Read
public import proofs.«01_k».proof.Proof.Gen.TokReferenceIdeal.Run
public import proofs.«01_k».proof.Defs
@[expose] public section
set_option maxRecDepth 16384
noncomputable section
open Idealize.ShloMosaic Idealize.ShloMosaic.TcCoe Idealize.SL.Sem Cert.Tok
namespace Cert.TokReferenceIdeal.Value
open Cert.TokReferenceIdeal Cert.TokReferenceIdeal.Gen Cert.TokReferenceIdeal.Read

variable (x0 : FVec Ideal S4096x1024 .f32) (x1 : FVec Ideal S1x1024 .f32) (x2 : FVec Ideal S1024x4616 .f32) (x3 : FVec Ideal S1x8 .f32)
  (x4 x5 : FVec Ideal S1x64 .f32)

/-- The arguments' entries. -/
def args : Args where
  x i k := x0 (ix2 i k)
  g k := x1 (ix2 0 k)
  w i k := x2 (ix2 i k)
  bf k := x3 (ix2 0 k)
  gq k := x4 (ix2 0 k)
  gk k := x5 (ix2 0 k)

theorem v11 (i : Fin 4096) (k : Fin 1024) : val_main_v11 (F := Ideal) x0 x1 (ix2 i k) = h (args x0 x1 x2 x3 x4 x5) i k := by
  pointwise [val_main_v11, val_main_v9, val_main_v8, val_main_v7, val_main_v6, val_main_v4, val_main_v2, val_main_v1, val_main_v0, val_main_cst, val_main_v3, val_main_cst_0, val_main_v5, val_main_cst_1, val_main_v10]
  rfl
theorem v12 (i : Fin 4096) (k : Fin 4616) : val_main_v12 (F := Ideal) x0 x1 x2 (ix2 i k) = pr (args x0 x1 x2 x3 x4 x5) i k := by
  pointwise [val_main_v12, v11 x0 x1 x2 x3 x4 x5]
  rfl
theorem v14 (i : Fin 4096) (p : Fin 8) (l : Fin 64) : val_main_v14 (F := Ideal) x0 x1 x2 (ix3 i p l) = pr (args x0 x1 x2 x3 x4 x5) i ⟨p.val * 64 + l.val, by omega⟩ := by
  pointwise [val_main_v14, val_main_v13, v12 x0 x1 x2 x3 x4 x5]

theorem v29 (i : Fin 4096) (p : Fin 8) (l : Fin 64) : val_main_v29 (F := Ideal) x0 x1 x2 (ix3 i p l) = pr (args x0 x1 x2 x3 x4 x5) i ⟨512 + (p.val * 64 + l.val), by omega⟩ := by
  pointwise [val_main_v29, val_main_v28, v12 x0 x1 x2 x3 x4 x5]

theorem v44 (i : Fin 4096) (p : Fin 8) (l : Fin 64) : val_main_v44 (F := Ideal) x0 x1 x2 (ix3 i p l) = pr (args x0 x1 x2 x3 x4 x5) i ⟨1024 + (p.val * 64 + l.val), by omega⟩ := by
  pointwise [val_main_v44, val_main_v43, v12 x0 x1 x2 x3 x4 x5]

theorem v27 (i : Fin 4096) (p : Fin 8) (l : Fin 64) : val_main_v27 (F := Ideal) x0 x1 x2 x4 (ix3 i p l) = qn (args x0 x1 x2 x3 x4 x5) i p l := by
  pointwise [val_main_v27, val_main_v24, val_main_v23, val_main_v22, val_main_v21, val_main_v19, val_main_v17, val_main_v16, val_main_v15, val_main_cst_2, val_main_v18, val_main_cst_3, val_main_v20, val_main_cst_4, val_main_v26, val_main_v25, v14 x0 x1 x2 x3 x4 x5]
  rfl
theorem v42 (i : Fin 4096) (p : Fin 8) (l : Fin 64) : val_main_v42 (F := Ideal) x0 x1 x2 x5 (ix3 i p l) = kn (args x0 x1 x2 x3 x4 x5) i p l := by
  pointwise [val_main_v42, val_main_v39, val_main_v38, val_main_v37, val_main_v36, val_main_v34, val_main_v32, val_main_v31, val_main_v30, val_main_cst_5, val_main_v33, val_main_cst_6, val_main_v35, val_main_cst_7, val_main_v41, val_main_v40, v29 x0 x1 x2 x3 x4 x5]
  rfl
theorem v47 (i : Fin 4096) (p : Fin 8) : val_main_v47 (F := Ideal) x0 x1 x2 x3 (ix2 i p) = fl (args x0 x1 x2 x3 x4 x5) i p := by
  pointwise [val_main_v47, val_main_v45, val_main_v46, v12 x0 x1 x2 x3 x4 x5]
  rfl
theorem v48 (F : (args x0 x1 x2 x3 x4 x5).Finite) (i : Fin 4096) (p : Fin 8) : val_main_v48 (F := Ideal) x0 x1 x2 x3 (ix2 i p) = lsig (fl (args x0 x1 x2 x3 x4 x5) i p) := by
  pointwise [val_main_v48, val_main_call0_v1, val_main_call0_call0_v4, val_main_call0_call0_v3, val_main_call0_v0, val_main_call0_call0_v2, val_main_call0_call0_cst, val_main_call0_call0_v6, val_main_call0_call0_v5, val_main_call0_call0_v11, val_main_call0_call0_v1, val_main_call0_call0_v0, val_main_call0_call0_v10, val_main_call0_call0_v9, val_main_call0_call0_v8, val_main_call0_call0_v7, v47 x0 x1 x2 x3 x4 x5]
  rw [if_neg (by simp)]
  exact lsig_ref (fl_real F i p)
theorem v56 (i s : Fin 4096) : val_main_v56 (F := Ideal)  (ix2 i s) = if s.val ≤ i.val then 1 else 0 := by
  pointwise [val_main_v56, val_main_v55, val_main_v53, val_main_v50, val_main_v49, val_main_v54, val_main_v52, val_main_v51]
  exact mask _ s.isLt i.isLt
theorem v57 (F : (args x0 x1 x2 x3 x4 x5).Finite) (i : Fin 4096) (p : Fin 8) : val_main_v57 (F := Ideal) x0 x1 x2 x3 (ix2 i p) = cum (args x0 x1 x2 x3 x4 x5) p (i.val + 1) := by
  pointwise [val_main_v57, val_main_v56, val_main_v55, val_main_v53, val_main_v50, val_main_v49, val_main_v54, val_main_v52, val_main_v51, v48 x0 x1 x2 x3 x4 x5 F]
  exact (Finset.sum_congr rfl fun s _ => by rw [mask _ s.isLt i.isLt]).trans (cum_mask p i)
theorem v60 (F : (args x0 x1 x2 x3 x4 x5).Finite) (i : Fin 4096) (p : Fin 8) (z : Fin 1) : val_main_v60 (F := Ideal) x0 x1 x2 x3 (ix3 i p z) = d2 (args x0 x1 x2 x3 x4 x5) i p := by
  pointwise [val_main_v60, val_main_v59, val_main_v58, val_main_cst_8, v57 x0 x1 x2 x3 x4 x5 F]
  rfl
theorem v68 (F : (args x0 x1 x2 x3 x4 x5).Finite) (i : Fin 4096) (p : Fin 8) (l : Fin 128) : val_main_v68 (F := Ideal) x0 x1 x2 x3 x4 (ix3 i p l) = qa (args x0 x1 x2 x3 x4 x5) i p l := by
  pointwise [val_main_v68, val_main_v64, val_main_v62, val_main_v61, val_main_cst_9, val_main_v63, val_main_cst_10, val_main_v65, val_main_cst_11, val_main_v66, val_main_cst_12, val_main_v67, val_main_cst_13, v27 x0 x1 x2 x3 x4 x5, v60 x0 x1 x2 x3 x4 x5 F]
  unfold qa
  have hl := l.isLt
  by_cases n1 : l.val < 64
  · rw [dif_pos n1, dif_pos n1]
  rw [dif_neg n1, dif_neg n1]
  by_cases n2 : l.val = 64
  · rw [dif_pos (by omega), if_pos n2]
  rw [dif_neg (by omega), if_neg n2]
  by_cases n3 : l.val < 67
  · rw [dif_pos (by omega), if_neg (by omega)]
  rw [dif_neg (by omega)]
  by_cases n4 : l.val < 70
  · rw [dif_pos (by omega), if_pos (by omega)]
  · rw [dif_neg (by omega), if_neg (by omega)]
theorem v73 (F : (args x0 x1 x2 x3 x4 x5).Finite) (i : Fin 4096) (p : Fin 8) (l : Fin 128) : val_main_v73 (F := Ideal) x0 x1 x2 x3 x5 (ix3 i p l) = ka (args x0 x1 x2 x3 x4 x5) i p l := by
  pointwise [val_main_v73, val_main_v70, val_main_cst_14, val_main_v71, val_main_v72, val_main_cst_15, v42 x0 x1 x2 x3 x4 x5, v60 x0 x1 x2 x3 x4 x5 F]
  unfold ka
  have hl := l.isLt
  by_cases n1 : l.val < 64
  · rw [dif_pos n1, dif_pos n1]
  rw [dif_neg n1, dif_neg n1]
  by_cases n2 : l.val < 67
  · rw [dif_pos (by omega), if_pos n2]
  rw [dif_neg (by omega), if_neg n2]
  by_cases n3 : l.val = 67
  · rw [dif_pos (by omega), if_pos n3]
  · rw [dif_neg (by omega), if_neg n3]
theorem v76 (i : Fin 4096) (p : Fin 8) (l : Fin 128) : val_main_v76 (F := Ideal) x0 x1 x2 (ix3 i p l) = vs (args x0 x1 x2 x3 x4 x5) i p l := by
  pointwise [val_main_v76, val_main_v75, val_main_cst_16, v44 x0 x1 x2 x3 x4 x5]
  rfl
theorem v78 (i : Fin 4096) (k : Fin 1024) : val_main_v78 (F := Ideal) x0 x1 (ix2 i k) = h (args x0 x1 x2 x3 x4 x5) i k := by
  pointwise [val_main_v78, v11 x0 x1 x2 x3 x4 x5]

theorem v79 (F : (args x0 x1 x2 x3 x4 x5).Finite) (i : Fin 4096) (k : Fin 1024) : val_main_v79 (F := Ideal) x0 x1 x2 x3 x4 (ix2 i k) = qa (args x0 x1 x2 x3 x4 x5) i ⟨k.val / 128, by omega⟩ ⟨k.val % 128, by omega⟩ := by
  pointwise [val_main_v79, val_main_v69, v68 x0 x1 x2 x3 x4 x5 F]

theorem v80 (F : (args x0 x1 x2 x3 x4 x5).Finite) (i : Fin 4096) (k : Fin 1024) : val_main_v80 (F := Ideal) x0 x1 x2 x3 x5 (ix2 i k) = ka (args x0 x1 x2 x3 x4 x5) i ⟨k.val / 128, by omega⟩ ⟨k.val % 128, by omega⟩ := by
  pointwise [val_main_v80, val_main_v74, v73 x0 x1 x2 x3 x4 x5 F]

theorem v83 (F : (args x0 x1 x2 x3 x4 x5).Finite) (t : Fin 16) (k : Fin 1024) (i : Fin 256) : val_main_v83 (F := Ideal) x0 x1 x2 x3 x5 (ix3 t k i) = ka (args x0 x1 x2 x3 x4 x5) ⟨t.val * 256 + i.val, by omega⟩ ⟨k.val / 128, by omega⟩ ⟨k.val % 128, by omega⟩ := by
  pointwise [val_main_v83, val_main_v82, val_main_v81, val_main_v74, v73 x0 x1 x2 x3 x4 x5 F]

theorem v84 (i : Fin 4096) (k : Fin 1024) : val_main_v84 (F := Ideal) x0 x1 x2 (ix2 i k) = vs (args x0 x1 x2 x3 x4 x5) i ⟨k.val / 128, by omega⟩ ⟨k.val % 128, by omega⟩ := by
  pointwise [val_main_v84, val_main_v77, v76 x0 x1 x2 x3 x4 x5]

theorem v88 (t : Fin 16) (k : Fin 512) (i : Fin 256) : val_main_v88 (F := Ideal) x0 x1 x2 (ix3 t k i) = pr (args x0 x1 x2 x3 x4 x5) ⟨t.val * 256 + i.val, by omega⟩ ⟨1024 + k.val, by omega⟩ := by
  pointwise [val_main_v88, val_main_v87, val_main_v86, val_main_v85, v12 x0 x1 x2 x3 x4 x5]

theorem v90 (i : Fin 4096) (k : Fin 512) : val_main_v90 (F := Ideal) x0 x1 x2 (ix2 i k) = pr (args x0 x1 x2 x3 x4 x5) i ⟨k.val, by omega⟩ := by
  pointwise [val_main_v90, val_main_v89, v12 x0 x1 x2 x3 x4 x5]

theorem v92 (i : Fin 4096) (k : Fin 512) : val_main_v92 (F := Ideal) x0 x1 x2 (ix2 i k) = pr (args x0 x1 x2 x3 x4 x5) i ⟨512 + k.val, by omega⟩ := by
  pointwise [val_main_v92, val_main_v91, v12 x0 x1 x2 x3 x4 x5]

theorem v93 (i : Fin 4096) (k : Fin 128) : val_main_v93 (F := Ideal) x0 x1 x2 x3 (ix2 i k) = if hk : k.val < 8 then fl (args x0 x1 x2 x3 x4 x5) i ⟨k.val, hk⟩ else 0 := by
  pointwise [val_main_v93, val_main_call1_v0, val_main_c, v47 x0 x1 x2 x3 x4 x5]
  have e : FloatOps.sitofp (F := Ideal) FTy.f32 0#32 = 0 := by
    show (((0#32 : BitVec 32).toInt : ℝ) : EReal) = 0
    simp
  rw [e]
theorem v95 (i : Fin 4096) (k : Fin 1024) : val_main_v95 (F := Ideal) x0 x1 x2 (ix2 i k) = pr (args x0 x1 x2 x3 x4 x5) i ⟨1544 + k.val, by omega⟩ := by
  pointwise [val_main_v95, val_main_v94, v12 x0 x1 x2 x3 x4 x5]

theorem v97 (i : Fin 4096) (k : Fin 2048) : val_main_v97 (F := Ideal) x0 x1 x2 (ix2 i k) = pr (args x0 x1 x2 x3 x4 x5) i ⟨2568 + k.val, by omega⟩ := by
  pointwise [val_main_v97, val_main_v96, v12 x0 x1 x2 x3 x4 x5]

end Cert.TokReferenceIdeal.Value
end
end
-- ==== Proof.Tok.Pre.lean ====
/- The precondition read back: the norm's gains, the forget gate's columns of the weights and its bias are finite. -/
module
public import proofs.«01_k».proof.Proof.Gen.Pre_tokens_finite
public import proofs.«01_k».proof.Proof.Tok.Model
public import Idealize.ShloMosaic.Lib.ReduceAll
public import Idealize.ShloMosaic.Lib.Pointwise
public import Idealize.ShloMosaic.Lib.IdealHost
@[expose] public section
noncomputable section
open Idealize.ShloMosaic Idealize.SL.Sem Cert.Tok
namespace Cert.Pre_tokens_finite.Value
open Cert.Pre_tokens_finite Cert.Pre_tokens_finite.Gen

instance : Subsingleton S_.Idx := ⟨fun a b => funext fun d => d.elim0⟩

/-- The literal of an infinite float is the top element. -/
theorem lit_inf : Ideal.ofBits .f32 0x7F800000#32 = (⊤ : EReal) := by
  simp [Ideal.ofBits, Ideal.ieee]

/-- A value whose magnitude is below the top element is a real number. -/
theorem real_of_abs_lt (a : EReal) (h : max a (-a) < ⊤) : IsReal a := by
  induction a using EReal.rec with
  | bot => simp at h
  | coe r => exact ⟨r, rfl⟩
  | top => simp at h

/-- An array whose elements all pass the comparison of their magnitude with infinity holds real numbers. -/
theorem reals {s : Shape} (X : FVec Ideal s .f32) (hb : S_.BroadcastsInDim s (![] : Fin 0 → Fin s.rank)) (i : s.Idx)
    (h : cmpf .olt (Host.absf X) (broadcastInDim s ![] hb (constant (F := Ideal) S_ .f32 0x7F800000#32)) i = 1#1) : IsReal (X i) := by
  apply real_of_abs_lt
  pointwise at h
  rw [lit_inf] at h
  by_contra hn
  rw [decide_eq_false (show ¬ (FloatOps.absf (X i) < (⊤ : EReal)) from hn)] at h
  exact absurd h (by decide)

/-- What the precondition says of the arguments. -/
theorem all_real (A0 : FVec Ideal S4096x1024 .f32) (A1 : FVec Ideal S1x1024 .f32) (A2 : FVec Ideal S1024x4616 .f32) (A3 : FVec Ideal S1x8 .f32)
    (A4 A5 : FVec Ideal S1x64 .f32) (h : Cert.Pre_tokens_finite.fn (F := Ideal) A0 A1 A2 A3 A4 A5 = fun _ => 1#1) :
    (∀ i, IsReal (A1 i)) ∧ (∀ (i : Fin 1024) (p : Fin 8), IsReal (A2 (ix2 i ⟨1536 + p.val, by omega⟩))) ∧ (∀ i, IsReal (A3 i)) := by
  have e := congrFun h (fun d => d.elim0)
  simp only [fn] at e
  obtain ⟨e, e2⟩ := IntOp.andi_eq_one.1 e
  obtain ⟨e0, e1⟩ := IntOp.andi_eq_one.1 e
  refine ⟨fun i => reals A1 _ i (Host.reduce_andi_all _ _ _ _ _ e0 i), fun i p => ?_, fun i => reals A3 _ i (Host.reduce_andi_all _ _ _ _ _ e2 i)⟩
  have hr := reals _ _ (ix2 i p) (Host.reduce_andi_all _ _ _ _ _ e1 (ix2 i p))
  pointwise at hr
  exact hr

end Cert.Pre_tokens_finite.Value
end
end
-- ==== Proof.Tok.Main.lean ====
/- The two programs of the input projection return equal results where the forget gate's arguments are finite. -/
module
public import proofs.«01_k».proof.Proof.Tok.Kernel2
public import proofs.«01_k».proof.Proof.Tok.Reference
public import proofs.«01_k».proof.Proof.Tok.Pre
public import proofs.«01_k».proof.Proof.Gen.TokKernelIdeal.Value
public import proofs.«01_k».proof.Proof.Gen.TokReferenceIdeal.Run
public import proofs.«01_k».proof.Defs
@[expose] public section
set_option maxRecDepth 16384
noncomputable section
open Idealize.ShloMosaic Idealize.ShloMosaic.TcCoe Idealize.SL.Sem
namespace Cert.Tok

/-- The reference keeps its arguments and ends with every counter at zero. -/
theorem frame : Cert.quiescent_TokReferenceIdeal := fun m ρ _ => (θ_run Cert.TokReferenceIdeal.defs _ _).mono
    (fun r h => ⟨fun c => (h c).2.2.2.2.2.2.2.2.2.2.2, sem_eq_zero_of_no_sems (by decide) r.2⟩) (Cert.TokReferenceIdeal.Value.run (F := Ideal) m ρ)

end Cert.Tok
namespace Cert.TokReferenceIdeal.Value
open Cert.TokReferenceIdeal Cert.TokReferenceIdeal.Gen Cert.TokReferenceIdeal.Read Cert.Tok
variable (x0 : FVec Ideal S4096x1024 .f32) (x1 : FVec Ideal S1x1024 .f32) (x2 : FVec Ideal S1024x4616 .f32) (x3 : FVec Ideal S1x8 .f32)
  (x4 x5 : FVec Ideal S1x64 .f32)

theorem w78 : val_main_v78 (F := Ideal) x0 x1 = (fun z => Tok.h (args x0 x1 x2 x3 x4 x5) (z 0) (z 1) : FVec Ideal S4096x1024 .bf16) :=
  funext fun z => (congrArg _ (eq_ix2 z)).trans (v78 x0 x1 x2 x3 x4 x5 (z 0) (z 1))
theorem w79 (F : (args x0 x1 x2 x3 x4 x5).Finite) : val_main_v79 (F := Ideal) x0 x1 x2 x3 x4 = (fun z => qaAt (args x0 x1 x2 x3 x4 x5) (z 0) (z 1) : FVec Ideal S4096x1024 .bf16) :=
  funext fun z => (congrArg _ (eq_ix2 z)).trans (v79 x0 x1 x2 x3 x4 x5 F (z 0) (z 1))
theorem w80 (F : (args x0 x1 x2 x3 x4 x5).Finite) : val_main_v80 (F := Ideal) x0 x1 x2 x3 x5 = (fun z => kaAt (args x0 x1 x2 x3 x4 x5) (z 0) (z 1) : FVec Ideal S4096x1024 .bf16) :=
  funext fun z => (congrArg _ (eq_ix2 z)).trans (v80 x0 x1 x2 x3 x4 x5 F (z 0) (z 1))
theorem w83 (F : (args x0 x1 x2 x3 x4 x5).Finite) : val_main_v83 (F := Ideal) x0 x1 x2 x3 x5 = (fun z => kaAt (args x0 x1 x2 x3 x4 x5) (cell (z 0) (z 2)) (z 1) : FVec Ideal S16x1024x256 .bf16) :=
  funext fun z => (congrArg _ (eq_ix3 z)).trans (v83 x0 x1 x2 x3 x4 x5 F (z 0) (z 1) (z 2))
theorem w84 : val_main_v84 (F := Ideal) x0 x1 x2 = (fun z => vsAt (args x0 x1 x2 x3 x4 x5) (z 0) (z 1) : FVec Ideal S4096x1024 .bf16) :=
  funext fun z => (congrArg _ (eq_ix2 z)).trans (v84 x0 x1 x2 x3 x4 x5 (z 0) (z 1))
theorem w88 : val_main_v88 (F := Ideal) x0 x1 x2 = (fun z => pr (args x0 x1 x2 x3 x4 x5) (cell (z 0) (z 2)) (at1024 (z 1)) : FVec Ideal S16x512x256 .bf16) :=
  funext fun z => (congrArg _ (eq_ix3 z)).trans (v88 x0 x1 x2 x3 x4 x5 (z 0) (z 1) (z 2))
theorem w90 : val_main_v90 (F := Ideal) x0 x1 x2 = (fun z => pr (args x0 x1 x2 x3 x4 x5) (z 0) (at0 (z 1)) : FVec Ideal S4096x512 .bf16) :=
  funext fun z => (congrArg _ (eq_ix2 z)).trans (v90 x0 x1 x2 x3 x4 x5 (z 0) (z 1))
theorem w92 : val_main_v92 (F := Ideal) x0 x1 x2 = (fun z => pr (args x0 x1 x2 x3 x4 x5) (z 0) (at512 (z 1)) : FVec Ideal S4096x512 .bf16) :=
  funext fun z => (congrArg _ (eq_ix2 z)).trans (v92 x0 x1 x2 x3 x4 x5 (z 0) (z 1))
theorem w93 : val_main_v93 (F := Ideal) x0 x1 x2 x3 = (fun z => flAt (args x0 x1 x2 x3 x4 x5) (z 0) (z 1) : FVec Ideal S4096x128 .f32) :=
  funext fun z => (congrArg _ (eq_ix2 z)).trans (v93 x0 x1 x2 x3 x4 x5 (z 0) (z 1))
theorem w95 : val_main_v95 (F := Ideal) x0 x1 x2 = (fun z => pr (args x0 x1 x2 x3 x4 x5) (z 0) (at1544 (z 1)) : FVec Ideal S4096x1024 .bf16) :=
  funext fun z => (congrArg _ (eq_ix2 z)).trans (v95 x0 x1 x2 x3 x4 x5 (z 0) (z 1))
theorem w97 : val_main_v97 (F := Ideal) x0 x1 x2 = (fun z => pr (args x0 x1 x2 x3 x4 x5) (z 0) (at2568 (z 1)) : FVec Ideal S4096x2048 .bf16) :=
  funext fun z => (congrArg _ (eq_ix2 z)).trans (v97 x0 x1 x2 x3 x4 x5 (z 0) (z 1))
end Cert.TokReferenceIdeal.Value
namespace Cert.Tok

set_option maxHeartbeats 1000000 in
/-- Both programs run to the end, return equal results and leave their arguments unchanged. -/
theorem algebraic : Cert.algebraic_TokKernelIdeal_TokReferenceIdeal_pre_tokens_finite := by
  intro m g m' g' hp hag
  have hF : ∀ c, (Cert.TokKernelIdeal.Value.args m c).Finite := fun c => by
    obtain ⟨h1, h2, h3⟩ := Cert.Pre_tokens_finite.Value.all_real _ _ _ _ _ _ (hp c)
    exact ⟨fun k => h1 _, fun i p => h2 i p, fun k => h3 _⟩
  refine ⟨_, _, _, _, _, _, _, _, _, _, _, Cert.TokKernelIdeal.Value.run_blocks m g, ?_⟩
  refine (θ_run _ _ _).mono (fun r h c => ?_) (Cert.TokReferenceIdeal.Value.run m' g')
  have h := h c
  obtain ⟨e0, e1, e2, e3, e4, e5⟩ := hag c
  refine ⟨h.1.trans (Eq.trans ?_ (Cert.TokKernelIdeal.Value.res12).symm),
    h.2.1.trans (Eq.trans ?_ (Cert.TokKernelIdeal.Value.res13 (hF c)).symm),
    h.2.2.1.trans (Eq.trans ?_ (Cert.TokKernelIdeal.Value.res14 (hF c)).symm),
    h.2.2.2.1.trans (Eq.trans ?_ (Cert.TokKernelIdeal.Value.res15 (hF c)).symm),
    h.2.2.2.2.1.trans (Eq.trans ?_ (Cert.TokKernelIdeal.Value.res16).symm),
    h.2.2.2.2.2.1.trans (Eq.trans ?_ (Cert.TokKernelIdeal.Value.res17).symm),
    h.2.2.2.2.2.2.1.trans (Eq.trans ?_ (Cert.TokKernelIdeal.Value.res18).symm),
    h.2.2.2.2.2.2.2.1.trans (Eq.trans ?_ (Cert.TokKernelIdeal.Value.res19).symm),
    h.2.2.2.2.2.2.2.2.1.trans (Eq.trans ?_ (Cert.TokKernelIdeal.Value.res20).symm),
    h.2.2.2.2.2.2.2.2.2.1.trans (Eq.trans ?_ (Cert.TokKernelIdeal.Value.res21).symm),
    h.2.2.2.2.2.2.2.2.2.2.1.trans (Eq.trans ?_ (Cert.TokKernelIdeal.Value.res22).symm), h.2.2.2.2.2.2.2.2.2.2.2⟩
  · refine (Cert.TokReferenceIdeal.Read.val_main_v78_eq _ _).trans ?_
    rw [e0, e1]
    exact Cert.TokReferenceIdeal.Value.w78 (m ((c : Thread Cert.TokKernelIdeal.nD Cert.TokKernelIdeal.τ).loc Cert.TokKernelIdeal.main_arg0)) (m ((c : Thread Cert.TokKernelIdeal.nD Cert.TokKernelIdeal.τ).loc Cert.TokKernelIdeal.main_arg1)) (m ((c : Thread Cert.TokKernelIdeal.nD Cert.TokKernelIdeal.τ).loc Cert.TokKernelIdeal.main_arg2)) (m ((c : Thread Cert.TokKernelIdeal.nD Cert.TokKernelIdeal.τ).loc Cert.TokKernelIdeal.main_arg3)) (m ((c : Thread Cert.TokKernelIdeal.nD Cert.TokKernelIdeal.τ).loc Cert.TokKernelIdeal.main_arg4)) (m ((c : Thread Cert.TokKernelIdeal.nD Cert.TokKernelIdeal.τ).loc Cert.TokKernelIdeal.main_arg5))
  · refine (Cert.TokReferenceIdeal.Read.val_main_v79_eq _ _).trans ?_
    rw [e0, e1, e2, e3, e4]
    exact Cert.TokReferenceIdeal.Value.w79 (m ((c : Thread Cert.TokKernelIdeal.nD Cert.TokKernelIdeal.τ).loc Cert.TokKernelIdeal.main_arg0)) (m ((c : Thread Cert.TokKernelIdeal.nD Cert.TokKernelIdeal.τ).loc Cert.TokKernelIdeal.main_arg1)) (m ((c : Thread Cert.TokKernelIdeal.nD Cert.TokKernelIdeal.τ).loc Cert.TokKernelIdeal.main_arg2)) (m ((c : Thread Cert.TokKernelIdeal.nD Cert.TokKernelIdeal.τ).loc Cert.TokKernelIdeal.main_arg3)) (m ((c : Thread Cert.TokKernelIdeal.nD Cert.TokKernelIdeal.τ).loc Cert.TokKernelIdeal.main_arg4)) (m ((c : Thread Cert.TokKernelIdeal.nD Cert.TokKernelIdeal.τ).loc Cert.TokKernelIdeal.main_arg5)) (hF c)
  · refine (Cert.TokReferenceIdeal.Read.val_main_v80_eq _ _).trans ?_
    rw [e0, e1, e2, e3, e5]
    exact Cert.TokReferenceIdeal.Value.w80 (m ((c : Thread Cert.TokKernelIdeal.nD Cert.TokKernelIdeal.τ).loc Cert.TokKernelIdeal.main_arg0)) (m ((c : Thread Cert.TokKernelIdeal.nD Cert.TokKernelIdeal.τ).loc Cert.TokKernelIdeal.main_arg1)) (m ((c : Thread Cert.TokKernelIdeal.nD Cert.TokKernelIdeal.τ).loc Cert.TokKernelIdeal.main_arg2)) (m ((c : Thread Cert.TokKernelIdeal.nD Cert.TokKernelIdeal.τ).loc Cert.TokKernelIdeal.main_arg3)) (m ((c : Thread Cert.TokKernelIdeal.nD Cert.TokKernelIdeal.τ).loc Cert.TokKernelIdeal.main_arg4)) (m ((c : Thread Cert.TokKernelIdeal.nD Cert.TokKernelIdeal.τ).loc Cert.TokKernelIdeal.main_arg5)) (hF c)
  · refine (Cert.TokReferenceIdeal.Read.val_main_v83_eq _ _).trans ?_
    rw [e0, e1, e2, e3, e5]
    exact Cert.TokReferenceIdeal.Value.w83 (m ((c : Thread Cert.TokKernelIdeal.nD Cert.TokKernelIdeal.τ).loc Cert.TokKernelIdeal.main_arg0)) (m ((c : Thread Cert.TokKernelIdeal.nD Cert.TokKernelIdeal.τ).loc Cert.TokKernelIdeal.main_arg1)) (m ((c : Thread Cert.TokKernelIdeal.nD Cert.TokKernelIdeal.τ).loc Cert.TokKernelIdeal.main_arg2)) (m ((c : Thread Cert.TokKernelIdeal.nD Cert.TokKernelIdeal.τ).loc Cert.TokKernelIdeal.main_arg3)) (m ((c : Thread Cert.TokKernelIdeal.nD Cert.TokKernelIdeal.τ).loc Cert.TokKernelIdeal.main_arg4)) (m ((c : Thread Cert.TokKernelIdeal.nD Cert.TokKernelIdeal.τ).loc Cert.TokKernelIdeal.main_arg5)) (hF c)
  · refine (Cert.TokReferenceIdeal.Read.val_main_v84_eq _ _ _).trans ?_
    rw [e0, e1, e2]
    exact Cert.TokReferenceIdeal.Value.w84 (m ((c : Thread Cert.TokKernelIdeal.nD Cert.TokKernelIdeal.τ).loc Cert.TokKernelIdeal.main_arg0)) (m ((c : Thread Cert.TokKernelIdeal.nD Cert.TokKernelIdeal.τ).loc Cert.TokKernelIdeal.main_arg1)) (m ((c : Thread Cert.TokKernelIdeal.nD Cert.TokKernelIdeal.τ).loc Cert.TokKernelIdeal.main_arg2)) (m ((c : Thread Cert.TokKernelIdeal.nD Cert.TokKernelIdeal.τ).loc Cert.TokKernelIdeal.main_arg3)) (m ((c : Thread Cert.TokKernelIdeal.nD Cert.TokKernelIdeal.τ).loc Cert.TokKernelIdeal.main_arg4)) (m ((c : Thread Cert.TokKernelIdeal.nD Cert.TokKernelIdeal.τ).loc Cert.TokKernelIdeal.main_arg5))
  · refine (Cert.TokReferenceIdeal.Read.val_main_v88_eq _ _ _).trans ?_
    rw [e0, e1, e2]
    exact Cert.TokReferenceIdeal.Value.w88 (m ((c : Thread Cert.TokKernelIdeal.nD Cert.TokKernelIdeal.τ).loc Cert.TokKernelIdeal.main_arg0)) (m ((c : Thread Cert.TokKernelIdeal.nD Cert.TokKernelIdeal.τ).loc Cert.TokKernelIdeal.main_arg1)) (m ((c : Thread Cert.TokKernelIdeal.nD Cert.TokKernelIdeal.τ).loc Cert.TokKernelIdeal.main_arg2)) (m ((c : Thread Cert.TokKernelIdeal.nD Cert.TokKernelIdeal.τ).loc Cert.TokKernelIdeal.main_arg3)) (m ((c : Thread Cert.TokKernelIdeal.nD Cert.TokKernelIdeal.τ).loc Cert.TokKernelIdeal.main_arg4)) (m ((c : Thread Cert.TokKernelIdeal.nD Cert.TokKernelIdeal.τ).loc Cert.TokKernelIdeal.main_arg5))
  · refine (Cert.TokReferenceIdeal.Read.val_main_v90_eq _ _ _).trans ?_
    rw [e0, e1, e2]
    exact Cert.TokReferenceIdeal.Value.w90 (m ((c : Thread Cert.TokKernelIdeal.nD Cert.TokKernelIdeal.τ).loc Cert.TokKernelIdeal.main_arg0)) (m ((c : Thread Cert.TokKernelIdeal.nD Cert.TokKernelIdeal.τ).loc Cert.TokKernelIdeal.main_arg1)) (m ((c : Thread Cert.TokKernelIdeal.nD Cert.TokKernelIdeal.τ).loc Cert.TokKernelIdeal.main_arg2)) (m ((c : Thread Cert.TokKernelIdeal.nD Cert.TokKernelIdeal.τ).loc Cert.TokKernelIdeal.main_arg3)) (m ((c : Thread Cert.TokKernelIdeal.nD Cert.TokKernelIdeal.τ).loc Cert.TokKernelIdeal.main_arg4)) (m ((c : Thread Cert.TokKernelIdeal.nD Cert.TokKernelIdeal.τ).loc Cert.TokKernelIdeal.main_arg5))
  · refine (Cert.TokReferenceIdeal.Read.val_main_v92_eq _ _ _).trans ?_
    rw [e0, e1, e2]
    exact Cert.TokReferenceIdeal.Value.w92 (m ((c : Thread Cert.TokKernelIdeal.nD Cert.TokKernelIdeal.τ).loc Cert.TokKernelIdeal.main_arg0)) (m ((c : Thread Cert.TokKernelIdeal.nD Cert.TokKernelIdeal.τ).loc Cert.TokKernelIdeal.main_arg1)) (m ((c : Thread Cert.TokKernelIdeal.nD Cert.TokKernelIdeal.τ).loc Cert.TokKernelIdeal.main_arg2)) (m ((c : Thread Cert.TokKernelIdeal.nD Cert.TokKernelIdeal.τ).loc Cert.TokKernelIdeal.main_arg3)) (m ((c : Thread Cert.TokKernelIdeal.nD Cert.TokKernelIdeal.τ).loc Cert.TokKernelIdeal.main_arg4)) (m ((c : Thread Cert.TokKernelIdeal.nD Cert.TokKernelIdeal.τ).loc Cert.TokKernelIdeal.main_arg5))
  · refine (Cert.TokReferenceIdeal.Read.val_main_v93_eq _ _ _ _).trans ?_
    rw [e0, e1, e2, e3]
    exact Cert.TokReferenceIdeal.Value.w93 (m ((c : Thread Cert.TokKernelIdeal.nD Cert.TokKernelIdeal.τ).loc Cert.TokKernelIdeal.main_arg0)) (m ((c : Thread Cert.TokKernelIdeal.nD Cert.TokKernelIdeal.τ).loc Cert.TokKernelIdeal.main_arg1)) (m ((c : Thread Cert.TokKernelIdeal.nD Cert.TokKernelIdeal.τ).loc Cert.TokKernelIdeal.main_arg2)) (m ((c : Thread Cert.TokKernelIdeal.nD Cert.TokKernelIdeal.τ).loc Cert.TokKernelIdeal.main_arg3)) (m ((c : Thread Cert.TokKernelIdeal.nD Cert.TokKernelIdeal.τ).loc Cert.TokKernelIdeal.main_arg4)) (m ((c : Thread Cert.TokKernelIdeal.nD Cert.TokKernelIdeal.τ).loc Cert.TokKernelIdeal.main_arg5))
  · refine (Cert.TokReferenceIdeal.Read.val_main_v95_eq _ _ _).trans ?_
    rw [e0, e1, e2]
    exact Cert.TokReferenceIdeal.Value.w95 (m ((c : Thread Cert.TokKernelIdeal.nD Cert.TokKernelIdeal.τ).loc Cert.TokKernelIdeal.main_arg0)) (m ((c : Thread Cert.TokKernelIdeal.nD Cert.TokKernelIdeal.τ).loc Cert.TokKernelIdeal.main_arg1)) (m ((c : Thread Cert.TokKernelIdeal.nD Cert.TokKernelIdeal.τ).loc Cert.TokKernelIdeal.main_arg2)) (m ((c : Thread Cert.TokKernelIdeal.nD Cert.TokKernelIdeal.τ).loc Cert.TokKernelIdeal.main_arg3)) (m ((c : Thread Cert.TokKernelIdeal.nD Cert.TokKernelIdeal.τ).loc Cert.TokKernelIdeal.main_arg4)) (m ((c : Thread Cert.TokKernelIdeal.nD Cert.TokKernelIdeal.τ).loc Cert.TokKernelIdeal.main_arg5))
  · refine (Cert.TokReferenceIdeal.Read.val_main_v97_eq _ _ _).trans ?_
    rw [e0, e1, e2]
    exact Cert.TokReferenceIdeal.Value.w97 (m ((c : Thread Cert.TokKernelIdeal.nD Cert.TokKernelIdeal.τ).loc Cert.TokKernelIdeal.main_arg0)) (m ((c : Thread Cert.TokKernelIdeal.nD Cert.TokKernelIdeal.τ).loc Cert.TokKernelIdeal.main_arg1)) (m ((c : Thread Cert.TokKernelIdeal.nD Cert.TokKernelIdeal.τ).loc Cert.TokKernelIdeal.main_arg2)) (m ((c : Thread Cert.TokKernelIdeal.nD Cert.TokKernelIdeal.τ).loc Cert.TokKernelIdeal.main_arg3)) (m ((c : Thread Cert.TokKernelIdeal.nD Cert.TokKernelIdeal.τ).loc Cert.TokKernelIdeal.main_arg4)) (m ((c : Thread Cert.TokKernelIdeal.nD Cert.TokKernelIdeal.τ).loc Cert.TokKernelIdeal.main_arg5))

end Cert.Tok
end
end
-- ==== Proof.Ffn.Pre.lean ====
/- The precondition read back: every element of the six arguments is a real number. -/
module
public import proofs.«01_k».proof.Proof.Gen.Pre_finite
public import Idealize.ShloMosaic.Lib.ReduceAll
public import Idealize.ShloMosaic.Lib.Pointwise
public import Idealize.ShloMosaic.Lib.IdealHost
@[expose] public section
noncomputable section
open Idealize.ShloMosaic Idealize.SL.Sem
namespace Cert.Pre_finite.Value
open Cert.Pre_finite Cert.Pre_finite.Gen

instance : Subsingleton S_.Idx := ⟨fun a b => funext fun d => d.elim0⟩

/-- The literal of an infinite float is the top element. -/
theorem lit_inf : Ideal.ofBits .f32 0x7F800000#32 = (⊤ : EReal) := by
  simp [Ideal.ofBits, Ideal.ieee]

/-- A value whose magnitude is below the top element is a real number. -/
theorem real_of_abs_lt (a : EReal) (h : max a (-a) < ⊤) : ∃ r : ℝ, a = (r : EReal) := by
  induction a using EReal.rec with
  | bot => simp at h
  | coe r => exact ⟨r, rfl⟩
  | top => simp at h

/-- An array whose elements all pass the comparison of their magnitude with infinity holds real numbers. -/
theorem reals {s : Shape} (X : FVec Ideal s .f32) (hb : S_.BroadcastsInDim s (![] : Fin 0 → Fin s.rank)) (i : s.Idx)
    (h : cmpf .olt (Host.absf X) (broadcastInDim s ![] hb (constant (F := Ideal) S_ .f32 0x7F800000#32)) i = 1#1) :
    ∃ r : ℝ, X i = (r : EReal) := by
  apply real_of_abs_lt
  pointwise at h
  rw [lit_inf] at h
  by_contra hn
  rw [decide_eq_false (show ¬ (FloatOps.absf (X i) < (⊤ : EReal)) from hn)] at h
  exact absurd h (by decide)

/-- The precondition says that every element of the six arguments is a real number. -/
theorem all_real (A0 A1 : FVec Ideal S4096x1024 .f32) (A2 : FVec Ideal S1x1024 .f32) (A3 : FVec Ideal S1024x5632 .f32)
    (A4 : FVec Ideal S2816x1024 .f32) (A5 : FVec Ideal S1x1024 .f32)
    (h : Cert.Pre_finite.fn (F := Ideal) A0 A1 A2 A3 A4 A5 = fun _ => 1#1) :
    (∀ i, ∃ r : ℝ, A0 i = (r : EReal)) ∧ (∀ i, ∃ r : ℝ, A1 i = (r : EReal)) ∧ (∀ i, ∃ r : ℝ, A2 i = (r : EReal))
      ∧ (∀ i, ∃ r : ℝ, A3 i = (r : EReal)) ∧ (∀ i, ∃ r : ℝ, A4 i = (r : EReal)) ∧ (∀ i, ∃ r : ℝ, A5 i = (r : EReal)) := by
  have e := congrFun h (fun d => d.elim0)
  simp only [fn, fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => reals A0 _ i (Host.reduce_andi_all _ _ _ _ _ e0 i), fun i => reals A1 _ i (Host.reduce_andi_all _ _ _ _ _ e1 i),
    fun i => reals A2 _ i (Host.reduce_andi_all _ _ _ _ _ e2 i), fun i => reals A3 _ i (Host.reduce_andi_all _ _ _ _ _ e3 i),
    fun i => reals A4 _ i (Host.reduce_andi_all _ _ _ _ _ e4 i), fun i => reals A5 _ i (Host.reduce_andi_all _ _ _ _ _ e5 i)⟩

end Cert.Pre_finite.Value
end
end
-- ==== Proof.Ffn.Model.lean ====
/- One token of the feed-forward layer on real numbers: its forward values, its loss and its gradients. -/
module
public import proofs.«01_k».proof.Proof.Ffn.Lift
@[expose] public section
noncomputable section
namespace Cert.Ffn
open Cert.Lift

/-- The mean square of a row of 1024 numbers, with the small number added. -/
def ms (x : Fin 1024 → ℝ) : ℝ := (∑ k, x k * x k) / 1024 + eps

theorem ms_pos (x : Fin 1024 → ℝ) : 0 < ms x := by
  have h : 0 ≤ ∑ k, x k * x k := Finset.sum_nonneg fun k _ => mul_self_nonneg _
  unfold ms
  have := eps_pos
  positivity

/-- The reciprocal root of the mean square. -/
def ri (x : Fin 1024 → ℝ) : ℝ := (√(ms x))⁻¹

/-- The square of the reciprocal root is the reciprocal. -/
theorem ri_sq (x : Fin 1024 → ℝ) : ri x * ri x = 1 / ms x := by
  unfold ri
  rw [← mul_inv, Real.mul_self_sqrt (ms_pos x).le, one_div]

/-- The normalised row. -/
def nrm (x g : Fin 1024 → ℝ) (k : Fin 1024) : ℝ := x k * ri x * g k

/-- The gradient of the normalised row in the row. -/
def rb (x g d : Fin 1024 → ℝ) (c : Fin 1024) : ℝ :=
  ri x * (d c * g c) - x c * (ri x * ri x * ri x) * ((∑ k, d k * g k * x k) / 1024)

/-- A product with the rows of a matrix. -/
def lin (w : Fin 2816 → Fin 1024 → ℝ) (v : Fin 1024 → ℝ) (j : Fin 2816) : ℝ := ∑ k, v k * w j k

/-- A product with the columns of a matrix. -/
def lint (w : Fin 2816 → Fin 1024 → ℝ) (v : Fin 2816 → ℝ) (k : Fin 1024) : ℝ := ∑ j, v j * w j k

/-- The layer's weights: the gate's and the value's columns side by side, the way down, the two gains. -/
structure Par where
  wi : Fin 1024 → Fin 5632 → ℝ
  wd : Fin 2816 → Fin 1024 → ℝ
  g1 : Fin 1024 → ℝ
  g2 : Fin 1024 → ℝ

/-- The gate's weights. -/
def Par.wg (P : Par) (j : Fin 2816) (k : Fin 1024) : ℝ := P.wi k ⟨j.val, by omega⟩
/-- The value's weights. -/
def Par.wu (P : Par) (j : Fin 2816) (k : Fin 1024) : ℝ := P.wi k ⟨2816 + j.val, by omega⟩

variable (P : Par) (x t : Fin 1024 → ℝ)

def h2 : Fin 1024 → ℝ := nrm x P.g1
def gg : Fin 2816 → ℝ := lin P.wg (h2 P x)
def uu : Fin 2816 → ℝ := lin P.wu (h2 P x)
def act (j : Fin 2816) : ℝ := gg P x j * sgm (gg P x j) * uu P x j
def ff : Fin 1024 → ℝ := lint P.wd (act P x)
def err (c : Fin 1024) : ℝ := x c + ff P x c * ri (ff P x) * P.g2 c - t c
def dy (c : Fin 1024) : ℝ := err P x t c * (1 / 1024)
def loss : ℝ := (∑ c, err P x t c * err P x t c) * (1 / 2048)
def dpost (c : Fin 1024) : ℝ := dy P x t c * ff P x c * ri (ff P x)
def dff : Fin 1024 → ℝ := rb (ff P x) P.g2 (dy P x t)
def dact : Fin 2816 → ℝ := lin P.wd (dff P x t)
def dgg (j : Fin 2816) : ℝ :=
  dact P x t j * uu P x j * (sgm (gg P x j) * (1 + gg P x j * (1 - sgm (gg P x j))))
def duu (j : Fin 2816) : ℝ := dact P x t j * (gg P x j * sgm (gg P x j))
def dh2 (k : Fin 1024) : ℝ := lint P.wg (dgg P x t) k + lint P.wu (duu P x t) k
def dpre (k : Fin 1024) : ℝ := dh2 P x t k * x k * ri x
def dx (k : Fin 1024) : ℝ := dy P x t k + rb x P.g1 (dh2 P x t) k

/-- The gradients in the gate and in the value, one after the other. -/
def dgu (j : Fin 5632) : ℝ :=
  if h : j.val < 2816 then dgg P x t ⟨j.val, h⟩ else duu P x t ⟨j.val - 2816, by omega⟩

theorem dgu_lo (j : Fin 5632) (i : Fin 2816) (h : j.val = i.val) : dgu P x t j = dgg P x t i := by
  unfold dgu
  rw [dif_pos (h ▸ i.isLt)]
  exact congrArg (dgg P x t) (Fin.ext h)

theorem dgu_hi (j : Fin 5632) (i : Fin 2816) (h : j.val = 2816 + i.val) : dgu P x t j = duu P x t i := by
  unfold dgu
  rw [dif_neg (by omega)]
  exact congrArg (duu P x t) (Fin.ext (by simp only; omega))

/-- A sum over the gate and the value together. -/
theorem sum_halves (f : Fin 5632 → ℝ) :
    ∑ j, f j = ∑ j : Fin 2816, f ⟨j.val, by omega⟩ + ∑ j : Fin 2816, f ⟨2816 + j.val, by omega⟩ := by
  have key : ∀ (a b n : ℕ) (h : n = a + b) (f : Fin n → ℝ),
      ∑ j, f j = ∑ j : Fin a, f ⟨j.val, by omega⟩ + ∑ j : Fin b, f ⟨a + j.val, by omega⟩ := by
    intro a b n h f
    subst h
    exact Fin.sum_univ_add f
  exact key 2816 2816 5632 rfl f

/-- The gradient in the normalised row, as one product over the gate and the value together. -/
theorem dh2_eq (k : Fin 1024) : ∑ j, dgu P x t j * P.wi k j = dh2 P x t k := by
  rw [sum_halves]
  unfold dh2 lint Par.wg Par.wu
  have a : ∀ j : Fin 2816, dgu P x t ⟨j.val, by omega⟩ = dgg P x t j := fun j => dgu_lo P x t _ j rfl
  have b : ∀ j : Fin 2816, dgu P x t ⟨2816 + j.val, by omega⟩ = duu P x t j := fun j => dgu_hi P x t _ j rfl
  simp only [a, b]

/-- The norm's gradient, by the derivative of the reciprocal root. -/
theorem rb_eq (x g d : Fin 1024 → ℝ) (c : Fin 1024) :
    d c * g c * ri x + x c * ((∑ k, x k * (d k * g k)) * (-(1 / 2) * (ri x / ms x)) / 1024)
      + (∑ k, x k * (d k * g k)) * (-(1 / 2) * (ri x / ms x)) / 1024 * x c = rb x g d c := by
  have h : ri x / ms x = ri x * ri x * ri x := by rw [ri_sq]; ring
  have s : ∑ k, x k * (d k * g k) = ∑ k, d k * g k * x k := Finset.sum_congr rfl fun k _ => mul_comm _ _
  rw [h, s]
  unfold rb
  ring

/-- The logistic function's derivative in the gate's product. -/
theorem dgg_eq (j : Fin 2816) :
    dact P x t j * uu P x j * sgm (gg P x j)
      + gg P x j * (dact P x t j * uu P x j) * (sgm (gg P x j) * (1 - sgm (gg P x j))) = dgg P x t j := by
  unfold dgg
  ring

end Cert.Ffn
end
end
-- ==== Proof.Ffn.Pay.lean ====
/- What each group of the kernel's operations computes on finite blocks. -/
module
public import proofs.«01_k».proof.Proof.Gen.FfnKernelIdeal.Skeleton
public import proofs.«01_k».proof.Proof.Ffn.Model
@[expose] public section
set_option maxRecDepth 16384
noncomputable section
open Idealize.ShloMosaic Idealize.ShloMosaic.TcCoe Idealize.SL.Sem
namespace Cert.FfnKernelIdeal.Value
open Cert.FfnKernelIdeal Cert.FfnKernelIdeal.Gen
open Cert.Lift Cert.Ffn

/-- The reciprocal root mean square of a row. -/
theorem p7
    (X : FVec Ideal S256x1024 .f32)
    (x : Fin 256 → Fin 1024 → ℝ)
    (hX : ∀ (i : Fin 256) (k : Fin 1024), X (ix2 i k) = ((x i k : ℝ) : EReal))
    (i : Fin 256) (k : Fin 1) :
    k0_pay7 (F := Ideal) X (ix2 i k) = ((ri (x i) : ℝ) : EReal) := by
  pointwise [k0_pay7]
  simp only [hX, lit_1024, lit_eps, ← EReal.coe_mul, coe_sum, ← EReal.coe_add, ← EReal.coe_sub, div_fin _ (by norm_num : (1024 : ℝ) ≠ 0)]
  exact rsqrt_fin (ms_pos (x i))

/-- The normalised row. -/
theorem p8
    (X : FVec Ideal S256x1024 .f32)
    (G : FVec Ideal S1x1024 .f32)
    (x : Fin 256 → Fin 1024 → ℝ)
    (g : Fin 1024 → ℝ)
    (hX : ∀ (i : Fin 256) (k : Fin 1024), X (ix2 i k) = ((x i k : ℝ) : EReal))
    (hG : ∀ (i : Fin 1) (k : Fin 1024), G (ix2 i k) = ((g k : ℝ) : EReal))
    (i : Fin 256) (k : Fin 1024) :
    k0_pay8 (F := Ideal) X G (ix2 i k) = ((nrm (x i) g k : ℝ) : EReal) := by
  pointwise [k0_pay8]
  simp only [hX, hG, p7 X x hX, ← EReal.coe_mul, coe_sum, ← EReal.coe_add, ← EReal.coe_sub]
  rfl

/-- The normalised row times one half of the weights. -/
theorem p9
    (X : FVec Ideal S256x1024 .f32)
    (G : FVec Ideal S1x1024 .f32)
    (W : FVec Ideal S2816x1024 .bf16)
    (x : Fin 256 → Fin 1024 → ℝ)
    (g : Fin 1024 → ℝ)
    (w : Fin 2816 → Fin 1024 → ℝ)
    (hX : ∀ (i : Fin 256) (k : Fin 1024), X (ix2 i k) = ((x i k : ℝ) : EReal))
    (hG : ∀ (i : Fin 1) (k : Fin 1024), G (ix2 i k) = ((g k : ℝ) : EReal))
    (hW : ∀ (i : Fin 2816) (k : Fin 1024), W (ix2 i k) = ((w i k : ℝ) : EReal))
    (i : Fin 256) (k : Fin 2816) :
    k0_pay9 (F := Ideal) X G W (ix2 i k) = ((lin w (nrm (x i) g) k : ℝ) : EReal) := by
  pointwise [k0_pay9]
  simp only [p8 X G x g hX hG, hW, ← EReal.coe_mul, coe_sum, ← EReal.coe_add, ← EReal.coe_sub]
  rfl

/-- The normalised row times one half of the weights. -/
theorem p10
    (X : FVec Ideal S256x1024 .f32)
    (G : FVec Ideal S1x1024 .f32)
    (W : FVec Ideal S2816x1024 .bf16)
    (x : Fin 256 → Fin 1024 → ℝ)
    (g : Fin 1024 → ℝ)
    (w : Fin 2816 → Fin 1024 → ℝ)
    (hX : ∀ (i : Fin 256) (k : Fin 1024), X (ix2 i k) = ((x i k : ℝ) : EReal))
    (hG : ∀ (i : Fin 1) (k : Fin 1024), G (ix2 i k) = ((g k : ℝ) : EReal))
    (hW : ∀ (i : Fin 2816) (k : Fin 1024), W (ix2 i k) = ((w i k : ℝ) : EReal))
    (i : Fin 256) (k : Fin 2816) :
    k0_pay10 (F := Ideal) X G W (ix2 i k) = ((lin w (nrm (x i) g) k : ℝ) : EReal) := by
  pointwise [k0_pay10]
  simp only [p8 X G x g hX hG, hW, ← EReal.coe_mul, coe_sum, ← EReal.coe_add, ← EReal.coe_sub]
  rfl

/-- The gate's logistic value. -/
theorem p11
    (X : FVec Ideal S256x1024 .f32)
    (G : FVec Ideal S1x1024 .f32)
    (W : FVec Ideal S2816x1024 .bf16)
    (x : Fin 256 → Fin 1024 → ℝ)
    (g : Fin 1024 → ℝ)
    (w : Fin 2816 → Fin 1024 → ℝ)
    (hX : ∀ (i : Fin 256) (k : Fin 1024), X (ix2 i k) = ((x i k : ℝ) : EReal))
    (hG : ∀ (i : Fin 1) (k : Fin 1024), G (ix2 i k) = ((g k : ℝ) : EReal))
    (hW : ∀ (i : Fin 2816) (k : Fin 1024), W (ix2 i k) = ((w i k : ℝ) : EReal))
    (i : Fin 256) (k : Fin 2816) :
    k0_pay11 (F := Ideal) X G W (ix2 i k) = ((sgm (lin w (nrm (x i) g) k) : ℝ) : EReal) := by
  pointwise [k0_pay11]
  simp only [p9 X G W x g w hX hG hW, lit_half, Ideal.tanh_coe, ← EReal.coe_mul, coe_sum, ← EReal.coe_add, ← EReal.coe_sub, sgm_tanh]

/-- The gate. -/
theorem p12
    (X : FVec Ideal S256x1024 .f32)
    (G : FVec Ideal S1x1024 .f32)
    (W : FVec Ideal S2816x1024 .bf16)
    (x : Fin 256 → Fin 1024 → ℝ)
    (g : Fin 1024 → ℝ)
    (w : Fin 2816 → Fin 1024 → ℝ)
    (hX : ∀ (i : Fin 256) (k : Fin 1024), X (ix2 i k) = ((x i k : ℝ) : EReal))
    (hG : ∀ (i : Fin 1) (k : Fin 1024), G (ix2 i k) = ((g k : ℝ) : EReal))
    (hW : ∀ (i : Fin 2816) (k : Fin 1024), W (ix2 i k) = ((w i k : ℝ) : EReal))
    (i : Fin 256) (k : Fin 2816) :
    k0_pay12 (F := Ideal) X G W (ix2 i k) = ((lin w (nrm (x i) g) k * sgm (lin w (nrm (x i) g) k) : ℝ) : EReal) := by
  pointwise [k0_pay12]
  simp only [p9 X G W x g w hX hG hW, p11 X G W x g w hX hG hW, ← EReal.coe_mul, coe_sum, ← EReal.coe_add, ← EReal.coe_sub]

/-- The gated value. -/
theorem p13
    (X : FVec Ideal S256x1024 .f32)
    (G : FVec Ideal S1x1024 .f32)
    (W : FVec Ideal S2816x1024 .bf16)
    (W2 : FVec Ideal S2816x1024 .bf16)
    (x : Fin 256 → Fin 1024 → ℝ)
    (g : Fin 1024 → ℝ)
    (w : Fin 2816 → Fin 1024 → ℝ)
    (w2 : Fin 2816 → Fin 1024 → ℝ)
    (hX : ∀ (i : Fin 256) (k : Fin 1024), X (ix2 i k) = ((x i k : ℝ) : EReal))
    (hG : ∀ (i : Fin 1) (k : Fin 1024), G (ix2 i k) = ((g k : ℝ) : EReal))
    (hW : ∀ (i : Fin 2816) (k : Fin 1024), W (ix2 i k) = ((w i k : ℝ) : EReal))
    (hW2 : ∀ (i : Fin 2816) (k : Fin 1024), W2 (ix2 i k) = ((w2 i k : ℝ) : EReal))
    (i : Fin 256) (k : Fin 2816) :
    k0_pay13 (F := Ideal) X G W W2 (ix2 i k) = ((lin w (nrm (x i) g) k * sgm (lin w (nrm (x i) g) k) * lin w2 (nrm (x i) g) k : ℝ) : EReal) := by
  pointwise [k0_pay13]
  simp only [p12 X G W x g w hX hG hW, p10 X G W2 x g w2 hX hG hW2, ← EReal.coe_mul, coe_sum, ← EReal.coe_add, ← EReal.coe_sub]

/-- The gated value, narrowed. -/
theorem p14
    (X : FVec Ideal S256x1024 .f32)
    (G : FVec Ideal S1x1024 .f32)
    (W : FVec Ideal S2816x1024 .bf16)
    (W2 : FVec Ideal S2816x1024 .bf16)
    (x : Fin 256 → Fin 1024 → ℝ)
    (g : Fin 1024 → ℝ)
    (w : Fin 2816 → Fin 1024 → ℝ)
    (w2 : Fin 2816 → Fin 1024 → ℝ)
    (hX : ∀ (i : Fin 256) (k : Fin 1024), X (ix2 i k) = ((x i k : ℝ) : EReal))
    (hG : ∀ (i : Fin 1) (k : Fin 1024), G (ix2 i k) = ((g k : ℝ) : EReal))
    (hW : ∀ (i : Fin 2816) (k : Fin 1024), W (ix2 i k) = ((w i k : ℝ) : EReal))
    (hW2 : ∀ (i : Fin 2816) (k : Fin 1024), W2 (ix2 i k) = ((w2 i k : ℝ) : EReal))
    (i : Fin 256) (k : Fin 2816) :
    k0_pay14 (F := Ideal) X G W W2 (ix2 i k) = ((lin w (nrm (x i) g) k * sgm (lin w (nrm (x i) g) k) * lin w2 (nrm (x i) g) k : ℝ) : EReal) := by
  pointwise [k0_pay14]
  exact p13 X G W W2 x g w w2 hX hG hW hW2 i k

/-- The gated value, transposed. -/
theorem p15
    (X : FVec Ideal S256x1024 .f32)
    (G : FVec Ideal S1x1024 .f32)
    (W : FVec Ideal S2816x1024 .bf16)
    (W2 : FVec Ideal S2816x1024 .bf16)
    (x : Fin 256 → Fin 1024 → ℝ)
    (g : Fin 1024 → ℝ)
    (w : Fin 2816 → Fin 1024 → ℝ)
    (w2 : Fin 2816 → Fin 1024 → ℝ)
    (hX : ∀ (i : Fin 256) (k : Fin 1024), X (ix2 i k) = ((x i k : ℝ) : EReal))
    (hG : ∀ (i : Fin 1) (k : Fin 1024), G (ix2 i k) = ((g k : ℝ) : EReal))
    (hW : ∀ (i : Fin 2816) (k : Fin 1024), W (ix2 i k) = ((w i k : ℝ) : EReal))
    (hW2 : ∀ (i : Fin 2816) (k : Fin 1024), W2 (ix2 i k) = ((w2 i k : ℝ) : EReal))
    (i : Fin 2816) (k : Fin 256) :
    k0_pay15 (F := Ideal) X G W W2 (ix2 i k) = ((lin w (nrm (x k) g) i * sgm (lin w (nrm (x k) g) i) * lin w2 (nrm (x k) g) i : ℝ) : EReal) := by
  pointwise [k0_pay15]
  exact p13 X G W W2 x g w w2 hX hG hW hW2 k i

/-- The way down. -/
theorem p16
    (A : FVec Ideal S256x2816 .bf16)
    (W : FVec Ideal S2816x1024 .bf16)
    (u : Fin 256 → Fin 2816 → ℝ)
    (w : Fin 2816 → Fin 1024 → ℝ)
    (hA : ∀ (i : Fin 256) (k : Fin 2816), A (ix2 i k) = ((u i k : ℝ) : EReal))
    (hW : ∀ (i : Fin 2816) (k : Fin 1024), W (ix2 i k) = ((w i k : ℝ) : EReal))
    (i : Fin 256) (k : Fin 1024) :
    k0_pay16 (F := Ideal) A W (ix2 i k) = ((lint w (u i) k : ℝ) : EReal) := by
  pointwise [k0_pay16]
  simp only [hA, hW, ← EReal.coe_mul, coe_sum, ← EReal.coe_add, ← EReal.coe_sub]
  rfl

/-- The reciprocal root mean square of the way down. -/
theorem p17
    (A : FVec Ideal S256x2816 .bf16)
    (W : FVec Ideal S2816x1024 .bf16)
    (u : Fin 256 → Fin 2816 → ℝ)
    (w : Fin 2816 → Fin 1024 → ℝ)
    (hA : ∀ (i : Fin 256) (k : Fin 2816), A (ix2 i k) = ((u i k : ℝ) : EReal))
    (hW : ∀ (i : Fin 2816) (k : Fin 1024), W (ix2 i k) = ((w i k : ℝ) : EReal))
    (i : Fin 256) (k : Fin 1) :
    k0_pay17 (F := Ideal) A W (ix2 i k) = ((ri (lint w (u i)) : ℝ) : EReal) := by
  pointwise [k0_pay17]
  simp only [p16 A W u w hA hW, lit_1024, lit_eps, ← EReal.coe_mul, coe_sum, ← EReal.coe_add, ← EReal.coe_sub, div_fin _ (by norm_num : (1024 : ℝ) ≠ 0)]
  exact rsqrt_fin (ms_pos (lint w (u i)))

/-- The error of the output. -/
theorem p18
    (X : FVec Ideal S256x1024 .f32)
    (A : FVec Ideal S256x2816 .bf16)
    (W : FVec Ideal S2816x1024 .bf16)
    (G : FVec Ideal S1x1024 .f32)
    (T : FVec Ideal S256x1024 .f32)
    (x : Fin 256 → Fin 1024 → ℝ)
    (u : Fin 256 → Fin 2816 → ℝ)
    (w : Fin 2816 → Fin 1024 → ℝ)
    (g : Fin 1024 → ℝ)
    (t : Fin 256 → Fin 1024 → ℝ)
    (hX : ∀ (i : Fin 256) (k : Fin 1024), X (ix2 i k) = ((x i k : ℝ) : EReal))
    (hA : ∀ (i : Fin 256) (k : Fin 2816), A (ix2 i k) = ((u i k : ℝ) : EReal))
    (hW : ∀ (i : Fin 2816) (k : Fin 1024), W (ix2 i k) = ((w i k : ℝ) : EReal))
    (hG : ∀ (i : Fin 1) (k : Fin 1024), G (ix2 i k) = ((g k : ℝ) : EReal))
    (hT : ∀ (i : Fin 256) (k : Fin 1024), T (ix2 i k) = ((t i k : ℝ) : EReal))
    (i : Fin 256) (k : Fin 1024) :
    k0_pay18 (F := Ideal) X A W G T (ix2 i k) = ((x i k + lint w (u i) k * ri (lint w (u i)) * g k - t i k : ℝ) : EReal) := by
  pointwise [k0_pay18]
  simp only [hX, hG, hT, p16 A W u w hA hW, p17 A W u w hA hW, ← EReal.coe_mul, coe_sum, ← EReal.coe_add, ← EReal.coe_sub]

/-- The loss, added up. -/
theorem p19
    (X : FVec Ideal S256x1024 .f32)
    (A : FVec Ideal S256x2816 .bf16)
    (W : FVec Ideal S2816x1024 .bf16)
    (G : FVec Ideal S1x1024 .f32)
    (T : FVec Ideal S256x1024 .f32)
    (B : FVec Ideal S1x128 .f32)
    (x : Fin 256 → Fin 1024 → ℝ)
    (u : Fin 256 → Fin 2816 → ℝ)
    (w : Fin 2816 → Fin 1024 → ℝ)
    (g : Fin 1024 → ℝ)
    (t : Fin 256 → Fin 1024 → ℝ)
    (hX : ∀ (i : Fin 256) (k : Fin 1024), X (ix2 i k) = ((x i k : ℝ) : EReal))
    (hA : ∀ (i : Fin 256) (k : Fin 2816), A (ix2 i k) = ((u i k : ℝ) : EReal))
    (hW : ∀ (i : Fin 2816) (k : Fin 1024), W (ix2 i k) = ((w i k : ℝ) : EReal))
    (hG : ∀ (i : Fin 1) (k : Fin 1024), G (ix2 i k) = ((g k : ℝ) : EReal))
    (hT : ∀ (i : Fin 256) (k : Fin 1024), T (ix2 i k) = ((t i k : ℝ) : EReal))
    (i : Fin 1) (k : Fin 128) :
    k0_pay19 (F := Ideal) X A W G T B (ix2 i k) = B (ix2 i k) + (((∑ r, ∑ c, (x r c + lint w (u r) c * ri (lint w (u r)) * g c - t r c) * (x r c + lint w (u r) c * ri (lint w (u r)) * g c - t r c)) * (1 / 2048) : ℝ) : EReal) := by
  pointwise [k0_pay19]
  simp only [p18 X A W G T x u w g t hX hA hW hG hT, lit_inv2048, ← EReal.coe_mul, coe_sum, ← EReal.coe_add, ← EReal.coe_sub]

/-- The loss's gradient in the output. -/
theorem p20
    (X : FVec Ideal S256x1024 .f32)
    (A : FVec Ideal S256x2816 .bf16)
    (W : FVec Ideal S2816x1024 .bf16)
    (G : FVec Ideal S1x1024 .f32)
    (T : FVec Ideal S256x1024 .f32)
    (x : Fin 256 → Fin 1024 → ℝ)
    (u : Fin 256 → Fin 2816 → ℝ)
    (w : Fin 2816 → Fin 1024 → ℝ)
    (g : Fin 1024 → ℝ)
    (t : Fin 256 → Fin 1024 → ℝ)
    (hX : ∀ (i : Fin 256) (k : Fin 1024), X (ix2 i k) = ((x i k : ℝ) : EReal))
    (hA : ∀ (i : Fin 256) (k : Fin 2816), A (ix2 i k) = ((u i k : ℝ) : EReal))
    (hW : ∀ (i : Fin 2816) (k : Fin 1024), W (ix2 i k) = ((w i k : ℝ) : EReal))
    (hG : ∀ (i : Fin 1) (k : Fin 1024), G (ix2 i k) = ((g k : ℝ) : EReal))
    (hT : ∀ (i : Fin 256) (k : Fin 1024), T (ix2 i k) = ((t i k : ℝ) : EReal))
    (i : Fin 256) (k : Fin 1024) :
    k0_pay20 (F := Ideal) X A W G T (ix2 i k) = (((x i k + lint w (u i) k * ri (lint w (u i)) * g k - t i k) * (1 / 1024) : ℝ) : EReal) := by
  pointwise [k0_pay20]
  simp only [p18 X A W G T x u w g t hX hA hW hG hT, lit_inv1024, ← EReal.coe_mul, coe_sum, ← EReal.coe_add, ← EReal.coe_sub]

/-- A row, unchanged. -/
theorem p21
    (G : FVec Ideal S1x1024 .f32)
    (g : Fin 1024 → ℝ)
    (hG : ∀ (i : Fin 1) (k : Fin 1024), G (ix2 i k) = ((g k : ℝ) : EReal))
    (i : Fin 1) (k : Fin 1024) :
    k0_pay21 (F := Ideal) G (ix2 i k) = ((g k : ℝ) : EReal) := by
  pointwise [k0_pay21]
  exact hG i k

/-- The gradient times the way down. -/
theorem p22
    (X : FVec Ideal S256x1024 .f32)
    (A : FVec Ideal S256x2816 .bf16)
    (W : FVec Ideal S2816x1024 .bf16)
    (G : FVec Ideal S1x1024 .f32)
    (T : FVec Ideal S256x1024 .f32)
    (x : Fin 256 → Fin 1024 → ℝ)
    (u : Fin 256 → Fin 2816 → ℝ)
    (w : Fin 2816 → Fin 1024 → ℝ)
    (g : Fin 1024 → ℝ)
    (t : Fin 256 → Fin 1024 → ℝ)
    (hX : ∀ (i : Fin 256) (k : Fin 1024), X (ix2 i k) = ((x i k : ℝ) : EReal))
    (hA : ∀ (i : Fin 256) (k : Fin 2816), A (ix2 i k) = ((u i k : ℝ) : EReal))
    (hW : ∀ (i : Fin 2816) (k : Fin 1024), W (ix2 i k) = ((w i k : ℝ) : EReal))
    (hG : ∀ (i : Fin 1) (k : Fin 1024), G (ix2 i k) = ((g k : ℝ) : EReal))
    (hT : ∀ (i : Fin 256) (k : Fin 1024), T (ix2 i k) = ((t i k : ℝ) : EReal))
    (i : Fin 256) (k : Fin 1024) :
    k0_pay22 (F := Ideal) X A W G T (ix2 i k) = (((x i k + lint w (u i) k * ri (lint w (u i)) * g k - t i k) * (1 / 1024) * lint w (u i) k : ℝ) : EReal) := by
  pointwise [k0_pay22]
  simp only [p20 X A W G T x u w g t hX hA hW hG hT, p16 A W u w hA hW, ← EReal.coe_mul, coe_sum, ← EReal.coe_add, ← EReal.coe_sub]

/-- The reciprocal root, spread over the row. -/
theorem p23
    (A : FVec Ideal S256x2816 .bf16)
    (W : FVec Ideal S2816x1024 .bf16)
    (u : Fin 256 → Fin 2816 → ℝ)
    (w : Fin 2816 → Fin 1024 → ℝ)
    (hA : ∀ (i : Fin 256) (k : Fin 2816), A (ix2 i k) = ((u i k : ℝ) : EReal))
    (hW : ∀ (i : Fin 2816) (k : Fin 1024), W (ix2 i k) = ((w i k : ℝ) : EReal))
    (i : Fin 256) (k : Fin 1024) :
    k0_pay23 (F := Ideal) A W (ix2 i k) = ((ri (lint w (u i)) : ℝ) : EReal) := by
  pointwise [k0_pay23]
  exact p17 A W u w hA hW i 0

/-- The later gain's gradient, added up. -/
theorem p24
    (B : FVec Ideal S1x1024 .f32)
    (E : FVec Ideal S256x1024 .f32)
    (Y : FVec Ideal S256x1024 .f32)
    (e : Fin 256 → Fin 1024 → ℝ)
    (y : Fin 256 → Fin 1024 → ℝ)
    (hE : ∀ (i : Fin 256) (k : Fin 1024), E (ix2 i k) = ((e i k : ℝ) : EReal))
    (hY : ∀ (i : Fin 256) (k : Fin 1024), Y (ix2 i k) = ((y i k : ℝ) : EReal))
    (i : Fin 1) (k : Fin 1024) :
    k0_pay24 (F := Ideal) B E Y (ix2 i k) = B (ix2 i k) + ((∑ r, e r k * y r k : ℝ) : EReal) := by
  pointwise [k0_pay24]
  simp only [hE, hY, ← EReal.coe_mul, coe_sum, ← EReal.coe_add, ← EReal.coe_sub]

/-- The norm's gradient. -/
theorem p25
    (V : FVec Ideal S256x1024 .f32)
    (R : FVec Ideal S256x1 .f32)
    (G : FVec Ideal S1x1024 .f32)
    (D : FVec Ideal S256x1024 .f32)
    (v : Fin 256 → Fin 1024 → ℝ)
    (g : Fin 1024 → ℝ)
    (d : Fin 256 → Fin 1024 → ℝ)
    (hV : ∀ (i : Fin 256) (k : Fin 1024), V (ix2 i k) = ((v i k : ℝ) : EReal))
    (hR : ∀ (i : Fin 256) (k : Fin 1), R (ix2 i k) = ((ri (v i) : ℝ) : EReal))
    (hG : ∀ (i : Fin 1) (k : Fin 1024), G (ix2 i k) = ((g k : ℝ) : EReal))
    (hD : ∀ (i : Fin 256) (k : Fin 1024), D (ix2 i k) = ((d i k : ℝ) : EReal))
    (i : Fin 256) (k : Fin 1024) :
    k0_pay25 (F := Ideal) V R G D (ix2 i k) = ((rb (v i) g (d i) k : ℝ) : EReal) := by
  pointwise [k0_pay25]
  simp only [hV, hR, hG, hD, lit_1024, ← EReal.coe_mul, coe_sum, ← EReal.coe_add, ← EReal.coe_sub, div_fin _ (by norm_num : (1024 : ℝ) ≠ 0)]
  rfl

/-- The gradient in the gated value. -/
theorem p26
    (V : FVec Ideal S256x1024 .f32)
    (R : FVec Ideal S256x1 .f32)
    (G : FVec Ideal S1x1024 .f32)
    (D : FVec Ideal S256x1024 .f32)
    (W : FVec Ideal S2816x1024 .bf16)
    (v : Fin 256 → Fin 1024 → ℝ)
    (g : Fin 1024 → ℝ)
    (d : Fin 256 → Fin 1024 → ℝ)
    (w : Fin 2816 → Fin 1024 → ℝ)
    (hV : ∀ (i : Fin 256) (k : Fin 1024), V (ix2 i k) = ((v i k : ℝ) : EReal))
    (hR : ∀ (i : Fin 256) (k : Fin 1), R (ix2 i k) = ((ri (v i) : ℝ) : EReal))
    (hG : ∀ (i : Fin 1) (k : Fin 1024), G (ix2 i k) = ((g k : ℝ) : EReal))
    (hD : ∀ (i : Fin 256) (k : Fin 1024), D (ix2 i k) = ((d i k : ℝ) : EReal))
    (hW : ∀ (i : Fin 2816) (k : Fin 1024), W (ix2 i k) = ((w i k : ℝ) : EReal))
    (i : Fin 256) (k : Fin 2816) :
    k0_pay26 (F := Ideal) V R G D W (ix2 i k) = ((lin w (rb (v i) g (d i)) k : ℝ) : EReal) := by
  pointwise [k0_pay26]
  simp only [p25 V R G D v g d hV hR hG hD, hW, ← EReal.coe_mul, coe_sum, ← EReal.coe_add, ← EReal.coe_sub]
  rfl

/-- The gradient in the gate. -/
theorem p27
    (P : FVec Ideal S256x2816 .f32)
    (U : FVec Ideal S256x2816 .f32)
    (S : FVec Ideal S256x2816 .f32)
    (V : FVec Ideal S256x1024 .f32)
    (R : FVec Ideal S256x1 .f32)
    (G : FVec Ideal S1x1024 .f32)
    (D : FVec Ideal S256x1024 .f32)
    (W : FVec Ideal S2816x1024 .bf16)
    (p : Fin 256 → Fin 2816 → ℝ)
    (u : Fin 256 → Fin 2816 → ℝ)
    (s : Fin 256 → Fin 2816 → ℝ)
    (v : Fin 256 → Fin 1024 → ℝ)
    (g : Fin 1024 → ℝ)
    (d : Fin 256 → Fin 1024 → ℝ)
    (w : Fin 2816 → Fin 1024 → ℝ)
    (hP : ∀ (i : Fin 256) (k : Fin 2816), P (ix2 i k) = ((p i k : ℝ) : EReal))
    (hU : ∀ (i : Fin 256) (k : Fin 2816), U (ix2 i k) = ((u i k : ℝ) : EReal))
    (hS : ∀ (i : Fin 256) (k : Fin 2816), S (ix2 i k) = ((s i k : ℝ) : EReal))
    (hV : ∀ (i : Fin 256) (k : Fin 1024), V (ix2 i k) = ((v i k : ℝ) : EReal))
    (hR : ∀ (i : Fin 256) (k : Fin 1), R (ix2 i k) = ((ri (v i) : ℝ) : EReal))
    (hG : ∀ (i : Fin 1) (k : Fin 1024), G (ix2 i k) = ((g k : ℝ) : EReal))
    (hD : ∀ (i : Fin 256) (k : Fin 1024), D (ix2 i k) = ((d i k : ℝ) : EReal))
    (hW : ∀ (i : Fin 2816) (k : Fin 1024), W (ix2 i k) = ((w i k : ℝ) : EReal))
    (i : Fin 256) (k : Fin 2816) :
    k0_pay27 (F := Ideal) P U S V R G D W (ix2 i k) = ((lin w (rb (v i) g (d i)) k * u i k * (s i k * (1 + p i k * (1 - s i k))) : ℝ) : EReal) := by
  pointwise [k0_pay27]
  simp only [p26 V R G D W v g d w hV hR hG hD hW, hP, hU, hS, one_fin, ← EReal.coe_mul, coe_sum, ← EReal.coe_add, ← EReal.coe_sub]

/-- The gradient in the value. -/
theorem p28
    (S : FVec Ideal S256x2816 .f32)
    (V : FVec Ideal S256x1024 .f32)
    (R : FVec Ideal S256x1 .f32)
    (G : FVec Ideal S1x1024 .f32)
    (D : FVec Ideal S256x1024 .f32)
    (W : FVec Ideal S2816x1024 .bf16)
    (s : Fin 256 → Fin 2816 → ℝ)
    (v : Fin 256 → Fin 1024 → ℝ)
    (g : Fin 1024 → ℝ)
    (d : Fin 256 → Fin 1024 → ℝ)
    (w : Fin 2816 → Fin 1024 → ℝ)
    (hS : ∀ (i : Fin 256) (k : Fin 2816), S (ix2 i k) = ((s i k : ℝ) : EReal))
    (hV : ∀ (i : Fin 256) (k : Fin 1024), V (ix2 i k) = ((v i k : ℝ) : EReal))
    (hR : ∀ (i : Fin 256) (k : Fin 1), R (ix2 i k) = ((ri (v i) : ℝ) : EReal))
    (hG : ∀ (i : Fin 1) (k : Fin 1024), G (ix2 i k) = ((g k : ℝ) : EReal))
    (hD : ∀ (i : Fin 256) (k : Fin 1024), D (ix2 i k) = ((d i k : ℝ) : EReal))
    (hW : ∀ (i : Fin 2816) (k : Fin 1024), W (ix2 i k) = ((w i k : ℝ) : EReal))
    (i : Fin 256) (k : Fin 2816) :
    k0_pay28 (F := Ideal) S V R G D W (ix2 i k) = ((lin w (rb (v i) g (d i)) k * s i k : ℝ) : EReal) := by
  pointwise [k0_pay28]
  simp only [p26 V R G D W v g d w hV hR hG hD hW, hS, ← EReal.coe_mul, coe_sum, ← EReal.coe_add, ← EReal.coe_sub]

/-- The gradient in the gate, narrowed. -/
theorem p29
    (P : FVec Ideal S256x2816 .f32)
    (U : FVec Ideal S256x2816 .f32)
    (S : FVec Ideal S256x2816 .f32)
    (V : FVec Ideal S256x1024 .f32)
    (R : FVec Ideal S256x1 .f32)
    (G : FVec Ideal S1x1024 .f32)
    (D : FVec Ideal S256x1024 .f32)
    (W : FVec Ideal S2816x1024 .bf16)
    (p : Fin 256 → Fin 2816 → ℝ)
    (u : Fin 256 → Fin 2816 → ℝ)
    (s : Fin 256 → Fin 2816 → ℝ)
    (v : Fin 256 → Fin 1024 → ℝ)
    (g : Fin 1024 → ℝ)
    (d : Fin 256 → Fin 1024 → ℝ)
    (w : Fin 2816 → Fin 1024 → ℝ)
    (hP : ∀ (i : Fin 256) (k : Fin 2816), P (ix2 i k) = ((p i k : ℝ) : EReal))
    (hU : ∀ (i : Fin 256) (k : Fin 2816), U (ix2 i k) = ((u i k : ℝ) : EReal))
    (hS : ∀ (i : Fin 256) (k : Fin 2816), S (ix2 i k) = ((s i k : ℝ) : EReal))
    (hV : ∀ (i : Fin 256) (k : Fin 1024), V (ix2 i k) = ((v i k : ℝ) : EReal))
    (hR : ∀ (i : Fin 256) (k : Fin 1), R (ix2 i k) = ((ri (v i) : ℝ) : EReal))
    (hG : ∀ (i : Fin 1) (k : Fin 1024), G (ix2 i k) = ((g k : ℝ) : EReal))
    (hD : ∀ (i : Fin 256) (k : Fin 1024), D (ix2 i k) = ((d i k : ℝ) : EReal))
    (hW : ∀ (i : Fin 2816) (k : Fin 1024), W (ix2 i k) = ((w i k : ℝ) : EReal))
    (i : Fin 256) (k : Fin 2816) :
    k0_pay29 (F := Ideal) P U S V R G D W (ix2 i k) = ((lin w (rb (v i) g (d i)) k * u i k * (s i k * (1 + p i k * (1 - s i k))) : ℝ) : EReal) := by
  pointwise [k0_pay29]
  exact p27 P U S V R G D W p u s v g d w hP hU hS hV hR hG hD hW i k

/-- The gradient in the value, narrowed. -/
theorem p30
    (S : FVec Ideal S256x2816 .f32)
    (V : FVec Ideal S256x1024 .f32)
    (R : FVec Ideal S256x1 .f32)
    (G : FVec Ideal S1x1024 .f32)
    (D : FVec Ideal S256x1024 .f32)
    (W : FVec Ideal S2816x1024 .bf16)
    (s : Fin 256 → Fin 2816 → ℝ)
    (v : Fin 256 → Fin 1024 → ℝ)
    (g : Fin 1024 → ℝ)
    (d : Fin 256 → Fin 1024 → ℝ)
    (w : Fin 2816 → Fin 1024 → ℝ)
    (hS : ∀ (i : Fin 256) (k : Fin 2816), S (ix2 i k) = ((s i k : ℝ) : EReal))
    (hV : ∀ (i : Fin 256) (k : Fin 1024), V (ix2 i k) = ((v i k : ℝ) : EReal))
    (hR : ∀ (i : Fin 256) (k : Fin 1), R (ix2 i k) = ((ri (v i) : ℝ) : EReal))
    (hG : ∀ (i : Fin 1) (k : Fin 1024), G (ix2 i k) = ((g k : ℝ) : EReal))
    (hD : ∀ (i : Fin 256) (k : Fin 1024), D (ix2 i k) = ((d i k : ℝ) : EReal))
    (hW : ∀ (i : Fin 2816) (k : Fin 1024), W (ix2 i k) = ((w i k : ℝ) : EReal))
    (i : Fin 256) (k : Fin 2816) :
    k0_pay30 (F := Ideal) S V R G D W (ix2 i k) = ((lin w (rb (v i) g (d i)) k * s i k : ℝ) : EReal) := by
  pointwise [k0_pay30]
  exact p28 S V R G D W s v g d w hS hV hR hG hD hW i k

/-- The gradient in the gate, transposed. -/
theorem p31
    (P : FVec Ideal S256x2816 .f32)
    (U : FVec Ideal S256x2816 .f32)
    (S : FVec Ideal S256x2816 .f32)
    (V : FVec Ideal S256x1024 .f32)
    (R : FVec Ideal S256x1 .f32)
    (G : FVec Ideal S1x1024 .f32)
    (D : FVec Ideal S256x1024 .f32)
    (W : FVec Ideal S2816x1024 .bf16)
    (p : Fin 256 → Fin 2816 → ℝ)
    (u : Fin 256 → Fin 2816 → ℝ)
    (s : Fin 256 → Fin 2816 → ℝ)
    (v : Fin 256 → Fin 1024 → ℝ)
    (g : Fin 1024 → ℝ)
    (d : Fin 256 → Fin 1024 → ℝ)
    (w : Fin 2816 → Fin 1024 → ℝ)
    (hP : ∀ (i : Fin 256) (k : Fin 2816), P (ix2 i k) = ((p i k : ℝ) : EReal))
    (hU : ∀ (i : Fin 256) (k : Fin 2816), U (ix2 i k) = ((u i k : ℝ) : EReal))
    (hS : ∀ (i : Fin 256) (k : Fin 2816), S (ix2 i k) = ((s i k : ℝ) : EReal))
    (hV : ∀ (i : Fin 256) (k : Fin 1024), V (ix2 i k) = ((v i k : ℝ) : EReal))
    (hR : ∀ (i : Fin 256) (k : Fin 1), R (ix2 i k) = ((ri (v i) : ℝ) : EReal))
    (hG : ∀ (i : Fin 1) (k : Fin 1024), G (ix2 i k) = ((g k : ℝ) : EReal))
    (hD : ∀ (i : Fin 256) (k : Fin 1024), D (ix2 i k) = ((d i k : ℝ) : EReal))
    (hW : ∀ (i : Fin 2816) (k : Fin 1024), W (ix2 i k) = ((w i k : ℝ) : EReal))
    (i : Fin 2816) (k : Fin 256) :
    k0_pay31 (F := Ideal) P U S V R G D W (ix2 i k) = ((lin w (rb (v k) g (d k)) i * u k i * (s k i * (1 + p k i * (1 - s k i))) : ℝ) : EReal) := by
  pointwise [k0_pay31]
  exact p27 P U S V R G D W p u s v g d w hP hU hS hV hR hG hD hW k i

/-- The gradient in the value, transposed. -/
theorem p32
    (S : FVec Ideal S256x2816 .f32)
    (V : FVec Ideal S256x1024 .f32)
    (R : FVec Ideal S256x1 .f32)
    (G : FVec Ideal S1x1024 .f32)
    (D : FVec Ideal S256x1024 .f32)
    (W : FVec Ideal S2816x1024 .bf16)
    (s : Fin 256 → Fin 2816 → ℝ)
    (v : Fin 256 → Fin 1024 → ℝ)
    (g : Fin 1024 → ℝ)
    (d : Fin 256 → Fin 1024 → ℝ)
    (w : Fin 2816 → Fin 1024 → ℝ)
    (hS : ∀ (i : Fin 256) (k : Fin 2816), S (ix2 i k) = ((s i k : ℝ) : EReal))
    (hV : ∀ (i : Fin 256) (k : Fin 1024), V (ix2 i k) = ((v i k : ℝ) : EReal))
    (hR : ∀ (i : Fin 256) (k : Fin 1), R (ix2 i k) = ((ri (v i) : ℝ) : EReal))
    (hG : ∀ (i : Fin 1) (k : Fin 1024), G (ix2 i k) = ((g k : ℝ) : EReal))
    (hD : ∀ (i : Fin 256) (k : Fin 1024), D (ix2 i k) = ((d i k : ℝ) : EReal))
    (hW : ∀ (i : Fin 2816) (k : Fin 1024), W (ix2 i k) = ((w i k : ℝ) : EReal))
    (i : Fin 2816) (k : Fin 256) :
    k0_pay32 (F := Ideal) S V R G D W (ix2 i k) = ((lin w (rb (v k) g (d k)) i * s k i : ℝ) : EReal) := by
  pointwise [k0_pay32]
  exact p28 S V R G D W s v g d w hS hV hR hG hD hW k i

/-- The gradient in the normalised row. -/
theorem p1
    (P : FVec Ideal S256x2816 .bf16)
    (S : FVec Ideal S256x2816 .bf16)
    (W : FVec Ideal S2816x1024 .bf16)
    (W2 : FVec Ideal S2816x1024 .bf16)
    (p : Fin 256 → Fin 2816 → ℝ)
    (s : Fin 256 → Fin 2816 → ℝ)
    (w : Fin 2816 → Fin 1024 → ℝ)
    (w2 : Fin 2816 → Fin 1024 → ℝ)
    (hP : ∀ (i : Fin 256) (k : Fin 2816), P (ix2 i k) = ((p i k : ℝ) : EReal))
    (hS : ∀ (i : Fin 256) (k : Fin 2816), S (ix2 i k) = ((s i k : ℝ) : EReal))
    (hW : ∀ (i : Fin 2816) (k : Fin 1024), W (ix2 i k) = ((w i k : ℝ) : EReal))
    (hW2 : ∀ (i : Fin 2816) (k : Fin 1024), W2 (ix2 i k) = ((w2 i k : ℝ) : EReal))
    (i : Fin 256) (k : Fin 1024) :
    k0_pay1 (F := Ideal) P S W W2 (ix2 i k) = ((lint w (p i) k + lint w2 (s i) k : ℝ) : EReal) := by
  pointwise [k0_pay1]
  simp only [hP, hS, hW, hW2, ← EReal.coe_mul, coe_sum, ← EReal.coe_add, ← EReal.coe_sub]
  rfl

/-- The earlier gain's gradient, added up. -/
theorem p2
    (X : FVec Ideal S256x1024 .f32)
    (R : FVec Ideal S256x1 .f32)
    (P : FVec Ideal S256x2816 .bf16)
    (S : FVec Ideal S256x2816 .bf16)
    (W : FVec Ideal S2816x1024 .bf16)
    (W2 : FVec Ideal S2816x1024 .bf16)
    (B : FVec Ideal S1x1024 .f32)
    (x : Fin 256 → Fin 1024 → ℝ)
    (p : Fin 256 → Fin 2816 → ℝ)
    (s : Fin 256 → Fin 2816 → ℝ)
    (w : Fin 2816 → Fin 1024 → ℝ)
    (w2 : Fin 2816 → Fin 1024 → ℝ)
    (hX : ∀ (i : Fin 256) (k : Fin 1024), X (ix2 i k) = ((x i k : ℝ) : EReal))
    (hR : ∀ (i : Fin 256) (k : Fin 1), R (ix2 i k) = ((ri (x i) : ℝ) : EReal))
    (hP : ∀ (i : Fin 256) (k : Fin 2816), P (ix2 i k) = ((p i k : ℝ) : EReal))
    (hS : ∀ (i : Fin 256) (k : Fin 2816), S (ix2 i k) = ((s i k : ℝ) : EReal))
    (hW : ∀ (i : Fin 2816) (k : Fin 1024), W (ix2 i k) = ((w i k : ℝ) : EReal))
    (hW2 : ∀ (i : Fin 2816) (k : Fin 1024), W2 (ix2 i k) = ((w2 i k : ℝ) : EReal))
    (i : Fin 1) (k : Fin 1024) :
    k0_pay2 (F := Ideal) X R P S W W2 B (ix2 i k) = B (ix2 i k) + ((∑ r, (lint w (p r) k + lint w2 (s r) k) * x r k * ri (x r) : ℝ) : EReal) := by
  pointwise [k0_pay2]
  simp only [hX, hR, p1 P S W W2 p s w w2 hP hS hW hW2, ← EReal.coe_mul, coe_sum, ← EReal.coe_add, ← EReal.coe_sub]

/-- The layer's gradient. -/
theorem p3
    (X : FVec Ideal S256x1024 .f32)
    (R : FVec Ideal S256x1 .f32)
    (G : FVec Ideal S1x1024 .f32)
    (Y : FVec Ideal S256x1024 .f32)
    (P : FVec Ideal S256x2816 .bf16)
    (S : FVec Ideal S256x2816 .bf16)
    (W : FVec Ideal S2816x1024 .bf16)
    (W2 : FVec Ideal S2816x1024 .bf16)
    (x : Fin 256 → Fin 1024 → ℝ)
    (g : Fin 1024 → ℝ)
    (y : Fin 256 → Fin 1024 → ℝ)
    (p : Fin 256 → Fin 2816 → ℝ)
    (s : Fin 256 → Fin 2816 → ℝ)
    (w : Fin 2816 → Fin 1024 → ℝ)
    (w2 : Fin 2816 → Fin 1024 → ℝ)
    (hX : ∀ (i : Fin 256) (k : Fin 1024), X (ix2 i k) = ((x i k : ℝ) : EReal))
    (hR : ∀ (i : Fin 256) (k : Fin 1), R (ix2 i k) = ((ri (x i) : ℝ) : EReal))
    (hG : ∀ (i : Fin 1) (k : Fin 1024), G (ix2 i k) = ((g k : ℝ) : EReal))
    (hY : ∀ (i : Fin 256) (k : Fin 1024), Y (ix2 i k) = ((y i k : ℝ) : EReal))
    (hP : ∀ (i : Fin 256) (k : Fin 2816), P (ix2 i k) = ((p i k : ℝ) : EReal))
    (hS : ∀ (i : Fin 256) (k : Fin 2816), S (ix2 i k) = ((s i k : ℝ) : EReal))
    (hW : ∀ (i : Fin 2816) (k : Fin 1024), W (ix2 i k) = ((w i k : ℝ) : EReal))
    (hW2 : ∀ (i : Fin 2816) (k : Fin 1024), W2 (ix2 i k) = ((w2 i k : ℝ) : EReal))
    (i : Fin 256) (k : Fin 1024) :
    k0_pay3 (F := Ideal) X R G Y P S W W2 (ix2 i k) = ((y i k + rb (x i) g (fun c => lint w (p i) c + lint w2 (s i) c) k : ℝ) : EReal) := by
  pointwise [k0_pay3]
  simp only [hX, hR, hG, hY, p1 P S W W2 p s w w2 hP hS hW hW2, lit_1024, ← EReal.coe_mul, coe_sum, ← EReal.coe_add, ← EReal.coe_sub, div_fin _ (by norm_num : (1024 : ℝ) ≠ 0)]
  rfl

/-- The sum's start. -/
theorem p4 (i : Fin 1) (k : Fin 128) : k0_pay4 (F := Ideal) (ix2 i k) = (0 : EReal) := by
  pointwise [k0_pay4]

/-- The sum's start. -/
theorem p5 (i : Fin 1) (k : Fin 1024) : k0_pay5 (F := Ideal) (ix2 i k) = (0 : EReal) := by
  pointwise [k0_pay5]

/-- The sum's start. -/
theorem p6 (i : Fin 1) (k : Fin 1024) : k0_pay6 (F := Ideal) (ix2 i k) = (0 : EReal) := by
  pointwise [k0_pay6]

end Cert.FfnKernelIdeal.Value
end
end
-- ==== Proof.Ffn.Kernel.lean ====
/- The arrays that the kernel leaves, on finite arguments: each is the model's value, token by token. -/
module
public import proofs.«01_k».proof.Proof.Gen.FfnKernelIdeal.Frame
public import proofs.«01_k».proof.Proof.Ffn.Pay
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
namespace Cert.FfnKernelIdeal.Value
open Cert.FfnKernelIdeal Cert.FfnKernelIdeal.Gen
open Cert.Lift Cert.Ffn
variable (m : (ℓ : Loc nD τ sig) → Buf (Elt Ideal) ℓ)

/-- The index maps of the windows. -/
theorem idx : ∀ t : Fin cfg0.N, win0_0.index t = ![t.val, 0] ∧ win0_1.index t = ![t.val, 0] ∧ win0_2.index t = ![0, 0] ∧ win0_3.index t = ![0, 0]
  ∧ win0_4.index t = ![0, 0] ∧ win0_5.index t = ![0, 0] ∧ win0_6.index t = ![t.val, 0] ∧ win0_7.index t = ![t.val, 0]
  ∧ win0_8.index t = ![0, t.val] ∧ win0_9.index t = ![t.val, 0] ∧ win0_10.index t = ![0, t.val]
  ∧ win0_11.index t = ![0, 0] ∧ win0_12.index t = ![0, 0] ∧ win0_13.index t = ![0, 0] ∧ t.val < 16 :=
  (by decide +kernel : ∀ t : Fin grid0.N, _)

/-- The token at row `i` of point `t`'s block. -/
def row (t : Fin cfg0.N) (i : Fin 256) : Fin 4096 := ⟨t.val * 256 + i.val, by have := (idx t).2.2.2.2.2.2.2.2.2.2.2.2.2.2; omega⟩

/-- The arguments' arrays hold the real numbers `x`, `y` and `P`. -/
structure Holds (c : Dev nD) (x y : Fin 4096 → Fin 1024 → ℝ) (P : Par) : Prop where
  a0 : ∀ i k, m ((c : Thread nD τ).loc main_arg0) (ix2 i k) = ((x i k : ℝ) : EReal)
  a1 : ∀ i k, m ((c : Thread nD τ).loc main_arg1) (ix2 i k) = ((y i k : ℝ) : EReal)
  a2 : ∀ (i : Fin 1) k, m ((c : Thread nD τ).loc main_arg2) (ix2 i k) = ((P.g1 k : ℝ) : EReal)
  a3 : ∀ k j, m ((c : Thread nD τ).loc main_arg3) (ix2 k j) = ((P.wi k j : ℝ) : EReal)
  a4 : ∀ j k, m ((c : Thread nD τ).loc main_arg4) (ix2 j k) = ((P.wd j k : ℝ) : EReal)
  a5 : ∀ (i : Fin 1) k, m ((c : Thread nD τ).loc main_arg5) (ix2 i k) = ((P.g2 k : ℝ) : EReal)

variable {m} {c : Dev nD} {x y : Fin 4096 → Fin 1024 → ℝ} {P : Par}

theorem b0 (h : Holds m c x y P) (t : Fin cfg0.N) (i : Fin 256) (k : Fin 1024) :
    iblk m c 0 t (ix2 i k) = ((x (row t i) k : ℝ) : EReal) := by
  rw [← h.a0]; unfold row
  blk_ext [iblk, V, idx t]
theorem b1 (h : Holds m c x y P) (t : Fin cfg0.N) (i : Fin 256) (k : Fin 1024) :
    iblk m c 1 t (ix2 i k) = ((y (row t i) k : ℝ) : EReal) := by
  rw [← h.a1]; unfold row
  blk_ext [iblk, V, idx t]
theorem b4 (h : Holds m c x y P) (t : Fin cfg0.N) (i : Fin 1) (k : Fin 1024) :
    iblk m c 4 t (ix2 i k) = ((P.g1 k : ℝ) : EReal) := by
  rw [← h.a2 i]
  blk_ext [iblk, V, idx t]
theorem b5 (h : Holds m c x y P) (t : Fin cfg0.N) (i : Fin 1) (k : Fin 1024) :
    iblk m c 5 t (ix2 i k) = ((P.g2 k : ℝ) : EReal) := by
  rw [← h.a5 i]
  blk_ext [iblk, V, idx t]
theorem b3 (h : Holds m c x y P) (t : Fin cfg0.N) (j : Fin 2816) (k : Fin 1024) :
    iblk m c 3 t (ix2 j k) = ((P.wd j k : ℝ) : EReal) := by
  rw [← h.a4]
  blk_simp [iblk]
  entry_read
  pointwise
  blk_ext [idx t]
theorem b2 (t : Fin cfg0.N) (j : Fin 5632) (k : Fin 1024) :
    iblk m c 2 t (ix2 j k) = m ((c : Thread nD τ).loc main_arg3) (ix2 k j) := by
  blk_simp [iblk]
  entry_read
  pointwise
  blk_ext [idx t]
theorem b2g (h : Holds m c x y P) (t : Fin cfg0.N) (j : Fin 2816) (k : Fin 1024) :
    View.ld (iblk m c 2 t) (Rect.unit ![0, 0] ![2816, 1024] inb_S5632x1024_S2816x1024_0_0) (ix2 j k) = ((P.wg j k : ℝ) : EReal) := by
  pointwise [b2, h.a3]
  rfl
theorem b2u (h : Holds m c x y P) (t : Fin cfg0.N) (j : Fin 2816) (k : Fin 1024) :
    View.ld (iblk m c 2 t) (Rect.unit ![2816, 0] ![2816, 1024] inb_S5632x1024_S2816x1024_2816_0) (ix2 j k) = ((P.wu j k : ℝ) : EReal) := by
  pointwise [b2, h.a3]
  rfl

theorem q14 (h : Holds m c x y P) (t : Fin cfg0.N) (i : Fin 256) (k : Fin 2816) :
    (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (ix2 i k) = ((act P (x (row t i)) k : ℝ) : EReal) :=
  p14 _ _ _ _ _ _ _ _ (b0 h t) (b4 h t) (b2g h t) (b2u h t) i k

theorem q15 (h : Holds m c x y P) (t : Fin cfg0.N) (i : Fin 2816) (k : Fin 256) :
    k0_pay15 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0)) (ix2 i k) = ((act P (x (row t k)) i : ℝ) : EReal) :=
  p15 _ _ _ _ _ _ _ _ (b0 h t) (b4 h t) (b2g h t) (b2u h t) i k

theorem q9 (h : Holds m c x y P) (t : Fin cfg0.N) (i : Fin 256) (k : Fin 2816) :
    (k0_pay9 (iblk m c 0 t) (iblk m c 4 t) (View.ld (iblk m c 2 t) (Rect.unit ![0, 0] ![2816, 1024] inb_S5632x1024_S2816x1024_0_0))) (ix2 i k) = ((gg P (x (row t i)) k : ℝ) : EReal) :=
  p9 _ _ _ _ _ _ (b0 h t) (b4 h t) (b2g h t) i k

theorem q10 (h : Holds m c x y P) (t : Fin cfg0.N) (i : Fin 256) (k : Fin 2816) :
    (k0_pay10 (iblk m c 0 t) (iblk m c 4 t) (View.ld (iblk m c 2 t) (Rect.unit ![2816, 0] ![2816, 1024] inb_S5632x1024_S2816x1024_2816_0))) (ix2 i k) = ((uu P (x (row t i)) k : ℝ) : EReal) :=
  p10 _ _ _ _ _ _ (b0 h t) (b4 h t) (b2u h t) i k

theorem q11 (h : Holds m c x y P) (t : Fin cfg0.N) (i : Fin 256) (k : Fin 2816) :
    (k0_pay11 (iblk m c 0 t) (iblk m c 4 t) (View.ld (iblk m c 2 t) (Rect.unit ![0, 0] ![2816, 1024] inb_S5632x1024_S2816x1024_0_0))) (ix2 i k) = ((sgm (gg P (x (row t i)) k) : ℝ) : EReal) :=
  p11 _ _ _ _ _ _ (b0 h t) (b4 h t) (b2g h t) i k

theorem q12 (h : Holds m c x y P) (t : Fin cfg0.N) (i : Fin 256) (k : Fin 2816) :
    (k0_pay12 (iblk m c 0 t) (iblk m c 4 t) (View.ld (iblk m c 2 t) (Rect.unit ![0, 0] ![2816, 1024] inb_S5632x1024_S2816x1024_0_0))) (ix2 i k) = ((gg P (x (row t i)) k * sgm (gg P (x (row t i)) k) : ℝ) : EReal) :=
  p12 _ _ _ _ _ _ (b0 h t) (b4 h t) (b2g h t) i k

theorem q16 (h : Holds m c x y P) (t : Fin cfg0.N) (i : Fin 256) (k : Fin 1024) :
    (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (ix2 i k) = ((ff P (x (row t i)) k : ℝ) : EReal) :=
  p16 _ _ _ _ (q14 h t) (b3 h t) i k

theorem q17 (h : Holds m c x y P) (t : Fin cfg0.N) (i : Fin 256) (k : Fin 1) :
    (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (ix2 i k) = ((ri (ff P (x (row t i))) : ℝ) : EReal) :=
  p17 _ _ _ _ (q14 h t) (b3 h t) i k

theorem q20 (h : Holds m c x y P) (t : Fin cfg0.N) (i : Fin 256) (k : Fin 1024) :
    (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (ix2 i k) = ((dy P (x (row t i)) (y (row t i)) k : ℝ) : EReal) :=
  p20 _ _ _ _ _ _ _ _ _ _ (b0 h t) (q14 h t) (b3 h t) (b5 h t) (b1 h t) i k

theorem q19 (h : Holds m c x y P) (t : Fin cfg0.N) (B : FVec Ideal S1x128 .f32) (i : Fin 1) (k : Fin 128) :
    k0_pay19 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t) B (ix2 i k) = B (ix2 i k) + ((∑ r, loss P (x (row t r)) (y (row t r)) : ℝ) : EReal) :=
  by
  rw [p19 _ _ _ _ _ B _ _ _ _ _ (b0 h t) (q14 h t) (b3 h t) (b5 h t) (b1 h t) i k, Finset.sum_mul]; rfl

theorem q24 (h : Holds m c x y P) (t : Fin cfg0.N) (B : FVec Ideal S1x1024 .f32) (i : Fin 1) (k : Fin 1024) :
    k0_pay24 B (k0_pay22 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (k0_pay23 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (ix2 i k) = B (ix2 i k) + ((∑ r, dpost P (x (row t r)) (y (row t r)) k : ℝ) : EReal) :=
  p24 B _ _ _ _ (p22 _ _ _ _ _ _ _ _ _ _ (b0 h t) (q14 h t) (b3 h t) (b5 h t) (b1 h t)) (p23 _ _ _ _ (q14 h t) (b3 h t)) i k

theorem q25 (h : Holds m c x y P) (t : Fin cfg0.N) (i : Fin 256) (k : Fin 1024) :
    k0_pay25 (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (ix2 i k) = ((dff P (x (row t i)) (y (row t i)) k : ℝ) : EReal) :=
  p25 _ _ _ _ _ _ _ (q16 h t) (q17 h t) (b5 h t) (q20 h t) i k

theorem q29 (h : Holds m c x y P) (t : Fin cfg0.N) (i : Fin 256) (k : Fin 2816) :
    (k0_pay29 (k0_pay9 (iblk m c 0 t) (iblk m c 4 t) (View.ld (iblk m c 2 t) (Rect.unit ![0, 0] ![2816, 1024] inb_S5632x1024_S2816x1024_0_0))) (k0_pay10 (iblk m c 0 t) (iblk m c 4 t) (View.ld (iblk m c 2 t) (Rect.unit ![2816, 0] ![2816, 1024] inb_S5632x1024_S2816x1024_2816_0))) (k0_pay11 (iblk m c 0 t) (iblk m c 4 t) (View.ld (iblk m c 2 t) (Rect.unit ![0, 0] ![2816, 1024] inb_S5632x1024_S2816x1024_0_0))) (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (iblk m c 3 t)) (ix2 i k) = ((dgg P (x (row t i)) (y (row t i)) k : ℝ) : EReal) :=
  p29 _ _ _ _ _ _ _ _ _ _ _ _ _ _ _ (q9 h t) (q10 h t) (q11 h t) (q16 h t) (q17 h t) (b5 h t) (q20 h t) (b3 h t) i k

theorem q30 (h : Holds m c x y P) (t : Fin cfg0.N) (i : Fin 256) (k : Fin 2816) :
    (k0_pay30 (k0_pay12 (iblk m c 0 t) (iblk m c 4 t) (View.ld (iblk m c 2 t) (Rect.unit ![0, 0] ![2816, 1024] inb_S5632x1024_S2816x1024_0_0))) (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (iblk m c 3 t)) (ix2 i k) = ((duu P (x (row t i)) (y (row t i)) k : ℝ) : EReal) :=
  p30 _ _ _ _ _ _ _ _ _ _ _ (q12 h t) (q16 h t) (q17 h t) (b5 h t) (q20 h t) (b3 h t) i k

theorem q31 (h : Holds m c x y P) (t : Fin cfg0.N) (i : Fin 2816) (k : Fin 256) :
    k0_pay31 (k0_pay9 (iblk m c 0 t) (iblk m c 4 t) (View.ld (iblk m c 2 t) (Rect.unit ![0, 0] ![2816, 1024] inb_S5632x1024_S2816x1024_0_0))) (k0_pay10 (iblk m c 0 t) (iblk m c 4 t) (View.ld (iblk m c 2 t) (Rect.unit ![2816, 0] ![2816, 1024] inb_S5632x1024_S2816x1024_2816_0))) (k0_pay11 (iblk m c 0 t) (iblk m c 4 t) (View.ld (iblk m c 2 t) (Rect.unit ![0, 0] ![2816, 1024] inb_S5632x1024_S2816x1024_0_0))) (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (iblk m c 3 t) (ix2 i k) = ((dgg P (x (row t k)) (y (row t k)) i : ℝ) : EReal) :=
  p31 _ _ _ _ _ _ _ _ _ _ _ _ _ _ _ (q9 h t) (q10 h t) (q11 h t) (q16 h t) (q17 h t) (b5 h t) (q20 h t) (b3 h t) i k

theorem q32 (h : Holds m c x y P) (t : Fin cfg0.N) (i : Fin 2816) (k : Fin 256) :
    k0_pay32 (k0_pay12 (iblk m c 0 t) (iblk m c 4 t) (View.ld (iblk m c 2 t) (Rect.unit ![0, 0] ![2816, 1024] inb_S5632x1024_S2816x1024_0_0))) (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (iblk m c 3 t) (ix2 i k) = ((duu P (x (row t k)) (y (row t k)) i : ℝ) : EReal) :=
  p32 _ _ _ _ _ _ _ _ _ _ _ (q12 h t) (q16 h t) (q17 h t) (b5 h t) (q20 h t) (b3 h t) i k

theorem q2 (h : Holds m c x y P) (t : Fin cfg0.N) (B : FVec Ideal S1x1024 .f32) (i : Fin 1) (k : Fin 1024) :
    k0_pay2 (iblk m c 0 t) (k0_pay7 (iblk m c 0 t)) (k0_pay29 (k0_pay9 (iblk m c 0 t) (iblk m c 4 t) (View.ld (iblk m c 2 t) (Rect.unit ![0, 0] ![2816, 1024] inb_S5632x1024_S2816x1024_0_0))) (k0_pay10 (iblk m c 0 t) (iblk m c 4 t) (View.ld (iblk m c 2 t) (Rect.unit ![2816, 0] ![2816, 1024] inb_S5632x1024_S2816x1024_2816_0))) (k0_pay11 (iblk m c 0 t) (iblk m c 4 t) (View.ld (iblk m c 2 t) (Rect.unit ![0, 0] ![2816, 1024] inb_S5632x1024_S2816x1024_0_0))) (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (iblk m c 3 t)) (k0_pay30 (k0_pay12 (iblk m c 0 t) (iblk m c 4 t) (View.ld (iblk m c 2 t) (Rect.unit ![0, 0] ![2816, 1024] inb_S5632x1024_S2816x1024_0_0))) (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (iblk m c 3 t)) (View.ld (iblk m c 2 t) (Rect.unit ![0, 0] ![2816, 1024] inb_S5632x1024_S2816x1024_0_0)) (View.ld (iblk m c 2 t) (Rect.unit ![2816, 0] ![2816, 1024] inb_S5632x1024_S2816x1024_2816_0)) B (ix2 i k) = B (ix2 i k) + ((∑ r, dpre P (x (row t r)) (y (row t r)) k : ℝ) : EReal) :=
  p2 _ _ _ _ _ _ B _ _ _ _ _ (b0 h t) (p7 _ _ (b0 h t)) (q29 h t) (q30 h t) (b2g h t) (b2u h t) i k

theorem q3 (h : Holds m c x y P) (t : Fin cfg0.N) (i : Fin 256) (k : Fin 1024) :
    k0_pay3 (iblk m c 0 t) (k0_pay7 (iblk m c 0 t)) (iblk m c 4 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (k0_pay29 (k0_pay9 (iblk m c 0 t) (iblk m c 4 t) (View.ld (iblk m c 2 t) (Rect.unit ![0, 0] ![2816, 1024] inb_S5632x1024_S2816x1024_0_0))) (k0_pay10 (iblk m c 0 t) (iblk m c 4 t) (View.ld (iblk m c 2 t) (Rect.unit ![2816, 0] ![2816, 1024] inb_S5632x1024_S2816x1024_2816_0))) (k0_pay11 (iblk m c 0 t) (iblk m c 4 t) (View.ld (iblk m c 2 t) (Rect.unit ![0, 0] ![2816, 1024] inb_S5632x1024_S2816x1024_0_0))) (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (iblk m c 3 t)) (k0_pay30 (k0_pay12 (iblk m c 0 t) (iblk m c 4 t) (View.ld (iblk m c 2 t) (Rect.unit ![0, 0] ![2816, 1024] inb_S5632x1024_S2816x1024_0_0))) (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (iblk m c 3 t)) (View.ld (iblk m c 2 t) (Rect.unit ![0, 0] ![2816, 1024] inb_S5632x1024_S2816x1024_0_0)) (View.ld (iblk m c 2 t) (Rect.unit ![2816, 0] ![2816, 1024] inb_S5632x1024_S2816x1024_2816_0)) (ix2 i k) = ((dx P (x (row t i)) (y (row t i)) k : ℝ) : EReal) :=
  p3 _ _ _ _ _ _ _ _ _ _ _ _ _ _ _ (b0 h t) (p7 _ _ (b0 h t)) (b4 h t) (q20 h t) (q29 h t) (q30 h t) (b2g h t) (b2u h t) i k

theorem q8 (h : Holds m c x y P) (t : Fin cfg0.N) (i : Fin 256) (k : Fin 1024) :
    k0_pay8 (iblk m c 0 t) (iblk m c 4 t) (ix2 i k) = ((h2 P (x (row t i)) k : ℝ) : EReal) :=
  p8 _ _ _ _ (b0 h t) (b4 h t) i k

/-- The layer's gradient. -/
theorem final6 (h : Holds m c x y P) : (dats m 0 c).arrAt 6 cfg0.N
    = (fun i => ((dx P (x (i 0)) (y (i 0)) (i 1) : ℝ) : EReal) : FVec Ideal S4096x1024 .f32) := by
  refine (dats m 0 c).arrAt_eq_of_covers 6 _ (by decide +kernel) fun t hf z => ?_
  blk_simp
  rw [after0_6]
  have e : ∀ z : S256x1024.Idx, (((View.whole main_v3_0).slice (win0_6.rect t)).emb z) = ix2 (row t (z 0)) (z 1) := by
    intro z; unfold row; blk_ext [idx t]
  rw [e]
  have pt : ∀ z : S256x1024.Idx, k0_pay3 (iblk m c 0 t) (k0_pay7 (iblk m c 0 t)) (iblk m c 4 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (k0_pay29 (k0_pay9 (iblk m c 0 t) (iblk m c 4 t) (View.ld (iblk m c 2 t) (Rect.unit ![0, 0] ![2816, 1024] inb_S5632x1024_S2816x1024_0_0))) (k0_pay10 (iblk m c 0 t) (iblk m c 4 t) (View.ld (iblk m c 2 t) (Rect.unit ![2816, 0] ![2816, 1024] inb_S5632x1024_S2816x1024_2816_0))) (k0_pay11 (iblk m c 0 t) (iblk m c 4 t) (View.ld (iblk m c 2 t) (Rect.unit ![0, 0] ![2816, 1024] inb_S5632x1024_S2816x1024_0_0))) (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (iblk m c 3 t)) (k0_pay30 (k0_pay12 (iblk m c 0 t) (iblk m c 4 t) (View.ld (iblk m c 2 t) (Rect.unit ![0, 0] ![2816, 1024] inb_S5632x1024_S2816x1024_0_0))) (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (iblk m c 3 t)) (View.ld (iblk m c 2 t) (Rect.unit ![0, 0] ![2816, 1024] inb_S5632x1024_S2816x1024_0_0)) (View.ld (iblk m c 2 t) (Rect.unit ![2816, 0] ![2816, 1024] inb_S5632x1024_S2816x1024_2816_0)) z = _ := fun z => (congrArg _ (eq_ix2 z)).trans (q3 h t (z 0) (z 1))
  by_cases h0 : t.val % 16 = 0
  · rw [outsAt0_A m c t h0]; frame_out
    exact pt z
  · rw [outsAt0_B m c t h0]; frame_out
    exact pt z

/-- The normalised rows. -/
theorem final7 (h : Holds m c x y P) : (dats m 0 c).arrAt 7 cfg0.N
    = (fun i => ((h2 P (x (i 0)) (i 1) : ℝ) : EReal) : FVec Ideal S4096x1024 .bf16) := by
  refine (dats m 0 c).arrAt_eq_of_covers 7 _ (by decide +kernel) fun t hf z => ?_
  blk_simp
  rw [after0_7]
  have e : ∀ z : S256x1024.Idx, (((View.whole main_v3_1).slice (win0_7.rect t)).emb z) = ix2 (row t (z 0)) (z 1) := by
    intro z; unfold row; blk_ext [idx t]
  rw [e]
  have pt : ∀ z : S256x1024.Idx, k0_pay8 (iblk m c 0 t) (iblk m c 4 t) z = _ := fun z => (congrArg _ (eq_ix2 z)).trans (q8 h t (z 0) (z 1))
  by_cases h0 : t.val % 16 = 0
  · rw [outsAt0_A m c t h0]; frame_out
    exact pt z
  · rw [outsAt0_B m c t h0]; frame_out
    exact pt z

/-- The gated values, transposed. -/
theorem final8 (h : Holds m c x y P) : (dats m 0 c).arrAt 8 cfg0.N
    = (fun i => ((act P (x (i 1)) (i 0) : ℝ) : EReal) : FVec Ideal S2816x4096 .bf16) := by
  refine (dats m 0 c).arrAt_eq_of_covers 8 _ (by decide +kernel) fun t hf z => ?_
  blk_simp
  rw [after0_8]
  have e : ∀ z : S2816x256.Idx, (((View.whole main_v3_2).slice (win0_8.rect t)).emb z) = ix2 (z 0) (row t (z 1)) := by
    intro z; unfold row; blk_ext [idx t]
  rw [e]
  have pt : ∀ z : S2816x256.Idx, k0_pay15 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0)) z = _ := fun z => (congrArg _ (eq_ix2 z)).trans (q15 h t (z 0) (z 1))
  by_cases h0 : t.val % 16 = 0
  · rw [outsAt0_A m c t h0]; frame_out
    exact pt z
  · rw [outsAt0_B m c t h0]; frame_out
    exact pt z

/-- The gradient in the way down. -/
theorem final9 (h : Holds m c x y P) : (dats m 0 c).arrAt 9 cfg0.N
    = (fun i => ((dff P (x (i 0)) (y (i 0)) (i 1) : ℝ) : EReal) : FVec Ideal S4096x1024 .bf16) := by
  refine (dats m 0 c).arrAt_eq_of_covers 9 _ (by decide +kernel) fun t hf z => ?_
  blk_simp
  rw [after0_9]
  have e : ∀ z : S256x1024.Idx, (((View.whole main_v3_3).slice (win0_9.rect t)).emb z) = ix2 (row t (z 0)) (z 1) := by
    intro z; unfold row; blk_ext [idx t]
  rw [e]
  have pt : ∀ z : S256x1024.Idx, k0_pay25 (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) z = _ := fun z => (congrArg _ (eq_ix2 z)).trans (q25 h t (z 0) (z 1))
  by_cases h0 : t.val % 16 = 0
  · rw [outsAt0_A m c t h0]; frame_out
    exact pt z
  · rw [outsAt0_B m c t h0]; frame_out
    exact pt z

end Cert.FfnKernelIdeal.Value
end
end
-- ==== Proof.Ffn.Kernel2.lean ====
/- The gate's transposed gradient and the three sums that the kernel adds up over the tokens. -/
module
public import proofs.«01_k».proof.Proof.Ffn.Kernel
@[expose] public section
set_option maxRecDepth 16384
noncomputable section
open Idealize.ShloMosaic Idealize.ShloMosaic.TcCoe Idealize.SL.Sem
open Idealize.ShloMosaic.Pipeline (Dat)
namespace Cert.FfnKernelIdeal.Value
open Cert.FfnKernelIdeal Cert.FfnKernelIdeal.Gen
open Cert.Lift Cert.Ffn
variable {m : (ℓ : Loc nD τ sig) → Buf (Elt Ideal) ℓ} {c : Dev nD} {x y : Fin 4096 → Fin 1024 → ℝ} {P : Par}

/-- The gradients in the gate and in the value, transposed. -/
theorem final10 (h : Holds m c x y P) : (dats m 0 c).arrAt 10 cfg0.N
    = (fun i => ((dgu P (x (i 1)) (y (i 1)) (i 0) : ℝ) : EReal) : FVec Ideal S5632x4096 .bf16) := by
  refine (dats m 0 c).arrAt_eq_of_covers 10 _ (by decide +kernel) fun t hf z => ?_
  blk_simp
  rw [after0_10]
  have e : ∀ z : S5632x256.Idx, (((View.whole main_v3_4).slice (win0_10.rect t)).emb z) = ix2 (z 0) (row t (z 1)) := by
    intro z; unfold row; blk_ext [idx t]
  rw [e]
  have hi : ∀ w : S2816x256.Idx, k0_pay32 (k0_pay12 (iblk m c 0 t) (iblk m c 4 t) (View.ld (iblk m c 2 t) (Rect.unit ![0, 0] ![2816, 1024] inb_S5632x1024_S2816x1024_0_0))) (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (iblk m c 3 t) w = _ := fun w => (congrArg _ (eq_ix2 w)).trans (q32 h t (w 0) (w 1))
  have lo : ∀ w : S2816x256.Idx, k0_pay31 (k0_pay9 (iblk m c 0 t) (iblk m c 4 t) (View.ld (iblk m c 2 t) (Rect.unit ![0, 0] ![2816, 1024] inb_S5632x1024_S2816x1024_0_0))) (k0_pay10 (iblk m c 0 t) (iblk m c 4 t) (View.ld (iblk m c 2 t) (Rect.unit ![2816, 0] ![2816, 1024] inb_S5632x1024_S2816x1024_2816_0))) (k0_pay11 (iblk m c 0 t) (iblk m c 4 t) (View.ld (iblk m c 2 t) (Rect.unit ![0, 0] ![2816, 1024] inb_S5632x1024_S2816x1024_0_0))) (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (iblk m c 3 t) w = _ := fun w => (congrArg _ (eq_ix2 w)).trans (q31 h t (w 0) (w 1))
  have fhi : ∀ (w : S2816x256.Idx) (z : S5632x256.Idx), (z 0).val = 2816 + (w 0).val → (z 1).val = (w 1).val →
      ((duu P (x (row t (w 1))) (y (row t (w 1))) (w 0) : ℝ) : EReal)
        = ((dgu P (x (row t (z 1))) (y (row t (z 1))) (z 0) : ℝ) : EReal) := fun w z h0 h1 => by
    rw [dgu_hi P _ _ (z 0) (w 0) h0, show (z 1 : Fin 256) = w 1 from Fin.ext h1]
  have flo : ∀ (w : S2816x256.Idx) (z : S5632x256.Idx), (z 0).val = (w 0).val → (z 1).val = (w 1).val →
      ((dgg P (x (row t (w 1))) (y (row t (w 1))) (w 0) : ℝ) : EReal)
        = ((dgu P (x (row t (z 1))) (y (row t (z 1))) (z 0) : ℝ) : EReal) := fun w z h0 h1 => by
    rw [dgu_lo P _ _ (z 0) (w 0) h0, show (z 1 : Fin 256) = w 1 from Fin.ext h1]
  by_cases h0 : t.val % 16 = 0
  · rw [outsAt0_A m c t h0]; frame_out
    canon_tiles w hw
    · exact (hi w).trans (fhi w z hw0 hw1)
    · exact (lo w).trans (flo w z hw0 hw1)
  · rw [outsAt0_B m c t h0]; frame_out
    canon_tiles w hw
    · exact (hi w).trans (fhi w z hw0 hw1)
    · exact (lo w).trans (flo w z hw0 hw1)

/-- The blocks' sums are the sum over all tokens. -/
theorem sum_blocks (f : Fin 4096 → ℝ) : ∑ p : Fin cfg0.N, ((∑ r : Fin 256, f (row p r) : ℝ) : EReal) = ((∑ r, f r : ℝ) : EReal) := by
  rw [coe_sum]
  exact congrArg _ (Fin.sum_mul_add_fin (L := 4096) 16 256 f)

/-- The loss. -/
theorem final11 (h : Holds m c x y P) : (dats m 0 c).arrAt 11 cfg0.N
    = (fun i => ((∑ r : Fin 4096, loss P (x r) (y r) : ℝ) : EReal) : FVec Ideal S1x128 .f32) := by
  refine (dats m 0 c).arrAt_eq_of_after_last 11 t0_15 (by decide +kernel) _ fun z => ?_
  blk_simp
  rw [after0_11]
  have pt : ∀ (t : Fin cfg0.N) (B : FVec Ideal S1x128 .f32) (j : S1x128.Idx), k0_pay19 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t) B j
      = B j + ((∑ r, loss P (x (row t r)) (y (row t r)) : ℝ) : EReal) := fun t B j => by
    have := q19 h t B (j 0) (j 1)
    rwa [← eq_ix2 j] at this
  have z0 : ∀ j : S1x128.Idx, k0_pay4 (F := Ideal) j = (0 : EReal) := fun j => (congrArg _ (eq_ix2 j)).trans (p4 (j 0) (j 1))
  have key := Pipeline.eq_sum_fin_of_reset_step_apply_last (fun n h => (outsAt0 m c n h).2.2.2.2.2.1) 16 (fun _ => (0 : EReal))
    (fun t j => ((∑ r, loss P (x (row t r)) (y (row t r)) : ℝ) : EReal))
    (fun t h0 j => by
      rw [outsAt0_A m c t h0]; frame_out
      exact (pt t _ j).trans (congrArg (· + _) (z0 j)))
    (fun t h0 j => by
      rw [outsAt0_B m c t h0]; frame_out
      exact pt t _ j) (by decide) t0_15 rfl z
  exact (key.trans (zero_add _)).trans (sum_blocks fun r => loss P (x r) (y r))

/-- The later gain's gradient, one point added. -/
theorem q24' (h : Holds m c x y P) (t : Fin cfg0.N) (B : FVec Ideal S1x1024 .f32) (i : Fin 1) (k : Fin 1024) :
    k0_pay24 (k0_pay21 B) (k0_pay22 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (k0_pay23 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (ix2 i k) = B (ix2 i k) + ((∑ r, dpost P (x (row t r)) (y (row t r)) k : ℝ) : EReal) := by
  rw [q24 h t (k0_pay21 B) i k]
  exact congrArg (· + _) (by pointwise [k0_pay21])

/-- The later gain's gradient. -/
theorem final12 (h : Holds m c x y P) : (dats m 0 c).arrAt 12 cfg0.N
    = (fun i => ((∑ r : Fin 4096, dpost P (x r) (y r) (i 1) : ℝ) : EReal) : FVec Ideal S1x1024 .f32) := by
  refine (dats m 0 c).arrAt_eq_of_after_last 12 t0_15 (by decide +kernel) _ fun z => ?_
  blk_simp
  rw [after0_12]
  have pt : ∀ (t : Fin cfg0.N) (B : FVec Ideal S1x1024 .f32) (j : S1x1024.Idx), k0_pay24 (k0_pay21 B) (k0_pay22 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (k0_pay23 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) j
      = B j + ((∑ r, dpost P (x (row t r)) (y (row t r)) (j 1) : ℝ) : EReal) := fun t B j => by
    have := q24' h t B (j 0) (j 1)
    rwa [← eq_ix2 j] at this
  have z0 : ∀ j : S1x1024.Idx, k0_pay5 (F := Ideal) j = (0 : EReal) := fun j => (congrArg _ (eq_ix2 j)).trans (p5 (j 0) (j 1))
  have key := Pipeline.eq_sum_fin_of_reset_step_apply_last (fun n h => (outsAt0 m c n h).2.2.2.2.2.2.1) 16 (fun _ => (0 : EReal))
    (fun t j => ((∑ r, dpost P (x (row t r)) (y (row t r)) (j 1) : ℝ) : EReal))
    (fun t h0 j => by
      rw [outsAt0_A m c t h0]; frame_out
      exact (pt t _ j).trans (congrArg (· + _) (z0 j)))
    (fun t h0 j => by
      rw [outsAt0_B m c t h0]; frame_out
      exact pt t _ j) (by decide) t0_15 rfl z
  exact (key.trans (zero_add _)).trans (sum_blocks fun r => dpost P (x r) (y r) (z 1))

/-- The earlier gain's gradient. -/
theorem final13 (h : Holds m c x y P) : (dats m 0 c).arrAt 13 cfg0.N
    = (fun i => ((∑ r : Fin 4096, dpre P (x r) (y r) (i 1) : ℝ) : EReal) : FVec Ideal S1x1024 .f32) := by
  refine (dats m 0 c).arrAt_eq_of_after_last 13 t0_15 (by decide +kernel) _ fun z => ?_
  blk_simp
  rw [after0_13]
  have pt : ∀ (t : Fin cfg0.N) (B : FVec Ideal S1x1024 .f32) (j : S1x1024.Idx), k0_pay2 (iblk m c 0 t) (k0_pay7 (iblk m c 0 t)) (k0_pay29 (k0_pay9 (iblk m c 0 t) (iblk m c 4 t) (View.ld (iblk m c 2 t) (Rect.unit ![0, 0] ![2816, 1024] inb_S5632x1024_S2816x1024_0_0))) (k0_pay10 (iblk m c 0 t) (iblk m c 4 t) (View.ld (iblk m c 2 t) (Rect.unit ![2816, 0] ![2816, 1024] inb_S5632x1024_S2816x1024_2816_0))) (k0_pay11 (iblk m c 0 t) (iblk m c 4 t) (View.ld (iblk m c 2 t) (Rect.unit ![0, 0] ![2816, 1024] inb_S5632x1024_S2816x1024_0_0))) (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (iblk m c 3 t)) (k0_pay30 (k0_pay12 (iblk m c 0 t) (iblk m c 4 t) (View.ld (iblk m c 2 t) (Rect.unit ![0, 0] ![2816, 1024] inb_S5632x1024_S2816x1024_0_0))) (k0_pay16 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (k0_pay17 (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t)) (iblk m c 5 t) (k0_pay20 (iblk m c 0 t) (k0_pay14 (iblk m c 0 t) (iblk m c 4 t) (View.ld (iblk m c 2 t) (Rect.unit ![0, 0] ![2816, 1024] inb_S5632x1024_S2816x1024_0_0)) (View.ld (iblk m c 2 t) (Rect.unit ![2816, 0] ![2816, 1024] inb_S5632x1024_S2816x1024_2816_0))) (iblk m c 3 t) (iblk m c 5 t) (iblk m c 1 t)) (iblk m c 3 t)) (View.ld (iblk m c 2 t) (Rect.unit ![0, 0] ![2816, 1024] inb_S5632x1024_S2816x1024_0_0)) (View.ld (iblk m c 2 t) (Rect.unit ![2816, 0] ![2816, 1024] inb_S5632x1024_S2816x1024_2816_0)) B j
      = B j + ((∑ r, dpre P (x (row t r)) (y (row t r)) (j 1) : ℝ) : EReal) := fun t B j => by
    have := q2 h t B (j 0) (j 1)
    rwa [← eq_ix2 j] at this
  have z0 : ∀ j : S1x1024.Idx, k0_pay6 (F := Ideal) j = (0 : EReal) := fun j => (congrArg _ (eq_ix2 j)).trans (p6 (j 0) (j 1))
  have key := Pipeline.eq_sum_fin_of_reset_step_apply_last (fun n h => (outsAt0 m c n h).2.2.2.2.2.2.2) 16 (fun _ => (0 : EReal))
    (fun t j => ((∑ r, dpre P (x (row t r)) (y (row t r)) (j 1) : ℝ) : EReal))
    (fun t h0 j => by
      rw [outsAt0_A m c t h0]; frame_out
      exact (pt t _ j).trans (congrArg (· + _) (z0 j)))
    (fun t h0 j => by
      rw [outsAt0_B m c t h0]; frame_out
      exact pt t _ j) (by decide) t0_15 rfl z
  exact (key.trans (zero_add _)).trans (sum_blocks fun r => dpre P (x r) (y r) (z 1))

end Cert.FfnKernelIdeal.Value
end
end
-- ==== Proof.Ffn.Reference.lean ====
/- The reference's values on finite arguments: each is the model's value, token by token. -/
module
public import proofs.«01_k».proof.Proof.Gen.FfnReferenceIdeal.Read
public import proofs.«01_k».proof.Proof.Ffn.Model
public import Idealize.ShloMosaic.Lib.Pointwise
@[expose] public section
set_option maxRecDepth 16384
noncomputable section
open Idealize.ShloMosaic Idealize.ShloMosaic.TcCoe Idealize.SL.Sem
namespace Cert.FfnReferenceIdeal.Value
open Cert.FfnReferenceIdeal Cert.FfnReferenceIdeal.Gen Cert.FfnReferenceIdeal.Read
open Cert.Lift Cert.Ffn

/-- The arguments hold the real numbers `x`, `y` and `P`. -/
structure Holds (X0 X1 : FVec Ideal S4096x1024 .f32) (X2 : FVec Ideal S1x1024 .f32) (X3 : FVec Ideal S1024x5632 .f32)
    (X4 : FVec Ideal S2816x1024 .f32) (X5 : FVec Ideal S1x1024 .f32) (x y : Fin 4096 → Fin 1024 → ℝ) (P : Par) : Prop where
  a0 : ∀ i k, X0 (ix2 i k) = ((x i k : ℝ) : EReal)
  a1 : ∀ i k, X1 (ix2 i k) = ((y i k : ℝ) : EReal)
  a2 : ∀ i k, X2 (ix2 i k) = ((P.g1 k : ℝ) : EReal)
  a3 : ∀ k j, X3 (ix2 k j) = ((P.wi k j : ℝ) : EReal)
  a4 : ∀ j k, X4 (ix2 j k) = ((P.wd j k : ℝ) : EReal)
  a5 : ∀ i k, X5 (ix2 i k) = ((P.g2 k : ℝ) : EReal)

variable {X0 X1 : FVec Ideal S4096x1024 .f32} {X2 : FVec Ideal S1x1024 .f32} {X3 : FVec Ideal S1024x5632 .f32}
    {X4 : FVec Ideal S2816x1024 .f32} {X5 : FVec Ideal S1x1024 .f32} {x y : Fin 4096 → Fin 1024 → ℝ} {P : Par}

theorem r6 (h : Holds X0 X1 X2 X3 X4 X5 x y P) (i : Fin 4096) (k : Fin 1) :
    val_main_v6 (F := Ideal) X0 (ix2 i k) = ((ms (x i) : ℝ) : EReal) := by
  pointwise [val_main_v6, val_main_v5, val_main_v4, val_main_v3, val_main_v2, val_main_v1, val_main_v0, val_main_cst, val_main_cst_0, val_main_cst_1]
  simp only [h.a0, lit_1024, lit_eps, div_fin _ (by norm_num : (1024 : ℝ) ≠ 0), ← EReal.coe_mul, coe_sum, ← EReal.coe_add, ← EReal.coe_sub, ← EReal.coe_neg]
  rfl

theorem r7 (h : Holds X0 X1 X2 X3 X4 X5 x y P) (i : Fin 4096) (k : Fin 1) :
    val_main_v7 (F := Ideal) X0 (ix2 i k) = ((ri (x i) : ℝ) : EReal) := by
  pointwise [val_main_v7]
  simp only [r6 h, ← EReal.coe_mul, coe_sum, ← EReal.coe_add, ← EReal.coe_sub, ← EReal.coe_neg]
  exact rsqrt_fin (ms_pos (x i))

theorem r12 (h : Holds X0 X1 X2 X3 X4 X5 x y P) (i : Fin 4096) (k : Fin 1024) :
    val_main_v12 (F := Ideal) X0 (ix2 i k) = ((x i k * ri (x i) : ℝ) : EReal) := by
  pointwise [val_main_v12, val_main_v11]
  simp only [h.a0, r7 h, ← EReal.coe_mul, coe_sum, ← EReal.coe_add, ← EReal.coe_sub, ← EReal.coe_neg]

theorem r14 (h : Holds X0 X1 X2 X3 X4 X5 x y P) (i : Fin 4096) (k : Fin 1024) :
    val_main_v14 (F := Ideal) X0 X2 (ix2 i k) = ((h2 P (x i) k : ℝ) : EReal) := by
  pointwise [val_main_v14, val_main_v13]
  simp only [h.a2, r12 h, ← EReal.coe_mul, coe_sum, ← EReal.coe_add, ← EReal.coe_sub, ← EReal.coe_neg]
  rfl

theorem r16 (h : Holds X0 X1 X2 X3 X4 X5 x y P) (i : Fin 4096) (k : Fin 2816) :
    val_main_v16 (F := Ideal) X0 X2 X3 (ix2 i k) = ((gg P (x i) k : ℝ) : EReal) := by
  pointwise [val_main_v16, val_main_v15]
  simp only [h.a3, r14 h, ← EReal.coe_mul, coe_sum, ← EReal.coe_add, ← EReal.coe_sub, ← EReal.coe_neg]
  rfl

theorem r18 (h : Holds X0 X1 X2 X3 X4 X5 x y P) (i : Fin 4096) (k : Fin 2816) :
    val_main_v18 (F := Ideal) X0 X2 X3 (ix2 i k) = ((uu P (x i) k : ℝ) : EReal) := by
  pointwise [val_main_v18, val_main_v15]
  simp only [h.a3, r14 h, ← EReal.coe_mul, coe_sum, ← EReal.coe_add, ← EReal.coe_sub, ← EReal.coe_neg]
  rfl

theorem r17_2 (h : Holds X0 X1 X2 X3 X4 X5 x y P) (i : Fin 4096) (k : Fin 2816) :
    val_main_v17_2 (F := Ideal) X0 X2 X3 (ix2 i k) = ((sgm (gg P (x i) k) : ℝ) : EReal) := by
  pointwise [val_main_v17_2, val_main_call0_v4, val_main_call0_v3, val_main_call0_v2, val_main_call0_v1, val_main_call0_v0, val_main_call0_cst, val_main_call0_cst_0]
  simp only [r16 h, one_fin, Ideal.exp_coe, ← EReal.coe_mul, coe_sum, ← EReal.coe_add, ← EReal.coe_sub, ← EReal.coe_neg]
  exact div_fin _ (one_add_exp_ne _)

theorem r17_1 (h : Holds X0 X1 X2 X3 X4 X5 x y P) (i : Fin 4096) (k : Fin 2816) :
    val_main_v17_1 (F := Ideal) X0 X2 X3 (ix2 i k) = ((sgm (gg P (x i) k) * (1 - sgm (gg P (x i) k)) : ℝ) : EReal) := by
  pointwise [val_main_v17_1, val_main_call0_v7, val_main_call0_v6, val_main_call0_cst_1]
  simp only [r17_2 h, one_fin, ← EReal.coe_mul, coe_sum, ← EReal.coe_add, ← EReal.coe_sub, ← EReal.coe_neg]

theorem r17_0 (h : Holds X0 X1 X2 X3 X4 X5 x y P) (i : Fin 4096) (k : Fin 2816) :
    val_main_v17_0 (F := Ideal) X0 X2 X3 (ix2 i k) = ((gg P (x i) k * sgm (gg P (x i) k) : ℝ) : EReal) := by
  pointwise [val_main_v17_0]
  simp only [r17_2 h, r16 h, ← EReal.coe_mul, coe_sum, ← EReal.coe_add, ← EReal.coe_sub, ← EReal.coe_neg]

theorem r19 (h : Holds X0 X1 X2 X3 X4 X5 x y P) (i : Fin 4096) (k : Fin 2816) :
    val_main_v19 (F := Ideal) X0 X2 X3 (ix2 i k) = ((act P (x i) k : ℝ) : EReal) := by
  pointwise [val_main_v19]
  simp only [r17_0 h, r18 h, ← EReal.coe_mul, coe_sum, ← EReal.coe_add, ← EReal.coe_sub, ← EReal.coe_neg]
  rfl

theorem r20 (h : Holds X0 X1 X2 X3 X4 X5 x y P) (i : Fin 4096) (k : Fin 1024) :
    val_main_v20 (F := Ideal) X0 X2 X3 X4 (ix2 i k) = ((ff P (x i) k : ℝ) : EReal) := by
  pointwise [val_main_v20]
  simp only [r19 h, h.a4, ← EReal.coe_mul, coe_sum, ← EReal.coe_add, ← EReal.coe_sub, ← EReal.coe_neg]
  rfl

theorem r27 (h : Holds X0 X1 X2 X3 X4 X5 x y P) (i : Fin 4096) (k : Fin 1) :
    val_main_v27 (F := Ideal) X0 X2 X3 X4 (ix2 i k) = ((ms (ff P (x i)) : ℝ) : EReal) := by
  pointwise [val_main_v27, val_main_v26, val_main_v25, val_main_v24, val_main_v23, val_main_v22, val_main_v21, val_main_cst_3, val_main_cst_4, val_main_cst_5]
  simp only [r20 h, lit_1024, lit_eps, div_fin _ (by norm_num : (1024 : ℝ) ≠ 0), ← EReal.coe_mul, coe_sum, ← EReal.coe_add, ← EReal.coe_sub, ← EReal.coe_neg]
  rfl

theorem r28 (h : Holds X0 X1 X2 X3 X4 X5 x y P) (i : Fin 4096) (k : Fin 1) :
    val_main_v28 (F := Ideal) X0 X2 X3 X4 (ix2 i k) = ((ri (ff P (x i)) : ℝ) : EReal) := by
  pointwise [val_main_v28]
  simp only [r27 h, ← EReal.coe_mul, coe_sum, ← EReal.coe_add, ← EReal.coe_sub, ← EReal.coe_neg]
  exact rsqrt_fin (ms_pos _)

theorem r33 (h : Holds X0 X1 X2 X3 X4 X5 x y P) (i : Fin 4096) (k : Fin 1024) :
    val_main_v33 (F := Ideal) X0 X2 X3 X4 (ix2 i k) = ((ff P (x i) k * ri (ff P (x i)) : ℝ) : EReal) := by
  pointwise [val_main_v33, val_main_v32]
  simp only [r20 h, r28 h, ← EReal.coe_mul, coe_sum, ← EReal.coe_add, ← EReal.coe_sub, ← EReal.coe_neg]

theorem r37 (h : Holds X0 X1 X2 X3 X4 X5 x y P) (i : Fin 4096) (k : Fin 1024) :
    val_main_v37 (F := Ideal) X0 X1 X2 X3 X4 X5 (ix2 i k) = ((err P (x i) (y i) k : ℝ) : EReal) := by
  pointwise [val_main_v37, val_main_v36, val_main_v35, val_main_v34]
  simp only [r33 h, h.a0, h.a1, h.a5, ← EReal.coe_mul, coe_sum, ← EReal.coe_add, ← EReal.coe_sub, ← EReal.coe_neg]
  rfl

theorem r51 (h : Holds X0 X1 X2 X3 X4 X5 x y P) (i : Fin 4096) (k : Fin 1024) :
    val_main_v51 (F := Ideal) X0 X1 X2 X3 X4 X5 (ix2 i k) = ((dy P (x i) (y i) k : ℝ) : EReal) := by
  pointwise [val_main_v51, val_main_v50, val_main_v49, val_main_v48, val_main_v47, val_main_v46, val_main_v40, val_main_v39, val_main_cst_7, val_main_cst_12, val_main_cst_13, val_main_cst_14]
  simp only [r37 h, lit_half, lit_1024, lit_two, one_fin, div_fin _ (by norm_num : (1024 : ℝ) ≠ 0), ← EReal.coe_mul, coe_sum, ← EReal.coe_add, ← EReal.coe_sub, ← EReal.coe_neg]
  unfold dy; congr 1; ring

theorem r56 (h : Holds X0 X1 X2 X3 X4 X5 x y P) (i : Fin 4096) (k : Fin 1024) :
    val_main_v56 (F := Ideal) X0 X1 X2 X3 X4 X5 (ix2 i k) = ((dy P (x i) (y i) k * P.g2 k : ℝ) : EReal) := by
  pointwise [val_main_v56, val_main_v55]
  simp only [r51 h, h.a5, ← EReal.coe_mul, coe_sum, ← EReal.coe_add, ← EReal.coe_sub, ← EReal.coe_neg]

theorem r66 (h : Holds X0 X1 X2 X3 X4 X5 x y P) (i : Fin 4096) (k : Fin 1024) :
    val_main_v66 (F := Ideal) X0 X1 X2 X3 X4 X5 (ix2 i k) = (((∑ c, ff P (x i) c * (dy P (x i) (y i) c * P.g2 c)) * (-(1 / 2) * (ri (ff P (x i)) / ms (ff P (x i)))) / 1024 : ℝ) : EReal) := by
  pointwise [val_main_v66, val_main_v65, val_main_v64, val_main_v63, val_main_v62, val_main_v59, val_main_v58, val_main_v57, val_main_v31, val_main_v30, val_main_v29, val_main_cst_6, val_main_cst_16, val_main_cst_17, val_main_cst_18]
  simp only [r56 h, r20 h, r28 h, r27 h, lit_mhalf, lit_1024, div_fin _ (ms_pos _).ne', div_fin _ (by norm_num : (1024 : ℝ) ≠ 0), Fin.sum_univ_one, ← EReal.coe_mul, coe_sum, ← EReal.coe_add, ← EReal.coe_sub, ← EReal.coe_neg]

theorem r70 (h : Holds X0 X1 X2 X3 X4 X5 x y P) (i : Fin 4096) (k : Fin 1024) :
    val_main_v70 (F := Ideal) X0 X1 X2 X3 X4 X5 (ix2 i k) = ((dff P (x i) (y i) k : ℝ) : EReal) := by
  pointwise [val_main_v70, val_main_v69, val_main_v68, val_main_v67, val_main_v61, val_main_v60]
  simp only [r56 h, r20 h, r28 h, r66 h, ← EReal.coe_mul, coe_sum, ← EReal.coe_add, ← EReal.coe_sub, ← EReal.coe_neg]
  exact congrArg _ (rb_eq (ff P (x i)) P.g2 (dy P (x i) (y i)) k)

theorem r73 (h : Holds X0 X1 X2 X3 X4 X5 x y P) (i : Fin 4096) (k : Fin 2816) :
    val_main_v73 (F := Ideal) X0 X1 X2 X3 X4 X5 (ix2 i k) = ((dact P (x i) (y i) k : ℝ) : EReal) := by
  pointwise [val_main_v73]
  simp only [r70 h, h.a4, ← EReal.coe_mul, coe_sum, ← EReal.coe_add, ← EReal.coe_sub, ← EReal.coe_neg]
  rfl

theorem r77 (h : Holds X0 X1 X2 X3 X4 X5 x y P) (i : Fin 4096) (k : Fin 2816) :
    val_main_v77 (F := Ideal) X0 X1 X2 X3 X4 X5 (ix2 i k) = ((dgg P (x i) (y i) k : ℝ) : EReal) := by
  pointwise [val_main_v77, val_main_call1_v2, val_main_call1_v1, val_main_call1_v0, val_main_v75]
  simp only [r73 h, r18 h, r16 h, r17_2 h, r17_1 h, dgg_eq, ← EReal.coe_mul, coe_sum, ← EReal.coe_add, ← EReal.coe_sub, ← EReal.coe_neg]

theorem r74 (h : Holds X0 X1 X2 X3 X4 X5 x y P) (i : Fin 4096) (k : Fin 2816) :
    val_main_v74 (F := Ideal) X0 X1 X2 X3 X4 X5 (ix2 i k) = ((duu P (x i) (y i) k : ℝ) : EReal) := by
  pointwise [val_main_v74]
  simp only [r73 h, r17_0 h, ← EReal.coe_mul, coe_sum, ← EReal.coe_add, ← EReal.coe_sub, ← EReal.coe_neg]
  exact congrArg _ (mul_comm _ _)

theorem r79 (h : Holds X0 X1 X2 X3 X4 X5 x y P) (i : Fin 4096) (k : Fin 5632) :
    val_main_v79 (F := Ideal) X0 X1 X2 X3 X4 X5 (ix2 i k) = ((dgu P (x i) (y i) k : ℝ) : EReal) := by
  pointwise [val_main_v79, val_main_v78, val_main_v76, val_main_cst_19, val_main_cst_20]
  by_cases hk : k.val < 2816
  · rw [dif_neg (by omega), dif_pos hk, r77 h, zero_add, dgu_lo P (x i) (y i) k ⟨k.val, hk⟩ rfl]
  · rw [dif_pos (by omega), dif_neg hk, r74 h, add_zero, dgu_hi P (x i) (y i) k ⟨k.val - 2816, by omega⟩ (by simp only; omega)]

theorem r82 (h : Holds X0 X1 X2 X3 X4 X5 x y P) (i : Fin 4096) (k : Fin 1024) :
    val_main_v82 (F := Ideal) X0 X1 X2 X3 X4 X5 (ix2 i k) = ((dh2 P (x i) (y i) k : ℝ) : EReal) := by
  pointwise [val_main_v82]
  simp only [r79 h, h.a3, dh2_eq, ← EReal.coe_mul, coe_sum, ← EReal.coe_add, ← EReal.coe_sub, ← EReal.coe_neg]

theorem r87 (h : Holds X0 X1 X2 X3 X4 X5 x y P) (i : Fin 4096) (k : Fin 1024) :
    val_main_v87 (F := Ideal) X0 X1 X2 X3 X4 X5 (ix2 i k) = ((dh2 P (x i) (y i) k * P.g1 k : ℝ) : EReal) := by
  pointwise [val_main_v87, val_main_v86]
  simp only [r82 h, h.a2, ← EReal.coe_mul, coe_sum, ← EReal.coe_add, ← EReal.coe_sub, ← EReal.coe_neg]

theorem r97 (h : Holds X0 X1 X2 X3 X4 X5 x y P) (i : Fin 4096) (k : Fin 1024) :
    val_main_v97 (F := Ideal) X0 X1 X2 X3 X4 X5 (ix2 i k) = (((∑ c, x i c * (dh2 P (x i) (y i) c * P.g1 c)) * (-(1 / 2) * (ri (x i) / ms (x i))) / 1024 : ℝ) : EReal) := by
  pointwise [val_main_v97, val_main_v96, val_main_v95, val_main_v94, val_main_v93, val_main_v90, val_main_v89, val_main_v88, val_main_v10, val_main_v9, val_main_v8, val_main_cst_2, val_main_cst_22, val_main_cst_23, val_main_cst_24]
  simp only [r87 h, h.a0, r7 h, r6 h, lit_mhalf, lit_1024, div_fin _ (ms_pos _).ne', div_fin _ (by norm_num : (1024 : ℝ) ≠ 0), Fin.sum_univ_one, ← EReal.coe_mul, coe_sum, ← EReal.coe_add, ← EReal.coe_sub, ← EReal.coe_neg]

theorem r102 (h : Holds X0 X1 X2 X3 X4 X5 x y P) (i : Fin 4096) (k : Fin 1024) :
    val_main_v102 (F := Ideal) X0 X1 X2 X3 X4 X5 (ix2 i k) = ((dx P (x i) (y i) k : ℝ) : EReal) := by
  pointwise [val_main_v102, val_main_v101, val_main_v100, val_main_v99, val_main_v98, val_main_v92, val_main_v91]
  simp only [r87 h, h.a0, r7 h, r97 h, r51 h, ← EReal.coe_mul, coe_sum, ← EReal.coe_add, ← EReal.coe_sub, ← EReal.coe_neg]
  rw [rb_eq (x i) P.g1 (dh2 P (x i) (y i)) k]; rfl

theorem r103 (h : Holds X0 X1 X2 X3 X4 X5 x y P) (i : Fin 4096) (k : Fin 1024) :
    val_main_v103 (F := Ideal) X0 X2 (ix2 i k) = ((h2 P (x i) k : ℝ) : EReal) := by
  pointwise [val_main_v103]
  exact r14 h i k

theorem r105 (h : Holds X0 X1 X2 X3 X4 X5 x y P) (i : Fin 2816) (k : Fin 4096) :
    val_main_v105 (F := Ideal) X0 X2 X3 (ix2 i k) = ((act P (x k) i : ℝ) : EReal) := by
  pointwise [val_main_v105, val_main_v104]
  exact r19 h k i

theorem r106 (h : Holds X0 X1 X2 X3 X4 X5 x y P) (i : Fin 4096) (k : Fin 1024) :
    val_main_v106 (F := Ideal) X0 X1 X2 X3 X4 X5 (ix2 i k) = ((dff P (x i) (y i) k : ℝ) : EReal) := by
  pointwise [val_main_v106]
  exact r70 h i k

theorem r108 (h : Holds X0 X1 X2 X3 X4 X5 x y P) (i : Fin 5632) (k : Fin 4096) :
    val_main_v108 (F := Ideal) X0 X1 X2 X3 X4 X5 (ix2 i k) = ((dgu P (x k) (y k) i : ℝ) : EReal) := by
  pointwise [val_main_v108, val_main_v107]
  exact r79 h k i

theorem r109 (h : Holds X0 X1 X2 X3 X4 X5 x y P) (i : Fin 1) (k : Fin 128) :
    val_main_v109 (F := Ideal) X0 X1 X2 X3 X4 X5 (ix2 i k) = ((∑ t, loss P (x t) (y t) : ℝ) : EReal) := by
  pointwise [val_main_v109, val_main_v45, val_main_v44, val_main_v43, val_main_v42, val_main_v41, val_main_v38, val_main_cst_8, val_main_cst_9, val_main_cst_10, val_main_cst_11]
  simp only [r37 h, lit_half, lit_1024, div_fin _ (by norm_num : (1024 : ℝ) ≠ 0), ← EReal.coe_mul, coe_sum, ← EReal.coe_add, ← EReal.coe_sub, ← EReal.coe_neg]
  rw [Finset.mul_sum]; refine congrArg _ (Finset.sum_congr rfl fun t _ => ?_); unfold loss; ring

theorem r54 (h : Holds X0 X1 X2 X3 X4 X5 x y P) (i : Fin 1) (k : Fin 1024) :
    val_main_v54 (F := Ideal) X0 X1 X2 X3 X4 X5 (ix2 i k) = ((∑ t, dpost P (x t) (y t) k : ℝ) : EReal) := by
  pointwise [val_main_v54, val_main_v53, val_main_v52, val_main_cst_15]
  simp only [r33 h, r51 h, ← EReal.coe_mul, coe_sum, ← EReal.coe_add, ← EReal.coe_sub, ← EReal.coe_neg]
  refine congrArg _ (Finset.sum_congr rfl fun t _ => ?_); unfold dpost; ring

theorem r85 (h : Holds X0 X1 X2 X3 X4 X5 x y P) (i : Fin 1) (k : Fin 1024) :
    val_main_v85 (F := Ideal) X0 X1 X2 X3 X4 X5 (ix2 i k) = ((∑ t, dpre P (x t) (y t) k : ℝ) : EReal) := by
  pointwise [val_main_v85, val_main_v84, val_main_v83, val_main_cst_21]
  simp only [r12 h, r82 h, ← EReal.coe_mul, coe_sum, ← EReal.coe_add, ← EReal.coe_sub, ← EReal.coe_neg]
  refine congrArg _ (Finset.sum_congr rfl fun t _ => ?_); unfold dpre; ring

end Cert.FfnReferenceIdeal.Value
end
end
-- ==== Proof.Ffn.Main.lean ====
/- The two programs of the feed-forward gradient return equal results on finite arguments. -/
module
public import proofs.«01_k».proof.Proof.Ffn.Pre
public import proofs.«01_k».proof.Proof.Ffn.Kernel2
public import proofs.«01_k».proof.Proof.Ffn.Reference
public import proofs.«01_k».proof.Proof.Gen.FfnKernelIdeal.Value
public import proofs.«01_k».proof.Proof.Gen.FfnReferenceIdeal.Run
public import proofs.«01_k».proof.Defs
@[expose] public section
set_option maxRecDepth 16384
noncomputable section
open Idealize.ShloMosaic Idealize.ShloMosaic.TcCoe Idealize.SL.Sem
namespace Cert.Ffn

/-- A matrix is given by its entries. -/
theorem mat_ext {s : Shape} {a b : ℕ} {φ : FTy} (A B : FVec Ideal (⟨2, ![a, b]⟩ : Shape) φ)
    (h : ∀ i k, A (ix2 i k) = B (ix2 i k)) : A = B :=
  funext fun z => by rw [eq_ix2 z]; exact h _ _

/-- Both programs run to the end, return equal results and leave their arguments unchanged. -/
theorem algebraic : Cert.algebraic_FfnKernelIdeal_FfnReferenceIdeal_pre_finite := by
  intro m g m' g' hp hag
  have key : ∀ c : Dev Cert.FfnKernelIdeal.nD, ∃ (x y : Fin 4096 → Fin 1024 → ℝ) (P : Par), Cert.FfnKernelIdeal.Value.Holds m c x y P := by
    intro c
    obtain ⟨h0, h1, h2, h3, h4, h5⟩ := Cert.Pre_finite.Value.all_real _ _ _ _ _ _ (hp c)
    choose x hx using h0
    choose y hy using h1
    choose g1 hg1 using h2
    choose wi hwi using h3
    choose wd hwd using h4
    choose g2 hg2 using h5
    refine ⟨fun i k => x (ix2 i k), fun i k => y (ix2 i k), ⟨fun k j => wi (ix2 k j), fun j k => wd (ix2 j k),
      fun k => g1 (ix2 0 k), fun k => g2 (ix2 0 k)⟩, fun i k => hx _, fun i k => hy _, fun i k => ?_, fun i k => hwi _, fun i k => hwd _, fun i k => ?_⟩
    · rw [Subsingleton.elim i 0]; exact hg1 _
    · rw [Subsingleton.elim i 0]; exact hg2 _
  choose x y P hK using key
  have hR : ∀ c : Dev Cert.FfnKernelIdeal.nD, Cert.FfnReferenceIdeal.Value.Holds
      (m' ((c.tc : Thread Cert.FfnReferenceIdeal.nD Cert.FfnReferenceIdeal.τ).loc Cert.FfnReferenceIdeal.main_arg0))
      (m' ((c.tc : Thread Cert.FfnReferenceIdeal.nD Cert.FfnReferenceIdeal.τ).loc Cert.FfnReferenceIdeal.main_arg1))
      (m' ((c.tc : Thread Cert.FfnReferenceIdeal.nD Cert.FfnReferenceIdeal.τ).loc Cert.FfnReferenceIdeal.main_arg2))
      (m' ((c.tc : Thread Cert.FfnReferenceIdeal.nD Cert.FfnReferenceIdeal.τ).loc Cert.FfnReferenceIdeal.main_arg3))
      (m' ((c.tc : Thread Cert.FfnReferenceIdeal.nD Cert.FfnReferenceIdeal.τ).loc Cert.FfnReferenceIdeal.main_arg4))
      (m' ((c.tc : Thread Cert.FfnReferenceIdeal.nD Cert.FfnReferenceIdeal.τ).loc Cert.FfnReferenceIdeal.main_arg5))
      (x c) (y c) (P c) := fun c => by
    obtain ⟨e0, e1, e2, e3, e4, e5⟩ := hag c
    have h := hK c
    exact ⟨fun i k => (congrFun e0 _).trans (h.a0 i k), fun i k => (congrFun e1 _).trans (h.a1 i k), fun i k => (congrFun e2 _).trans (h.a2 i k),
      fun i k => (congrFun e3 _).trans (h.a3 i k), fun i k => (congrFun e4 _).trans (h.a4 i k), fun i k => (congrFun e5 _).trans (h.a5 i k)⟩
  refine ⟨_, _, _, _, _, _, _, _, Cert.FfnKernelIdeal.Value.run_blocks m g, ?_⟩
  refine (θ_run _ _ _).mono (fun r h c => ?_) (Cert.FfnReferenceIdeal.Value.run m' g')
  have h := h c
  have E0 := (Cert.FfnReferenceIdeal.Read.val_main_v102_eq (StableHlo.launchContents m' c)).trans ((mat_ext (s := Cert.FfnReferenceIdeal.S_) _ _ (fun i k => Cert.FfnReferenceIdeal.Value.r102 (hR c) i k)).trans (Cert.FfnKernelIdeal.Value.final6 (hK c)).symm)
  have E1 := (Cert.FfnReferenceIdeal.Read.val_main_v103_eq (StableHlo.launchContents m' c)).trans ((mat_ext (s := Cert.FfnReferenceIdeal.S_) _ _ (fun i k => Cert.FfnReferenceIdeal.Value.r103 (hR c) i k)).trans (Cert.FfnKernelIdeal.Value.final7 (hK c)).symm)
  have E2 := (Cert.FfnReferenceIdeal.Read.val_main_v105_eq (StableHlo.launchContents m' c)).trans ((mat_ext (s := Cert.FfnReferenceIdeal.S_) _ _ (fun i k => Cert.FfnReferenceIdeal.Value.r105 (hR c) i k)).trans (Cert.FfnKernelIdeal.Value.final8 (hK c)).symm)
  have E3 := (Cert.FfnReferenceIdeal.Read.val_main_v106_eq (StableHlo.launchContents m' c)).trans ((mat_ext (s := Cert.FfnReferenceIdeal.S_) _ _ (fun i k => Cert.FfnReferenceIdeal.Value.r106 (hR c) i k)).trans (Cert.FfnKernelIdeal.Value.final9 (hK c)).symm)
  have E4 := (Cert.FfnReferenceIdeal.Read.val_main_v108_eq (StableHlo.launchContents m' c)).trans ((mat_ext (s := Cert.FfnReferenceIdeal.S_) _ _ (fun i k => Cert.FfnReferenceIdeal.Value.r108 (hR c) i k)).trans (Cert.FfnKernelIdeal.Value.final10 (hK c)).symm)
  have E5 := (Cert.FfnReferenceIdeal.Read.val_main_v109_eq (StableHlo.launchContents m' c)).trans ((mat_ext (s := Cert.FfnReferenceIdeal.S_) _ _ (fun i k => Cert.FfnReferenceIdeal.Value.r109 (hR c) i k)).trans (Cert.FfnKernelIdeal.Value.final11 (hK c)).symm)
  have E6 := (Cert.FfnReferenceIdeal.Read.val_main_v54_eq (StableHlo.launchContents m' c)).trans ((mat_ext (s := Cert.FfnReferenceIdeal.S_) _ _ (fun i k => Cert.FfnReferenceIdeal.Value.r54 (hR c) i k)).trans (Cert.FfnKernelIdeal.Value.final12 (hK c)).symm)
  have E7 := (Cert.FfnReferenceIdeal.Read.val_main_v85_eq (StableHlo.launchContents m' c)).trans ((mat_ext (s := Cert.FfnReferenceIdeal.S_) _ _ (fun i k => Cert.FfnReferenceIdeal.Value.r85 (hR c) i k)).trans (Cert.FfnKernelIdeal.Value.final13 (hK c)).symm)
  exact ⟨(h.1).trans E0, (h.2.1).trans E1, (h.2.2.1).trans E2, (h.2.2.2.1).trans E3, (h.2.2.2.2.1).trans E4, (h.2.2.2.2.2.1).trans E5, (h.2.2.2.2.2.2.1).trans E6, (h.2.2.2.2.2.2.2.1).trans E7, h.2.2.2.2.2.2.2.2⟩

end Cert.Ffn
end
end
-- ==== Proof.lean ====
/- The certificate's proof: the frames are the generated ones, the value claims are proved in the modules beside this
   file. -/
module

public import proofs.«01_k».proof.Proof.Gen.FfnReferenceIdeal.Read
public import proofs.«01_k».proof.Proof.Gen.FfnReferenceIdeal.Run
public import proofs.«01_k».proof.Proof.Gen.FfnKernelIdeal.Value
public import proofs.«01_k».proof.Defs
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.Pre_finite
public import proofs.«01_k».proof.Proof.Gen.DownKernel.Frame
public import proofs.«01_k».proof.Proof.Dw.Down
public import proofs.«01_k».proof.Proof.Gen.FfnInKernel.Frame
public import proofs.«01_k».proof.Proof.Dw.FfnIn
public import proofs.«01_k».proof.Proof.Gen.OutKernel.Frame
public import proofs.«01_k».proof.Proof.Dw.Out
public import proofs.«01_k».proof.Proof.Gen.InKernel.Frame
public import proofs.«01_k».proof.Proof.Dw.In
public import proofs.«01_k».proof.Proof.Gen.MixKernel.Frame
public import proofs.«01_k».proof.Proof.Gen.MixKernelIdeal.Frame
public import proofs.«01_k».proof.Proof.Gen.MixReferenceIdeal.Read
public import proofs.«01_k».proof.Proof.Gen.MixReferenceIdeal.Run
public import proofs.«01_k».proof.Proof.Gen.MixKernelIdeal.Value
public import proofs.«01_k».proof.Proof.Mix.Main
public import proofs.«01_k».proof.Proof.Gen.TokKernel.Frame
public import proofs.«01_k».proof.Proof.Gen.TokKernelIdeal.Frame
public import proofs.«01_k».proof.Proof.Gen.TokReferenceIdeal.Read
public import proofs.«01_k».proof.Proof.Gen.TokReferenceIdeal.Run
public import proofs.«01_k».proof.Proof.Gen.TokKernelIdeal.Value
public import proofs.«01_k».proof.Proof.Gen.Pre_tokens_finite
public import proofs.«01_k».proof.Proof.Tok.Main
public import Idealize.ShloMosaic.Adequacy
public import Idealize.ShloMosaic.Init
public import Idealize.ShloMosaic.Lib.StableHlo.Run
public import proofs.«01_k».proof.Proof.Ffn.Main

@[expose] public section

noncomputable section

namespace Cert.Proof

open Idealize.ShloMosaic Idealize.SL.Sem Cert.FfnKernel

/-- The reference of the feed-forward gradient keeps its arguments and ends with every counter at zero. -/
theorem frame_ffn_ref : Cert.quiescent_FfnReferenceIdeal := by
  exact fun m ρ _ => (θ_run Cert.FfnReferenceIdeal.defs _ _).mono
    (fun r h => ⟨fun c => (h c).2.2.2.2.2.2.2.2, sem_eq_zero_of_no_sems (by decide) r.2⟩)
    (Cert.FfnReferenceIdeal.Value.run (F := Ideal) m ρ)

/-- Every claim of the certificate. -/
theorem claim : Cert.Claim := ⟨Cert.FfnKernel.Gen.facts, Cert.FfnKernelIdeal.Gen.facts, Cert.FfnReferenceIdeal.Gen.facts,
  Cert.DownKernel.Gen.facts, Cert.DownKernelIdeal.Gen.facts, Cert.DownReferenceIdeal.Gen.facts, Cert.FfnInKernel.Gen.facts, Cert.FfnInKernelIdeal.Gen.facts, Cert.FfnInReferenceIdeal.Gen.facts, Cert.OutKernel.Gen.facts, Cert.OutKernelIdeal.Gen.facts, Cert.OutReferenceIdeal.Gen.facts, Cert.InKernel.Gen.facts, Cert.InKernelIdeal.Gen.facts, Cert.InReferenceIdeal.Gen.facts,
  Cert.MixKernel.Gen.facts, Cert.MixKernelIdeal.Gen.facts, Cert.MixReferenceIdeal.Gen.facts,
  Cert.TokKernel.Gen.facts, Cert.TokKernelIdeal.Gen.facts, Cert.TokReferenceIdeal.Gen.facts,
  Cert.Pre_finite.Gen.facts, Cert.Pre_tokens_finite.Gen.facts,
  fun m ρ _ => Cert.FfnKernel.Gen.frame m ρ, fun m ρ _ => Cert.FfnKernelIdeal.Gen.frame m ρ, fun m ρ _ => Cert.FfnKernelIdeal.Gen.frame m ρ,
  frame_ffn_ref, fun m ρ _ => frame_ffn_ref m ρ trivial,
  fun m ρ _ => Cert.DownKernel.Gen.frame m ρ, fun m ρ _ => Cert.DownKernelIdeal.Gen.frame m ρ, Cert.DownReferenceIdeal.Value.frame,
  fun m ρ _ => Cert.FfnInKernel.Gen.frame m ρ, fun m ρ _ => Cert.FfnInKernelIdeal.Gen.frame m ρ, Cert.FfnInReferenceIdeal.Value.frame,
  fun m ρ _ => Cert.OutKernel.Gen.frame m ρ, fun m ρ _ => Cert.OutKernelIdeal.Gen.frame m ρ, Cert.OutReferenceIdeal.Value.frame,
  fun m ρ _ => Cert.InKernel.Gen.frame m ρ, fun m ρ _ => Cert.InKernelIdeal.Gen.frame m ρ, Cert.InReferenceIdeal.Value.frame,
  fun m ρ _ => Cert.MixKernel.Gen.frame m ρ, fun m ρ _ => Cert.MixKernelIdeal.Gen.frame m ρ, Cert.Mix.frame,
  fun m ρ _ => Cert.TokKernel.Gen.frame m ρ, fun m ρ _ => Cert.TokKernelIdeal.Gen.frame m ρ, fun m ρ _ => Cert.TokKernelIdeal.Gen.frame m ρ,
  Cert.Tok.frame, fun m ρ _ => Cert.Tok.frame m ρ trivial,
  trivial, Cert.Ffn.algebraic, trivial, Cert.DownReferenceIdeal.Value.algebraic, trivial, Cert.FfnInReferenceIdeal.Value.algebraic, trivial, Cert.OutReferenceIdeal.Value.algebraic, trivial, Cert.InReferenceIdeal.Value.algebraic, trivial, Cert.Mix.algebraic, trivial, Cert.Tok.algebraic⟩

end Cert.Proof

end
